-- ==== Defs.lean ====
def Pre_Kv (m : (ℓ : Loc Cert.Kv.nD Cert.Kv.τ Cert.Kv.sig) → Buf (Elt Bits) ℓ) : Prop :=
  True

def Pre_KvIdeal (m : (ℓ : Loc Cert.KvIdeal.nD Cert.KvIdeal.τ Cert.KvIdeal.sig) → Buf (Elt Ideal) ℓ) : Prop :=
  True

def Pre_KvRefIdeal (m : (ℓ : Loc Cert.KvRefIdeal.nD Cert.KvRefIdeal.τ Cert.KvRefIdeal.sig) → Buf (Elt Ideal) ℓ) : Prop :=
  True

def Pre_Ex [hPre_tables : Cert.Pre_tables.Facts] (m : (ℓ : Loc Cert.Ex.nD Cert.Ex.τ Cert.Ex.sig) → Buf (Elt Bits) ℓ) : Prop :=
  ∀ c : Dev Cert.Ex.nD,
    (Cert.Pre_tables.fn (F := Bits) (m ((c.tc : Thread Cert.Ex.nD Cert.Ex.τ).loc Cert.Ex.main_arg0)) (m ((c.tc : Thread Cert.Ex.nD Cert.Ex.τ).loc Cert.Ex.main_arg1)) (m ((c.tc : Thread Cert.Ex.nD Cert.Ex.τ).loc Cert.Ex.main_arg2)) (m ((c.tc : Thread Cert.Ex.nD Cert.Ex.τ).loc Cert.Ex.main_arg3)) (m ((c.tc : Thread Cert.Ex.nD Cert.Ex.τ).loc Cert.Ex.main_arg4)) (m ((c.tc : Thread Cert.Ex.nD Cert.Ex.τ).loc Cert.Ex.main_arg5)) (m ((c.tc : Thread Cert.Ex.nD Cert.Ex.τ).loc Cert.Ex.main_arg6))).1 = (fun _ => 1#1)
    ∧ (Cert.Pre_tables.fn (F := Bits) (m ((c.tc : Thread Cert.Ex.nD Cert.Ex.τ).loc Cert.Ex.main_arg0)) (m ((c.tc : Thread Cert.Ex.nD Cert.Ex.τ).loc Cert.Ex.main_arg1)) (m ((c.tc : Thread Cert.Ex.nD Cert.Ex.τ).loc Cert.Ex.main_arg2)) (m ((c.tc : Thread Cert.Ex.nD Cert.Ex.τ).loc Cert.Ex.main_arg3)) (m ((c.tc : Thread Cert.Ex.nD Cert.Ex.τ).loc Cert.Ex.main_arg4)) (m ((c.tc : Thread Cert.Ex.nD Cert.Ex.τ).loc Cert.Ex.main_arg5)) (m ((c.tc : Thread Cert.Ex.nD Cert.Ex.τ).loc Cert.Ex.main_arg6))).2 = (fun _ => 1#1)

def Pre_ExIdeal [hPre_tables : Cert.Pre_tables.Facts] (m : (ℓ : Loc Cert.ExIdeal.nD Cert.ExIdeal.τ Cert.ExIdeal.sig) → Buf (Elt Ideal) ℓ) : Prop :=
  ∀ c : Dev Cert.ExIdeal.nD,
    (Cert.Pre_tables.fn (F := Ideal) (m ((c.tc : Thread Cert.ExIdeal.nD Cert.ExIdeal.τ).loc Cert.ExIdeal.main_arg0)) (m ((c.tc : Thread Cert.ExIdeal.nD Cert.ExIdeal.τ).loc Cert.ExIdeal.main_arg1)) (m ((c.tc : Thread Cert.ExIdeal.nD Cert.ExIdeal.τ).loc Cert.ExIdeal.main_arg2)) (m ((c.tc : Thread Cert.ExIdeal.nD Cert.ExIdeal.τ).loc Cert.ExIdeal.main_arg3)) (m ((c.tc : Thread Cert.ExIdeal.nD Cert.ExIdeal.τ).loc Cert.ExIdeal.main_arg4)) (m ((c.tc : Thread Cert.ExIdeal.nD Cert.ExIdeal.τ).loc Cert.ExIdeal.main_arg5)) (m ((c.tc : Thread Cert.ExIdeal.nD Cert.ExIdeal.τ).loc Cert.ExIdeal.main_arg6))).1 = (fun _ => 1#1)
    ∧ (Cert.Pre_tables.fn (F := Ideal) (m ((c.tc : Thread Cert.ExIdeal.nD Cert.ExIdeal.τ).loc Cert.ExIdeal.main_arg0)) (m ((c.tc : Thread Cert.ExIdeal.nD Cert.ExIdeal.τ).loc Cert.ExIdeal.main_arg1)) (m ((c.tc : Thread Cert.ExIdeal.nD Cert.ExIdeal.τ).loc Cert.ExIdeal.main_arg2)) (m ((c.tc : Thread Cert.ExIdeal.nD Cert.ExIdeal.τ).loc Cert.ExIdeal.main_arg3)) (m ((c.tc : Thread Cert.ExIdeal.nD Cert.ExIdeal.τ).loc Cert.ExIdeal.main_arg4)) (m ((c.tc : Thread Cert.ExIdeal.nD Cert.ExIdeal.τ).loc Cert.ExIdeal.main_arg5)) (m ((c.tc : Thread Cert.ExIdeal.nD Cert.ExIdeal.τ).loc Cert.ExIdeal.main_arg6))).2 = (fun _ => 1#1)

def Pre_ExRefIdeal (m : (ℓ : Loc Cert.ExRefIdeal.nD Cert.ExRefIdeal.τ Cert.ExRefIdeal.sig) → Buf (Elt Ideal) ℓ) : Prop :=
  True

def Pre_ExRefIdeal_tables [hPre_tables : Cert.Pre_tables.Facts] (m : (ℓ : Loc Cert.ExRefIdeal.nD Cert.ExRefIdeal.τ Cert.ExRefIdeal.sig) → Buf (Elt Ideal) ℓ) : Prop :=
  ∀ c : Dev Cert.ExRefIdeal.nD,
    (Cert.Pre_tables.fn (F := Ideal) (m ((c.tc : Thread Cert.ExRefIdeal.nD Cert.ExRefIdeal.τ).loc Cert.ExRefIdeal.main_arg0)) (m ((c.tc : Thread Cert.ExRefIdeal.nD Cert.ExRefIdeal.τ).loc Cert.ExRefIdeal.main_arg1)) (m ((c.tc : Thread Cert.ExRefIdeal.nD Cert.ExRefIdeal.τ).loc Cert.ExRefIdeal.main_arg2)) (m ((c.tc : Thread Cert.ExRefIdeal.nD Cert.ExRefIdeal.τ).loc Cert.ExRefIdeal.main_arg3)) (m ((c.tc : Thread Cert.ExRefIdeal.nD Cert.ExRefIdeal.τ).loc Cert.ExRefIdeal.main_arg4)) (m ((c.tc : Thread Cert.ExRefIdeal.nD Cert.ExRefIdeal.τ).loc Cert.ExRefIdeal.main_arg5)) (m ((c.tc : Thread Cert.ExRefIdeal.nD Cert.ExRefIdeal.τ).loc Cert.ExRefIdeal.main_arg6))).1 = (fun _ => 1#1)
    ∧ (Cert.Pre_tables.fn (F := Ideal) (m ((c.tc : Thread Cert.ExRefIdeal.nD Cert.ExRefIdeal.τ).loc Cert.ExRefIdeal.main_arg0)) (m ((c.tc : Thread Cert.ExRefIdeal.nD Cert.ExRefIdeal.τ).loc Cert.ExRefIdeal.main_arg1)) (m ((c.tc : Thread Cert.ExRefIdeal.nD Cert.ExRefIdeal.τ).loc Cert.ExRefIdeal.main_arg2)) (m ((c.tc : Thread Cert.ExRefIdeal.nD Cert.ExRefIdeal.τ).loc Cert.ExRefIdeal.main_arg3)) (m ((c.tc : Thread Cert.ExRefIdeal.nD Cert.ExRefIdeal.τ).loc Cert.ExRefIdeal.main_arg4)) (m ((c.tc : Thread Cert.ExRefIdeal.nD Cert.ExRefIdeal.τ).loc Cert.ExRefIdeal.main_arg5)) (m ((c.tc : Thread Cert.ExRefIdeal.nD Cert.ExRefIdeal.τ).loc Cert.ExRefIdeal.main_arg6))).2 = (fun _ => 1#1)

def Pre_Att (m : (ℓ : Loc Cert.Att.nD Cert.Att.τ Cert.Att.sig) → Buf (Elt Bits) ℓ) : Prop :=
  True

def Pre_AttIdeal (m : (ℓ : Loc Cert.AttIdeal.nD Cert.AttIdeal.τ Cert.AttIdeal.sig) → Buf (Elt Ideal) ℓ) : Prop :=
  True

def Pre_AttIdeal_finite [hPre_finite : Cert.Pre_finite.Facts] (m : (ℓ : Loc Cert.AttIdeal.nD Cert.AttIdeal.τ Cert.AttIdeal.sig) → Buf (Elt Ideal) ℓ) : Prop :=
  ∀ c : Dev Cert.AttIdeal.nD,
    (Cert.Pre_finite.fn (F := Ideal) (m ((c.tc : Thread Cert.AttIdeal.nD Cert.AttIdeal.τ).loc Cert.AttIdeal.main_arg0)) (m ((c.tc : Thread Cert.AttIdeal.nD Cert.AttIdeal.τ).loc Cert.AttIdeal.main_arg1)) (m ((c.tc : Thread Cert.AttIdeal.nD Cert.AttIdeal.τ).loc Cert.AttIdeal.main_arg2)) (m ((c.tc : Thread Cert.AttIdeal.nD Cert.AttIdeal.τ).loc Cert.AttIdeal.main_arg3)) (m ((c.tc : Thread Cert.AttIdeal.nD Cert.AttIdeal.τ).loc Cert.AttIdeal.main_arg4)) (m ((c.tc : Thread Cert.AttIdeal.nD Cert.AttIdeal.τ).loc Cert.AttIdeal.main_arg5)) (m ((c.tc : Thread Cert.AttIdeal.nD Cert.AttIdeal.τ).loc Cert.AttIdeal.main_arg6))) = (fun _ => 1#1)

def Pre_AttRefIdeal (m : (ℓ : Loc Cert.AttRefIdeal.nD Cert.AttRefIdeal.τ Cert.AttRefIdeal.sig) → Buf (Elt Ideal) ℓ) : Prop :=
  True

def Pre_AttRefIdeal_finite [hPre_finite : Cert.Pre_finite.Facts] (m : (ℓ : Loc Cert.AttRefIdeal.nD Cert.AttRefIdeal.τ Cert.AttRefIdeal.sig) → Buf (Elt Ideal) ℓ) : Prop :=
  ∀ c : Dev Cert.AttRefIdeal.nD,
    (Cert.Pre_finite.fn (F := Ideal) (m ((c.tc : Thread Cert.AttRefIdeal.nD Cert.AttRefIdeal.τ).loc Cert.AttRefIdeal.main_arg0)) (m ((c.tc : Thread Cert.AttRefIdeal.nD Cert.AttRefIdeal.τ).loc Cert.AttRefIdeal.main_arg1)) (m ((c.tc : Thread Cert.AttRefIdeal.nD Cert.AttRefIdeal.τ).loc Cert.AttRefIdeal.main_arg2)) (m ((c.tc : Thread Cert.AttRefIdeal.nD Cert.AttRefIdeal.τ).loc Cert.AttRefIdeal.main_arg3)) (m ((c.tc : Thread Cert.AttRefIdeal.nD Cert.AttRefIdeal.τ).loc Cert.AttRefIdeal.main_arg4)) (m ((c.tc : Thread Cert.AttRefIdeal.nD Cert.AttRefIdeal.τ).loc Cert.AttRefIdeal.main_arg5)) (m ((c.tc : Thread Cert.AttRefIdeal.nD Cert.AttRefIdeal.τ).loc Cert.AttRefIdeal.main_arg6))) = (fun _ => 1#1)

def Pre_Gla (m : (ℓ : Loc Cert.Gla.nD Cert.Gla.τ Cert.Gla.sig) → Buf (Elt Bits) ℓ) : Prop :=
  True

def Pre_GlaIdeal (m : (ℓ : Loc Cert.GlaIdeal.nD Cert.GlaIdeal.τ Cert.GlaIdeal.sig) → Buf (Elt Ideal) ℓ) : Prop :=
  True

def Pre_GlaRefIdeal (m : (ℓ : Loc Cert.GlaRefIdeal.nD Cert.GlaRefIdeal.τ Cert.GlaRefIdeal.sig) → Buf (Elt Ideal) ℓ) : Prop :=
  True

def Pre_Swa (m : (ℓ : Loc Cert.Swa.nD Cert.Swa.τ Cert.Swa.sig) → Buf (Elt Bits) ℓ) : Prop :=
  True

def Pre_SwaIdeal (m : (ℓ : Loc Cert.SwaIdeal.nD Cert.SwaIdeal.τ Cert.SwaIdeal.sig) → Buf (Elt Ideal) ℓ) : Prop :=
  True

def Pre_SwaIdeal_finite_window [hPre_finite_window : Cert.Pre_finite_window.Facts] (m : (ℓ : Loc Cert.SwaIdeal.nD Cert.SwaIdeal.τ Cert.SwaIdeal.sig) → Buf (Elt Ideal) ℓ) : Prop :=
  ∀ c : Dev Cert.SwaIdeal.nD,
    (Cert.Pre_finite_window.fn (F := Ideal) (m ((c.tc : Thread Cert.SwaIdeal.nD Cert.SwaIdeal.τ).loc Cert.SwaIdeal.main_arg0)) (m ((c.tc : Thread Cert.SwaIdeal.nD Cert.SwaIdeal.τ).loc Cert.SwaIdeal.main_arg1)) (m ((c.tc : Thread Cert.SwaIdeal.nD Cert.SwaIdeal.τ).loc Cert.SwaIdeal.main_arg2)) (m ((c.tc : Thread Cert.SwaIdeal.nD Cert.SwaIdeal.τ).loc Cert.SwaIdeal.main_arg3)) (m ((c.tc : Thread Cert.SwaIdeal.nD Cert.SwaIdeal.τ).loc Cert.SwaIdeal.main_arg4)) (m ((c.tc : Thread Cert.SwaIdeal.nD Cert.SwaIdeal.τ).loc Cert.SwaIdeal.main_arg5)) (m ((c.tc : Thread Cert.SwaIdeal.nD Cert.SwaIdeal.τ).loc Cert.SwaIdeal.main_arg6)) (m ((c.tc : Thread Cert.SwaIdeal.nD Cert.SwaIdeal.τ).loc Cert.SwaIdeal.main_arg7))) = (fun _ => 1#1)

def Pre_SwaRefIdeal (m : (ℓ : Loc Cert.SwaRefIdeal.nD Cert.SwaRefIdeal.τ Cert.SwaRefIdeal.sig) → Buf (Elt Ideal) ℓ) : Prop :=
  True

def Pre_SwaRefIdeal_finite_window [hPre_finite_window : Cert.Pre_finite_window.Facts] (m : (ℓ : Loc Cert.SwaRefIdeal.nD Cert.SwaRefIdeal.τ Cert.SwaRefIdeal.sig) → Buf (Elt Ideal) ℓ) : Prop :=
  ∀ c : Dev Cert.SwaRefIdeal.nD,
    (Cert.Pre_finite_window.fn (F := Ideal) (m ((c.tc : Thread Cert.SwaRefIdeal.nD Cert.SwaRefIdeal.τ).loc Cert.SwaRefIdeal.main_arg0)) (m ((c.tc : Thread Cert.SwaRefIdeal.nD Cert.SwaRefIdeal.τ).loc Cert.SwaRefIdeal.main_arg1)) (m ((c.tc : Thread Cert.SwaRefIdeal.nD Cert.SwaRefIdeal.τ).loc Cert.SwaRefIdeal.main_arg2)) (m ((c.tc : Thread Cert.SwaRefIdeal.nD Cert.SwaRefIdeal.τ).loc Cert.SwaRefIdeal.main_arg3)) (m ((c.tc : Thread Cert.SwaRefIdeal.nD Cert.SwaRefIdeal.τ).loc Cert.SwaRefIdeal.main_arg4)) (m ((c.tc : Thread Cert.SwaRefIdeal.nD Cert.SwaRefIdeal.τ).loc Cert.SwaRefIdeal.main_arg5)) (m ((c.tc : Thread Cert.SwaRefIdeal.nD Cert.SwaRefIdeal.τ).loc Cert.SwaRefIdeal.main_arg6)) (m ((c.tc : Thread Cert.SwaRefIdeal.nD Cert.SwaRefIdeal.τ).loc Cert.SwaRefIdeal.main_arg7))) = (fun _ => 1#1)

def quiescent_Kv [hKv : Cert.Kv.Facts] : Prop :=
  ∀ (m : (ℓ : Loc Cert.Kv.nD Cert.Kv.τ Cert.Kv.sig) → Buf (Elt Bits) ℓ) (g : Dev Cert.Kv.nD → PrngReg), Pre_Kv m →
    θ_run (Cert.Kv.defs (F := Bits)) (onTc (τ := Cert.Kv.τ) (Cert.Kv.main (F := Bits))) ⟨m, fun _ => 0, g⟩ (fun r => (∀ c : Dev Cert.Kv.nD,
      r.2.mem ((c.tc : Thread Cert.Kv.nD Cert.Kv.τ).loc Cert.Kv.main_arg0) = m ((c.tc : Thread Cert.Kv.nD Cert.Kv.τ).loc Cert.Kv.main_arg0)
      ∧ r.2.mem ((c.tc : Thread Cert.Kv.nD Cert.Kv.τ).loc Cert.Kv.main_arg1) = m ((c.tc : Thread Cert.Kv.nD Cert.Kv.τ).loc Cert.Kv.main_arg1))
      ∧ r.2.sem = fun _ => 0)

def quiescent_KvIdeal [hKvIdeal : Cert.KvIdeal.Facts] : Prop :=
  ∀ (m : (ℓ : Loc Cert.KvIdeal.nD Cert.KvIdeal.τ Cert.KvIdeal.sig) → Buf (Elt Ideal) ℓ) (g : Dev Cert.KvIdeal.nD → PrngReg), Pre_KvIdeal m →
    θ_run (Cert.KvIdeal.defs (F := Ideal)) (onTc (τ := Cert.KvIdeal.τ) (Cert.KvIdeal.main (F := Ideal))) ⟨m, fun _ => 0, g⟩ (fun r => (∀ c : Dev Cert.KvIdeal.nD,
      r.2.mem ((c.tc : Thread Cert.KvIdeal.nD Cert.KvIdeal.τ).loc Cert.KvIdeal.main_arg0) = m ((c.tc : Thread Cert.KvIdeal.nD Cert.KvIdeal.τ).loc Cert.KvIdeal.main_arg0)
      ∧ r.2.mem ((c.tc : Thread Cert.KvIdeal.nD Cert.KvIdeal.τ).loc Cert.KvIdeal.main_arg1) = m ((c.tc : Thread Cert.KvIdeal.nD Cert.KvIdeal.τ).loc Cert.KvIdeal.main_arg1))
      ∧ r.2.sem = fun _ => 0)

def quiescent_KvRefIdeal [hKvRefIdeal : Cert.KvRefIdeal.Facts] : Prop :=
  ∀ (m : (ℓ : Loc Cert.KvRefIdeal.nD Cert.KvRefIdeal.τ Cert.KvRefIdeal.sig) → Buf (Elt Ideal) ℓ) (g : Dev Cert.KvRefIdeal.nD → PrngReg), Pre_KvRefIdeal m →
    θ_run (Cert.KvRefIdeal.defs (F := Ideal)) (onTc (τ := Cert.KvRefIdeal.τ) (Cert.KvRefIdeal.main (F := Ideal))) ⟨m, fun _ => 0, g⟩ (fun r => (∀ c : Dev Cert.KvRefIdeal.nD,
      r.2.mem ((c.tc : Thread Cert.KvRefIdeal.nD Cert.KvRefIdeal.τ).loc Cert.KvRefIdeal.main_arg0) = m ((c.tc : Thread Cert.KvRefIdeal.nD Cert.KvRefIdeal.τ).loc Cert.KvRefIdeal.main_arg0)
      ∧ r.2.mem ((c.tc : Thread Cert.KvRefIdeal.nD Cert.KvRefIdeal.τ).loc Cert.KvRefIdeal.main_arg1) = m ((c.tc : Thread Cert.KvRefIdeal.nD Cert.KvRefIdeal.τ).loc Cert.KvRefIdeal.main_arg1))
      ∧ r.2.sem = fun _ => 0)

def quiescent_Ex [hEx : Cert.Ex.Facts] [hPre_tables : Cert.Pre_tables.Facts] : Prop :=
  ∀ (m : (ℓ : Loc Cert.Ex.nD Cert.Ex.τ Cert.Ex.sig) → Buf (Elt Bits) ℓ) (g : Dev Cert.Ex.nD → PrngReg), Pre_Ex m →
    θ_run (Cert.Ex.defs (F := Bits)) (onTc (τ := Cert.Ex.τ) (Cert.Ex.main (F := Bits))) ⟨m, fun _ => 0, g⟩ (fun r => (∀ c : Dev Cert.Ex.nD,
      r.2.mem ((c.tc : Thread Cert.Ex.nD Cert.Ex.τ).loc Cert.Ex.main_arg0) = m ((c.tc : Thread Cert.Ex.nD Cert.Ex.τ).loc Cert.Ex.main_arg0)
      ∧ r.2.mem ((c.tc : Thread Cert.Ex.nD Cert.Ex.τ).loc Cert.Ex.main_arg1) = m ((c.tc : Thread Cert.Ex.nD Cert.Ex.τ).loc Cert.Ex.main_arg1)
      ∧ r.2.mem ((c.tc : Thread Cert.Ex.nD Cert.Ex.τ).loc Cert.Ex.main_arg2) = m ((c.tc : Thread Cert.Ex.nD Cert.Ex.τ).loc Cert.Ex.main_arg2)
      ∧ r.2.mem ((c.tc : Thread Cert.Ex.nD Cert.Ex.τ).loc Cert.Ex.main_arg3) = m ((c.tc : Thread Cert.Ex.nD Cert.Ex.τ).loc Cert.Ex.main_arg3)
      ∧ r.2.mem ((c.tc : Thread Cert.Ex.nD Cert.Ex.τ).loc Cert.Ex.main_arg4) = m ((c.tc : Thread Cert.Ex.nD Cert.Ex.τ).loc Cert.Ex.main_arg4)
      ∧ r.2.mem ((c.tc : Thread Cert.Ex.nD Cert.Ex.τ).loc Cert.Ex.main_arg5) = m ((c.tc : Thread Cert.Ex.nD Cert.Ex.τ).loc Cert.Ex.main_arg5)
      ∧ r.2.mem ((c.tc : Thread Cert.Ex.nD Cert.Ex.τ).loc Cert.Ex.main_arg6) = m ((c.tc : Thread Cert.Ex.nD Cert.Ex.τ).loc Cert.Ex.main_arg6))
      ∧ r.2.sem = fun _ => 0)

def quiescent_ExIdeal [hExIdeal : Cert.ExIdeal.Facts] [hPre_tables : Cert.Pre_tables.Facts] : Prop :=
  ∀ (m : (ℓ : Loc Cert.ExIdeal.nD Cert.ExIdeal.τ Cert.ExIdeal.sig) → Buf (Elt Ideal) ℓ) (g : Dev Cert.ExIdeal.nD → PrngReg), Pre_ExIdeal m →
    θ_run (Cert.ExIdeal.defs (F := Ideal)) (onTc (τ := Cert.ExIdeal.τ) (Cert.ExIdeal.main (F := Ideal))) ⟨m, fun _ => 0, g⟩ (fun r => (∀ c : Dev Cert.ExIdeal.nD,
      r.2.mem ((c.tc : Thread Cert.ExIdeal.nD Cert.ExIdeal.τ).loc Cert.ExIdeal.main_arg0) = m ((c.tc : Thread Cert.ExIdeal.nD Cert.ExIdeal.τ).loc Cert.ExIdeal.main_arg0)
      ∧ r.2.mem ((c.tc : Thread Cert.ExIdeal.nD Cert.ExIdeal.τ).loc Cert.ExIdeal.main_arg1) = m ((c.tc : Thread Cert.ExIdeal.nD Cert.ExIdeal.τ).loc Cert.ExIdeal.main_arg1)
      ∧ r.2.mem ((c.tc : Thread Cert.ExIdeal.nD Cert.ExIdeal.τ).loc Cert.ExIdeal.main_arg2) = m ((c.tc : Thread Cert.ExIdeal.nD Cert.ExIdeal.τ).loc Cert.ExIdeal.main_arg2)
      ∧ r.2.mem ((c.tc : Thread Cert.ExIdeal.nD Cert.ExIdeal.τ).loc Cert.ExIdeal.main_arg3) = m ((c.tc : Thread Cert.ExIdeal.nD Cert.ExIdeal.τ).loc Cert.ExIdeal.main_arg3)
      ∧ r.2.mem ((c.tc : Thread Cert.ExIdeal.nD Cert.ExIdeal.τ).loc Cert.ExIdeal.main_arg4) = m ((c.tc : Thread Cert.ExIdeal.nD Cert.ExIdeal.τ).loc Cert.ExIdeal.main_arg4)
      ∧ r.2.mem ((c.tc : Thread Cert.ExIdeal.nD Cert.ExIdeal.τ).loc Cert.ExIdeal.main_arg5) = m ((c.tc : Thread Cert.ExIdeal.nD Cert.ExIdeal.τ).loc Cert.ExIdeal.main_arg5)
      ∧ r.2.mem ((c.tc : Thread Cert.ExIdeal.nD Cert.ExIdeal.τ).loc Cert.ExIdeal.main_arg6) = m ((c.tc : Thread Cert.ExIdeal.nD Cert.ExIdeal.τ).loc Cert.ExIdeal.main_arg6))
      ∧ r.2.sem = fun _ => 0)

def quiescent_ExRefIdeal [hExRefIdeal : Cert.ExRefIdeal.Facts] : Prop :=
  ∀ (m : (ℓ : Loc Cert.ExRefIdeal.nD Cert.ExRefIdeal.τ Cert.ExRefIdeal.sig) → Buf (Elt Ideal) ℓ) (g : Dev Cert.ExRefIdeal.nD → PrngReg), Pre_ExRefIdeal m →
    θ_run (Cert.ExRefIdeal.defs (F := Ideal)) (onTc (τ := Cert.ExRefIdeal.τ) (Cert.ExRefIdeal.main (F := Ideal))) ⟨m, fun _ => 0, g⟩ (fun r => (∀ c : Dev Cert.ExRefIdeal.nD,
      r.2.mem ((c.tc : Thread Cert.ExRefIdeal.nD Cert.ExRefIdeal.τ).loc Cert.ExRefIdeal.main_arg0) = m ((c.tc : Thread Cert.ExRefIdeal.nD Cert.ExRefIdeal.τ).loc Cert.ExRefIdeal.main_arg0)
      ∧ r.2.mem ((c.tc : Thread Cert.ExRefIdeal.nD Cert.ExRefIdeal.τ).loc Cert.ExRefIdeal.main_arg1) = m ((c.tc : Thread Cert.ExRefIdeal.nD Cert.ExRefIdeal.τ).loc Cert.ExRefIdeal.main_arg1)
      ∧ r.2.mem ((c.tc : Thread Cert.ExRefIdeal.nD Cert.ExRefIdeal.τ).loc Cert.ExRefIdeal.main_arg2) = m ((c.tc : Thread Cert.ExRefIdeal.nD Cert.ExRefIdeal.τ).loc Cert.ExRefIdeal.main_arg2)
      ∧ r.2.mem ((c.tc : Thread Cert.ExRefIdeal.nD Cert.ExRefIdeal.τ).loc Cert.ExRefIdeal.main_arg3) = m ((c.tc : Thread Cert.ExRefIdeal.nD Cert.ExRefIdeal.τ).loc Cert.ExRefIdeal.main_arg3)
      ∧ r.2.mem ((c.tc : Thread Cert.ExRefIdeal.nD Cert.ExRefIdeal.τ).loc Cert.ExRefIdeal.main_arg4) = m ((c.tc : Thread Cert.ExRefIdeal.nD Cert.ExRefIdeal.τ).loc Cert.ExRefIdeal.main_arg4)
      ∧ r.2.mem ((c.tc : Thread Cert.ExRefIdeal.nD Cert.ExRefIdeal.τ).loc Cert.ExRefIdeal.main_arg5) = m ((c.tc : Thread Cert.ExRefIdeal.nD Cert.ExRefIdeal.τ).loc Cert.ExRefIdeal.main_arg5)
      ∧ r.2.mem ((c.tc : Thread Cert.ExRefIdeal.nD Cert.ExRefIdeal.τ).loc Cert.ExRefIdeal.main_arg6) = m ((c.tc : Thread Cert.ExRefIdeal.nD Cert.ExRefIdeal.τ).loc Cert.ExRefIdeal.main_arg6))
      ∧ r.2.sem = fun _ => 0)

def quiescent_ExRefIdeal_pre_tables [hExRefIdeal : Cert.ExRefIdeal.Facts] [hPre_tables : Cert.Pre_tables.Facts] : Prop :=
  ∀ (m : (ℓ : Loc Cert.ExRefIdeal.nD Cert.ExRefIdeal.τ Cert.ExRefIdeal.sig) → Buf (Elt Ideal) ℓ) (g : Dev Cert.ExRefIdeal.nD → PrngReg), Pre_ExRefIdeal_tables m →
    θ_run (Cert.ExRefIdeal.defs (F := Ideal)) (onTc (τ := Cert.ExRefIdeal.τ) (Cert.ExRefIdeal.main (F := Ideal))) ⟨m, fun _ => 0, g⟩ (fun r => (∀ c : Dev Cert.ExRefIdeal.nD,
      r.2.mem ((c.tc : Thread Cert.ExRefIdeal.nD Cert.ExRefIdeal.τ).loc Cert.ExRefIdeal.main_arg0) = m ((c.tc : Thread Cert.ExRefIdeal.nD Cert.ExRefIdeal.τ).loc Cert.ExRefIdeal.main_arg0)
      ∧ r.2.mem ((c.tc : Thread Cert.ExRefIdeal.nD Cert.ExRefIdeal.τ).loc Cert.ExRefIdeal.main_arg1) = m ((c.tc : Thread Cert.ExRefIdeal.nD Cert.ExRefIdeal.τ).loc Cert.ExRefIdeal.main_arg1)
      ∧ r.2.mem ((c.tc : Thread Cert.ExRefIdeal.nD Cert.ExRefIdeal.τ).loc Cert.ExRefIdeal.main_arg2) = m ((c.tc : Thread Cert.ExRefIdeal.nD Cert.ExRefIdeal.τ).loc Cert.ExRefIdeal.main_arg2)
      ∧ r.2.mem ((c.tc : Thread Cert.ExRefIdeal.nD Cert.ExRefIdeal.τ).loc Cert.ExRefIdeal.main_arg3) = m ((c.tc : Thread Cert.ExRefIdeal.nD Cert.ExRefIdeal.τ).loc Cert.ExRefIdeal.main_arg3)
      ∧ r.2.mem ((c.tc : Thread Cert.ExRefIdeal.nD Cert.ExRefIdeal.τ).loc Cert.ExRefIdeal.main_arg4) = m ((c.tc : Thread Cert.ExRefIdeal.nD Cert.ExRefIdeal.τ).loc Cert.ExRefIdeal.main_arg4)
      ∧ r.2.mem ((c.tc : Thread Cert.ExRefIdeal.nD Cert.ExRefIdeal.τ).loc Cert.ExRefIdeal.main_arg5) = m ((c.tc : Thread Cert.ExRefIdeal.nD Cert.ExRefIdeal.τ).loc Cert.ExRefIdeal.main_arg5)
      ∧ r.2.mem ((c.tc : Thread Cert.ExRefIdeal.nD Cert.ExRefIdeal.τ).loc Cert.ExRefIdeal.main_arg6) = m ((c.tc : Thread Cert.ExRefIdeal.nD Cert.ExRefIdeal.τ).loc Cert.ExRefIdeal.main_arg6))
      ∧ r.2.sem = fun _ => 0)

def quiescent_Att [hAtt : Cert.Att.Facts] : Prop :=
  ∀ (m : (ℓ : Loc Cert.Att.nD Cert.Att.τ Cert.Att.sig) → Buf (Elt Bits) ℓ) (g : Dev Cert.Att.nD → PrngReg), Pre_Att m →
    θ_run (Cert.Att.defs (F := Bits)) (onTc (τ := Cert.Att.τ) (Cert.Att.main (F := Bits))) ⟨m, fun _ => 0, g⟩ (fun r => (∀ c : Dev Cert.Att.nD,
      r.2.mem ((c.tc : Thread Cert.Att.nD Cert.Att.τ).loc Cert.Att.main_arg0) = m ((c.tc : Thread Cert.Att.nD Cert.Att.τ).loc Cert.Att.main_arg0)
      ∧ r.2.mem ((c.tc : Thread Cert.Att.nD Cert.Att.τ).loc Cert.Att.main_arg1) = m ((c.tc : Thread Cert.Att.nD Cert.Att.τ).loc Cert.Att.main_arg1)
      ∧ r.2.mem ((c.tc : Thread Cert.Att.nD Cert.Att.τ).loc Cert.Att.main_arg2) = m ((c.tc : Thread Cert.Att.nD Cert.Att.τ).loc Cert.Att.main_arg2)
      ∧ r.2.mem ((c.tc : Thread Cert.Att.nD Cert.Att.τ).loc Cert.Att.main_arg3) = m ((c.tc : Thread Cert.Att.nD Cert.Att.τ).loc Cert.Att.main_arg3)
      ∧ r.2.mem ((c.tc : Thread Cert.Att.nD Cert.Att.τ).loc Cert.Att.main_arg4) = m ((c.tc : Thread Cert.Att.nD Cert.Att.τ).loc Cert.Att.main_arg4)
      ∧ r.2.mem ((c.tc : Thread Cert.Att.nD Cert.Att.τ).loc Cert.Att.main_arg5) = m ((c.tc : Thread Cert.Att.nD Cert.Att.τ).loc Cert.Att.main_arg5)
      ∧ r.2.mem ((c.tc : Thread Cert.Att.nD Cert.Att.τ).loc Cert.Att.main_arg6) = m ((c.tc : Thread Cert.Att.nD Cert.Att.τ).loc Cert.Att.main_arg6))
      ∧ r.2.sem = fun _ => 0)

def quiescent_AttIdeal [hAttIdeal : Cert.AttIdeal.Facts] : Prop :=
  ∀ (m : (ℓ : Loc Cert.AttIdeal.nD Cert.AttIdeal.τ Cert.AttIdeal.sig) → Buf (Elt Ideal) ℓ) (g : Dev Cert.AttIdeal.nD → PrngReg), Pre_AttIdeal m →
    θ_run (Cert.AttIdeal.defs (F := Ideal)) (onTc (τ := Cert.AttIdeal.τ) (Cert.AttIdeal.main (F := Ideal))) ⟨m, fun _ => 0, g⟩ (fun r => (∀ c : Dev Cert.AttIdeal.nD,
      r.2.mem ((c.tc : Thread Cert.AttIdeal.nD Cert.AttIdeal.τ).loc Cert.AttIdeal.main_arg0) = m ((c.tc : Thread Cert.AttIdeal.nD Cert.AttIdeal.τ).loc Cert.AttIdeal.main_arg0)
      ∧ r.2.mem ((c.tc : Thread Cert.AttIdeal.nD Cert.AttIdeal.τ).loc Cert.AttIdeal.main_arg1) = m ((c.tc : Thread Cert.AttIdeal.nD Cert.AttIdeal.τ).loc Cert.AttIdeal.main_arg1)
      ∧ r.2.mem ((c.tc : Thread Cert.AttIdeal.nD Cert.AttIdeal.τ).loc Cert.AttIdeal.main_arg2) = m ((c.tc : Thread Cert.AttIdeal.nD Cert.AttIdeal.τ).loc Cert.AttIdeal.main_arg2)
      ∧ r.2.mem ((c.tc : Thread Cert.AttIdeal.nD Cert.AttIdeal.τ).loc Cert.AttIdeal.main_arg3) = m ((c.tc : Thread Cert.AttIdeal.nD Cert.AttIdeal.τ).loc Cert.AttIdeal.main_arg3)
      ∧ r.2.mem ((c.tc : Thread Cert.AttIdeal.nD Cert.AttIdeal.τ).loc Cert.AttIdeal.main_arg4) = m ((c.tc : Thread Cert.AttIdeal.nD Cert.AttIdeal.τ).loc Cert.AttIdeal.main_arg4)
      ∧ r.2.mem ((c.tc : Thread Cert.AttIdeal.nD Cert.AttIdeal.τ).loc Cert.AttIdeal.main_arg5) = m ((c.tc : Thread Cert.AttIdeal.nD Cert.AttIdeal.τ).loc Cert.AttIdeal.main_arg5)
      ∧ r.2.mem ((c.tc : Thread Cert.AttIdeal.nD Cert.AttIdeal.τ).loc Cert.AttIdeal.main_arg6) = m ((c.tc : Thread Cert.AttIdeal.nD Cert.AttIdeal.τ).loc Cert.AttIdeal.main_arg6))
      ∧ r.2.sem = fun _ => 0)

def quiescent_AttIdeal_pre_finite [hAttIdeal : Cert.AttIdeal.Facts] [hPre_finite : Cert.Pre_finite.Facts] : Prop :=
  ∀ (m : (ℓ : Loc Cert.AttIdeal.nD Cert.AttIdeal.τ Cert.AttIdeal.sig) → Buf (Elt Ideal) ℓ) (g : Dev Cert.AttIdeal.nD → PrngReg), Pre_AttIdeal_finite m →
    θ_run (Cert.AttIdeal.defs (F := Ideal)) (onTc (τ := Cert.AttIdeal.τ) (Cert.AttIdeal.main (F := Ideal))) ⟨m, fun _ => 0, g⟩ (fun r => (∀ c : Dev Cert.AttIdeal.nD,
      r.2.mem ((c.tc : Thread Cert.AttIdeal.nD Cert.AttIdeal.τ).loc Cert.AttIdeal.main_arg0) = m ((c.tc : Thread Cert.AttIdeal.nD Cert.AttIdeal.τ).loc Cert.AttIdeal.main_arg0)
      ∧ r.2.mem ((c.tc : Thread Cert.AttIdeal.nD Cert.AttIdeal.τ).loc Cert.AttIdeal.main_arg1) = m ((c.tc : Thread Cert.AttIdeal.nD Cert.AttIdeal.τ).loc Cert.AttIdeal.main_arg1)
      ∧ r.2.mem ((c.tc : Thread Cert.AttIdeal.nD Cert.AttIdeal.τ).loc Cert.AttIdeal.main_arg2) = m ((c.tc : Thread Cert.AttIdeal.nD Cert.AttIdeal.τ).loc Cert.AttIdeal.main_arg2)
      ∧ r.2.mem ((c.tc : Thread Cert.AttIdeal.nD Cert.AttIdeal.τ).loc Cert.AttIdeal.main_arg3) = m ((c.tc : Thread Cert.AttIdeal.nD Cert.AttIdeal.τ).loc Cert.AttIdeal.main_arg3)
      ∧ r.2.mem ((c.tc : Thread Cert.AttIdeal.nD Cert.AttIdeal.τ).loc Cert.AttIdeal.main_arg4) = m ((c.tc : Thread Cert.AttIdeal.nD Cert.AttIdeal.τ).loc Cert.AttIdeal.main_arg4)
      ∧ r.2.mem ((c.tc : Thread Cert.AttIdeal.nD Cert.AttIdeal.τ).loc Cert.AttIdeal.main_arg5) = m ((c.tc : Thread Cert.AttIdeal.nD Cert.AttIdeal.τ).loc Cert.AttIdeal.main_arg5)
      ∧ r.2.mem ((c.tc : Thread Cert.AttIdeal.nD Cert.AttIdeal.τ).loc Cert.AttIdeal.main_arg6) = m ((c.tc : Thread Cert.AttIdeal.nD Cert.AttIdeal.τ).loc Cert.AttIdeal.main_arg6))
      ∧ r.2.sem = fun _ => 0)

def quiescent_AttRefIdeal [hAttRefIdeal : Cert.AttRefIdeal.Facts] : Prop :=
  ∀ (m : (ℓ : Loc Cert.AttRefIdeal.nD Cert.AttRefIdeal.τ Cert.AttRefIdeal.sig) → Buf (Elt Ideal) ℓ) (g : Dev Cert.AttRefIdeal.nD → PrngReg), Pre_AttRefIdeal m →
    θ_run (Cert.AttRefIdeal.defs (F := Ideal)) (onTc (τ := Cert.AttRefIdeal.τ) (Cert.AttRefIdeal.main (F := Ideal))) ⟨m, fun _ => 0, g⟩ (fun r => (∀ c : Dev Cert.AttRefIdeal.nD,
      r.2.mem ((c.tc : Thread Cert.AttRefIdeal.nD Cert.AttRefIdeal.τ).loc Cert.AttRefIdeal.main_arg0) = m ((c.tc : Thread Cert.AttRefIdeal.nD Cert.AttRefIdeal.τ).loc Cert.AttRefIdeal.main_arg0)
      ∧ r.2.mem ((c.tc : Thread Cert.AttRefIdeal.nD Cert.AttRefIdeal.τ).loc Cert.AttRefIdeal.main_arg1) = m ((c.tc : Thread Cert.AttRefIdeal.nD Cert.AttRefIdeal.τ).loc Cert.AttRefIdeal.main_arg1)
      ∧ r.2.mem ((c.tc : Thread Cert.AttRefIdeal.nD Cert.AttRefIdeal.τ).loc Cert.AttRefIdeal.main_arg2) = m ((c.tc : Thread Cert.AttRefIdeal.nD Cert.AttRefIdeal.τ).loc Cert.AttRefIdeal.main_arg2)
      ∧ r.2.mem ((c.tc : Thread Cert.AttRefIdeal.nD Cert.AttRefIdeal.τ).loc Cert.AttRefIdeal.main_arg3) = m ((c.tc : Thread Cert.AttRefIdeal.nD Cert.AttRefIdeal.τ).loc Cert.AttRefIdeal.main_arg3)
      ∧ r.2.mem ((c.tc : Thread Cert.AttRefIdeal.nD Cert.AttRefIdeal.τ).loc Cert.AttRefIdeal.main_arg4) = m ((c.tc : Thread Cert.AttRefIdeal.nD Cert.AttRefIdeal.τ).loc Cert.AttRefIdeal.main_arg4)
      ∧ r.2.mem ((c.tc : Thread Cert.AttRefIdeal.nD Cert.AttRefIdeal.τ).loc Cert.AttRefIdeal.main_arg5) = m ((c.tc : Thread Cert.AttRefIdeal.nD Cert.AttRefIdeal.τ).loc Cert.AttRefIdeal.main_arg5)
      ∧ r.2.mem ((c.tc : Thread Cert.AttRefIdeal.nD Cert.AttRefIdeal.τ).loc Cert.AttRefIdeal.main_arg6) = m ((c.tc : Thread Cert.AttRefIdeal.nD Cert.AttRefIdeal.τ).loc Cert.AttRefIdeal.main_arg6))
      ∧ r.2.sem = fun _ => 0)

def quiescent_AttRefIdeal_pre_finite [hAttRefIdeal : Cert.AttRefIdeal.Facts] [hPre_finite : Cert.Pre_finite.Facts] : Prop :=
  ∀ (m : (ℓ : Loc Cert.AttRefIdeal.nD Cert.AttRefIdeal.τ Cert.AttRefIdeal.sig) → Buf (Elt Ideal) ℓ) (g : Dev Cert.AttRefIdeal.nD → PrngReg), Pre_AttRefIdeal_finite m →
    θ_run (Cert.AttRefIdeal.defs (F := Ideal)) (onTc (τ := Cert.AttRefIdeal.τ) (Cert.AttRefIdeal.main (F := Ideal))) ⟨m, fun _ => 0, g⟩ (fun r => (∀ c : Dev Cert.AttRefIdeal.nD,
      r.2.mem ((c.tc : Thread Cert.AttRefIdeal.nD Cert.AttRefIdeal.τ).loc Cert.AttRefIdeal.main_arg0) = m ((c.tc : Thread Cert.AttRefIdeal.nD Cert.AttRefIdeal.τ).loc Cert.AttRefIdeal.main_arg0)
      ∧ r.2.mem ((c.tc : Thread Cert.AttRefIdeal.nD Cert.AttRefIdeal.τ).loc Cert.AttRefIdeal.main_arg1) = m ((c.tc : Thread Cert.AttRefIdeal.nD Cert.AttRefIdeal.τ).loc Cert.AttRefIdeal.main_arg1)
      ∧ r.2.mem ((c.tc : Thread Cert.AttRefIdeal.nD Cert.AttRefIdeal.τ).loc Cert.AttRefIdeal.main_arg2) = m ((c.tc : Thread Cert.AttRefIdeal.nD Cert.AttRefIdeal.τ).loc Cert.AttRefIdeal.main_arg2)
      ∧ r.2.mem ((c.tc : Thread Cert.AttRefIdeal.nD Cert.AttRefIdeal.τ).loc Cert.AttRefIdeal.main_arg3) = m ((c.tc : Thread Cert.AttRefIdeal.nD Cert.AttRefIdeal.τ).loc Cert.AttRefIdeal.main_arg3)
      ∧ r.2.mem ((c.tc : Thread Cert.AttRefIdeal.nD Cert.AttRefIdeal.τ).loc Cert.AttRefIdeal.main_arg4) = m ((c.tc : Thread Cert.AttRefIdeal.nD Cert.AttRefIdeal.τ).loc Cert.AttRefIdeal.main_arg4)
      ∧ r.2.mem ((c.tc : Thread Cert.AttRefIdeal.nD Cert.AttRefIdeal.τ).loc Cert.AttRefIdeal.main_arg5) = m ((c.tc : Thread Cert.AttRefIdeal.nD Cert.AttRefIdeal.τ).loc Cert.AttRefIdeal.main_arg5)
      ∧ r.2.mem ((c.tc : Thread Cert.AttRefIdeal.nD Cert.AttRefIdeal.τ).loc Cert.AttRefIdeal.main_arg6) = m ((c.tc : Thread Cert.AttRefIdeal.nD Cert.AttRefIdeal.τ).loc Cert.AttRefIdeal.main_arg6))
      ∧ r.2.sem = fun _ => 0)

def quiescent_Gla [hGla : Cert.Gla.Facts] : Prop :=
  ∀ (m : (ℓ : Loc Cert.Gla.nD Cert.Gla.τ Cert.Gla.sig) → Buf (Elt Bits) ℓ) (g : Dev Cert.Gla.nD → PrngReg), Pre_Gla m →
    θ_run (Cert.Gla.defs (F := Bits)) (onTc (τ := Cert.Gla.τ) (Cert.Gla.main (F := Bits))) ⟨m, fun _ => 0, g⟩ (fun r => (∀ c : Dev Cert.Gla.nD,
      r.2.mem ((c.tc : Thread Cert.Gla.nD Cert.Gla.τ).loc Cert.Gla.main_arg0) = m ((c.tc : Thread Cert.Gla.nD Cert.Gla.τ).loc Cert.Gla.main_arg0)
      ∧ r.2.mem ((c.tc : Thread Cert.Gla.nD Cert.Gla.τ).loc Cert.Gla.main_arg1) = m ((c.tc : Thread Cert.Gla.nD Cert.Gla.τ).loc Cert.Gla.main_arg1)
      ∧ r.2.mem ((c.tc : Thread Cert.Gla.nD Cert.Gla.τ).loc Cert.Gla.main_arg2) = m ((c.tc : Thread Cert.Gla.nD Cert.Gla.τ).loc Cert.Gla.main_arg2)
      ∧ r.2.mem ((c.tc : Thread Cert.Gla.nD Cert.Gla.τ).loc Cert.Gla.main_arg3) = m ((c.tc : Thread Cert.Gla.nD Cert.Gla.τ).loc Cert.Gla.main_arg3))
      ∧ r.2.sem = fun _ => 0)

def quiescent_GlaIdeal [hGlaIdeal : Cert.GlaIdeal.Facts] : Prop :=
  ∀ (m : (ℓ : Loc Cert.GlaIdeal.nD Cert.GlaIdeal.τ Cert.GlaIdeal.sig) → Buf (Elt Ideal) ℓ) (g : Dev Cert.GlaIdeal.nD → PrngReg), Pre_GlaIdeal m →
    θ_run (Cert.GlaIdeal.defs (F := Ideal)) (onTc (τ := Cert.GlaIdeal.τ) (Cert.GlaIdeal.main (F := Ideal))) ⟨m, fun _ => 0, g⟩ (fun r => (∀ c : Dev Cert.GlaIdeal.nD,
      r.2.mem ((c.tc : Thread Cert.GlaIdeal.nD Cert.GlaIdeal.τ).loc Cert.GlaIdeal.main_arg0) = m ((c.tc : Thread Cert.GlaIdeal.nD Cert.GlaIdeal.τ).loc Cert.GlaIdeal.main_arg0)
      ∧ r.2.mem ((c.tc : Thread Cert.GlaIdeal.nD Cert.GlaIdeal.τ).loc Cert.GlaIdeal.main_arg1) = m ((c.tc : Thread Cert.GlaIdeal.nD Cert.GlaIdeal.τ).loc Cert.GlaIdeal.main_arg1)
      ∧ r.2.mem ((c.tc : Thread Cert.GlaIdeal.nD Cert.GlaIdeal.τ).loc Cert.GlaIdeal.main_arg2) = m ((c.tc : Thread Cert.GlaIdeal.nD Cert.GlaIdeal.τ).loc Cert.GlaIdeal.main_arg2)
      ∧ r.2.mem ((c.tc : Thread Cert.GlaIdeal.nD Cert.GlaIdeal.τ).loc Cert.GlaIdeal.main_arg3) = m ((c.tc : Thread Cert.GlaIdeal.nD Cert.GlaIdeal.τ).loc Cert.GlaIdeal.main_arg3))
      ∧ r.2.sem = fun _ => 0)

def quiescent_GlaRefIdeal [hGlaRefIdeal : Cert.GlaRefIdeal.Facts] : Prop :=
  ∀ (m : (ℓ : Loc Cert.GlaRefIdeal.nD Cert.GlaRefIdeal.τ Cert.GlaRefIdeal.sig) → Buf (Elt Ideal) ℓ) (g : Dev Cert.GlaRefIdeal.nD → PrngReg), Pre_GlaRefIdeal m →
    θ_run (Cert.GlaRefIdeal.defs (F := Ideal)) (onTc (τ := Cert.GlaRefIdeal.τ) (Cert.GlaRefIdeal.main (F := Ideal))) ⟨m, fun _ => 0, g⟩ (fun r => (∀ c : Dev Cert.GlaRefIdeal.nD,
      r.2.mem ((c.tc : Thread Cert.GlaRefIdeal.nD Cert.GlaRefIdeal.τ).loc Cert.GlaRefIdeal.main_arg0) = m ((c.tc : Thread Cert.GlaRefIdeal.nD Cert.GlaRefIdeal.τ).loc Cert.GlaRefIdeal.main_arg0)
      ∧ r.2.mem ((c.tc : Thread Cert.GlaRefIdeal.nD Cert.GlaRefIdeal.τ).loc Cert.GlaRefIdeal.main_arg1) = m ((c.tc : Thread Cert.GlaRefIdeal.nD Cert.GlaRefIdeal.τ).loc Cert.GlaRefIdeal.main_arg1)
      ∧ r.2.mem ((c.tc : Thread Cert.GlaRefIdeal.nD Cert.GlaRefIdeal.τ).loc Cert.GlaRefIdeal.main_arg2) = m ((c.tc : Thread Cert.GlaRefIdeal.nD Cert.GlaRefIdeal.τ).loc Cert.GlaRefIdeal.main_arg2)
      ∧ r.2.mem ((c.tc : Thread Cert.GlaRefIdeal.nD Cert.GlaRefIdeal.τ).loc Cert.GlaRefIdeal.main_arg3) = m ((c.tc : Thread Cert.GlaRefIdeal.nD Cert.GlaRefIdeal.τ).loc Cert.GlaRefIdeal.main_arg3))
      ∧ r.2.sem = fun _ => 0)

def quiescent_Swa [hSwa : Cert.Swa.Facts] : Prop :=
  ∀ (m : (ℓ : Loc Cert.Swa.nD Cert.Swa.τ Cert.Swa.sig) → Buf (Elt Bits) ℓ) (g : Dev Cert.Swa.nD → PrngReg), Pre_Swa m →
    θ_run (Cert.Swa.defs (F := Bits)) (onTc (τ := Cert.Swa.τ) (Cert.Swa.main (F := Bits))) ⟨m, fun _ => 0, g⟩ (fun r => (∀ c : Dev Cert.Swa.nD,
      r.2.mem ((c.tc : Thread Cert.Swa.nD Cert.Swa.τ).loc Cert.Swa.main_arg0) = m ((c.tc : Thread Cert.Swa.nD Cert.Swa.τ).loc Cert.Swa.main_arg0)
      ∧ r.2.mem ((c.tc : Thread Cert.Swa.nD Cert.Swa.τ).loc Cert.Swa.main_arg1) = m ((c.tc : Thread Cert.Swa.nD Cert.Swa.τ).loc Cert.Swa.main_arg1)
      ∧ r.2.mem ((c.tc : Thread Cert.Swa.nD Cert.Swa.τ).loc Cert.Swa.main_arg2) = m ((c.tc : Thread Cert.Swa.nD Cert.Swa.τ).loc Cert.Swa.main_arg2)
      ∧ r.2.mem ((c.tc : Thread Cert.Swa.nD Cert.Swa.τ).loc Cert.Swa.main_arg3) = m ((c.tc : Thread Cert.Swa.nD Cert.Swa.τ).loc Cert.Swa.main_arg3)
      ∧ r.2.mem ((c.tc : Thread Cert.Swa.nD Cert.Swa.τ).loc Cert.Swa.main_arg4) = m ((c.tc : Thread Cert.Swa.nD Cert.Swa.τ).loc Cert.Swa.main_arg4)
      ∧ r.2.mem ((c.tc : Thread Cert.Swa.nD Cert.Swa.τ).loc Cert.Swa.main_arg5) = m ((c.tc : Thread Cert.Swa.nD Cert.Swa.τ).loc Cert.Swa.main_arg5)
      ∧ r.2.mem ((c.tc : Thread Cert.Swa.nD Cert.Swa.τ).loc Cert.Swa.main_arg6) = m ((c.tc : Thread Cert.Swa.nD Cert.Swa.τ).loc Cert.Swa.main_arg6)
      ∧ r.2.mem ((c.tc : Thread Cert.Swa.nD Cert.Swa.τ).loc Cert.Swa.main_arg7) = m ((c.tc : Thread Cert.Swa.nD Cert.Swa.τ).loc Cert.Swa.main_arg7))
      ∧ r.2.sem = fun _ => 0)

def quiescent_SwaIdeal [hSwaIdeal : Cert.SwaIdeal.Facts] : Prop :=
  ∀ (m : (ℓ : Loc Cert.SwaIdeal.nD Cert.SwaIdeal.τ Cert.SwaIdeal.sig) → Buf (Elt Ideal) ℓ) (g : Dev Cert.SwaIdeal.nD → PrngReg), Pre_SwaIdeal m →
    θ_run (Cert.SwaIdeal.defs (F := Ideal)) (onTc (τ := Cert.SwaIdeal.τ) (Cert.SwaIdeal.main (F := Ideal))) ⟨m, fun _ => 0, g⟩ (fun r => (∀ c : Dev Cert.SwaIdeal.nD,
      r.2.mem ((c.tc : Thread Cert.SwaIdeal.nD Cert.SwaIdeal.τ).loc Cert.SwaIdeal.main_arg0) = m ((c.tc : Thread Cert.SwaIdeal.nD Cert.SwaIdeal.τ).loc Cert.SwaIdeal.main_arg0)
      ∧ r.2.mem ((c.tc : Thread Cert.SwaIdeal.nD Cert.SwaIdeal.τ).loc Cert.SwaIdeal.main_arg1) = m ((c.tc : Thread Cert.SwaIdeal.nD Cert.SwaIdeal.τ).loc Cert.SwaIdeal.main_arg1)
      ∧ r.2.mem ((c.tc : Thread Cert.SwaIdeal.nD Cert.SwaIdeal.τ).loc Cert.SwaIdeal.main_arg2) = m ((c.tc : Thread Cert.SwaIdeal.nD Cert.SwaIdeal.τ).loc Cert.SwaIdeal.main_arg2)
      ∧ r.2.mem ((c.tc : Thread Cert.SwaIdeal.nD Cert.SwaIdeal.τ).loc Cert.SwaIdeal.main_arg3) = m ((c.tc : Thread Cert.SwaIdeal.nD Cert.SwaIdeal.τ).loc Cert.SwaIdeal.main_arg3)
      ∧ r.2.mem ((c.tc : Thread Cert.SwaIdeal.nD Cert.SwaIdeal.τ).loc Cert.SwaIdeal.main_arg4) = m ((c.tc : Thread Cert.SwaIdeal.nD Cert.SwaIdeal.τ).loc Cert.SwaIdeal.main_arg4)
      ∧ r.2.mem ((c.tc : Thread Cert.SwaIdeal.nD Cert.SwaIdeal.τ).loc Cert.SwaIdeal.main_arg5) = m ((c.tc : Thread Cert.SwaIdeal.nD Cert.SwaIdeal.τ).loc Cert.SwaIdeal.main_arg5)
      ∧ r.2.mem ((c.tc : Thread Cert.SwaIdeal.nD Cert.SwaIdeal.τ).loc Cert.SwaIdeal.main_arg6) = m ((c.tc : Thread Cert.SwaIdeal.nD Cert.SwaIdeal.τ).loc Cert.SwaIdeal.main_arg6)
      ∧ r.2.mem ((c.tc : Thread Cert.SwaIdeal.nD Cert.SwaIdeal.τ).loc Cert.SwaIdeal.main_arg7) = m ((c.tc : Thread Cert.SwaIdeal.nD Cert.SwaIdeal.τ).loc Cert.SwaIdeal.main_arg7))
      ∧ r.2.sem = fun _ => 0)

def quiescent_SwaIdeal_pre_finite_window [hSwaIdeal : Cert.SwaIdeal.Facts] [hPre_finite_window : Cert.Pre_finite_window.Facts] : Prop :=
  ∀ (m : (ℓ : Loc Cert.SwaIdeal.nD Cert.SwaIdeal.τ Cert.SwaIdeal.sig) → Buf (Elt Ideal) ℓ) (g : Dev Cert.SwaIdeal.nD → PrngReg), Pre_SwaIdeal_finite_window m →
    θ_run (Cert.SwaIdeal.defs (F := Ideal)) (onTc (τ := Cert.SwaIdeal.τ) (Cert.SwaIdeal.main (F := Ideal))) ⟨m, fun _ => 0, g⟩ (fun r => (∀ c : Dev Cert.SwaIdeal.nD,
      r.2.mem ((c.tc : Thread Cert.SwaIdeal.nD Cert.SwaIdeal.τ).loc Cert.SwaIdeal.main_arg0) = m ((c.tc : Thread Cert.SwaIdeal.nD Cert.SwaIdeal.τ).loc Cert.SwaIdeal.main_arg0)
      ∧ r.2.mem ((c.tc : Thread Cert.SwaIdeal.nD Cert.SwaIdeal.τ).loc Cert.SwaIdeal.main_arg1) = m ((c.tc : Thread Cert.SwaIdeal.nD Cert.SwaIdeal.τ).loc Cert.SwaIdeal.main_arg1)
      ∧ r.2.mem ((c.tc : Thread Cert.SwaIdeal.nD Cert.SwaIdeal.τ).loc Cert.SwaIdeal.main_arg2) = m ((c.tc : Thread Cert.SwaIdeal.nD Cert.SwaIdeal.τ).loc Cert.SwaIdeal.main_arg2)
      ∧ r.2.mem ((c.tc : Thread Cert.SwaIdeal.nD Cert.SwaIdeal.τ).loc Cert.SwaIdeal.main_arg3) = m ((c.tc : Thread Cert.SwaIdeal.nD Cert.SwaIdeal.τ).loc Cert.SwaIdeal.main_arg3)
      ∧ r.2.mem ((c.tc : Thread Cert.SwaIdeal.nD Cert.SwaIdeal.τ).loc Cert.SwaIdeal.main_arg4) = m ((c.tc : Thread Cert.SwaIdeal.nD Cert.SwaIdeal.τ).loc Cert.SwaIdeal.main_arg4)
      ∧ r.2.mem ((c.tc : Thread Cert.SwaIdeal.nD Cert.SwaIdeal.τ).loc Cert.SwaIdeal.main_arg5) = m ((c.tc : Thread Cert.SwaIdeal.nD Cert.SwaIdeal.τ).loc Cert.SwaIdeal.main_arg5)
      ∧ r.2.mem ((c.tc : Thread Cert.SwaIdeal.nD Cert.SwaIdeal.τ).loc Cert.SwaIdeal.main_arg6) = m ((c.tc : Thread Cert.SwaIdeal.nD Cert.SwaIdeal.τ).loc Cert.SwaIdeal.main_arg6)
      ∧ r.2.mem ((c.tc : Thread Cert.SwaIdeal.nD Cert.SwaIdeal.τ).loc Cert.SwaIdeal.main_arg7) = m ((c.tc : Thread Cert.SwaIdeal.nD Cert.SwaIdeal.τ).loc Cert.SwaIdeal.main_arg7))
      ∧ r.2.sem = fun _ => 0)

def quiescent_SwaRefIdeal [hSwaRefIdeal : Cert.SwaRefIdeal.Facts] : Prop :=
  ∀ (m : (ℓ : Loc Cert.SwaRefIdeal.nD Cert.SwaRefIdeal.τ Cert.SwaRefIdeal.sig) → Buf (Elt Ideal) ℓ) (g : Dev Cert.SwaRefIdeal.nD → PrngReg), Pre_SwaRefIdeal m →
    θ_run (Cert.SwaRefIdeal.defs (F := Ideal)) (onTc (τ := Cert.SwaRefIdeal.τ) (Cert.SwaRefIdeal.main (F := Ideal))) ⟨m, fun _ => 0, g⟩ (fun r => (∀ c : Dev Cert.SwaRefIdeal.nD,
      r.2.mem ((c.tc : Thread Cert.SwaRefIdeal.nD Cert.SwaRefIdeal.τ).loc Cert.SwaRefIdeal.main_arg0) = m ((c.tc : Thread Cert.SwaRefIdeal.nD Cert.SwaRefIdeal.τ).loc Cert.SwaRefIdeal.main_arg0)
      ∧ r.2.mem ((c.tc : Thread Cert.SwaRefIdeal.nD Cert.SwaRefIdeal.τ).loc Cert.SwaRefIdeal.main_arg1) = m ((c.tc : Thread Cert.SwaRefIdeal.nD Cert.SwaRefIdeal.τ).loc Cert.SwaRefIdeal.main_arg1)
      ∧ r.2.mem ((c.tc : Thread Cert.SwaRefIdeal.nD Cert.SwaRefIdeal.τ).loc Cert.SwaRefIdeal.main_arg2) = m ((c.tc : Thread Cert.SwaRefIdeal.nD Cert.SwaRefIdeal.τ).loc Cert.SwaRefIdeal.main_arg2)
      ∧ r.2.mem ((c.tc : Thread Cert.SwaRefIdeal.nD Cert.SwaRefIdeal.τ).loc Cert.SwaRefIdeal.main_arg3) = m ((c.tc : Thread Cert.SwaRefIdeal.nD Cert.SwaRefIdeal.τ).loc Cert.SwaRefIdeal.main_arg3)
      ∧ r.2.mem ((c.tc : Thread Cert.SwaRefIdeal.nD Cert.SwaRefIdeal.τ).loc Cert.SwaRefIdeal.main_arg4) = m ((c.tc : Thread Cert.SwaRefIdeal.nD Cert.SwaRefIdeal.τ).loc Cert.SwaRefIdeal.main_arg4)
      ∧ r.2.mem ((c.tc : Thread Cert.SwaRefIdeal.nD Cert.SwaRefIdeal.τ).loc Cert.SwaRefIdeal.main_arg5) = m ((c.tc : Thread Cert.SwaRefIdeal.nD Cert.SwaRefIdeal.τ).loc Cert.SwaRefIdeal.main_arg5)
      ∧ r.2.mem ((c.tc : Thread Cert.SwaRefIdeal.nD Cert.SwaRefIdeal.τ).loc Cert.SwaRefIdeal.main_arg6) = m ((c.tc : Thread Cert.SwaRefIdeal.nD Cert.SwaRefIdeal.τ).loc Cert.SwaRefIdeal.main_arg6)
      ∧ r.2.mem ((c.tc : Thread Cert.SwaRefIdeal.nD Cert.SwaRefIdeal.τ).loc Cert.SwaRefIdeal.main_arg7) = m ((c.tc : Thread Cert.SwaRefIdeal.nD Cert.SwaRefIdeal.τ).loc Cert.SwaRefIdeal.main_arg7))
      ∧ r.2.sem = fun _ => 0)

def quiescent_SwaRefIdeal_pre_finite_window [hSwaRefIdeal : Cert.SwaRefIdeal.Facts] [hPre_finite_window : Cert.Pre_finite_window.Facts] : Prop :=
  ∀ (m : (ℓ : Loc Cert.SwaRefIdeal.nD Cert.SwaRefIdeal.τ Cert.SwaRefIdeal.sig) → Buf (Elt Ideal) ℓ) (g : Dev Cert.SwaRefIdeal.nD → PrngReg), Pre_SwaRefIdeal_finite_window m →
    θ_run (Cert.SwaRefIdeal.defs (F := Ideal)) (onTc (τ := Cert.SwaRefIdeal.τ) (Cert.SwaRefIdeal.main (F := Ideal))) ⟨m, fun _ => 0, g⟩ (fun r => (∀ c : Dev Cert.SwaRefIdeal.nD,
      r.2.mem ((c.tc : Thread Cert.SwaRefIdeal.nD Cert.SwaRefIdeal.τ).loc Cert.SwaRefIdeal.main_arg0) = m ((c.tc : Thread Cert.SwaRefIdeal.nD Cert.SwaRefIdeal.τ).loc Cert.SwaRefIdeal.main_arg0)
      ∧ r.2.mem ((c.tc : Thread Cert.SwaRefIdeal.nD Cert.SwaRefIdeal.τ).loc Cert.SwaRefIdeal.main_arg1) = m ((c.tc : Thread Cert.SwaRefIdeal.nD Cert.SwaRefIdeal.τ).loc Cert.SwaRefIdeal.main_arg1)
      ∧ r.2.mem ((c.tc : Thread Cert.SwaRefIdeal.nD Cert.SwaRefIdeal.τ).loc Cert.SwaRefIdeal.main_arg2) = m ((c.tc : Thread Cert.SwaRefIdeal.nD Cert.SwaRefIdeal.τ).loc Cert.SwaRefIdeal.main_arg2)
      ∧ r.2.mem ((c.tc : Thread Cert.SwaRefIdeal.nD Cert.SwaRefIdeal.τ).loc Cert.SwaRefIdeal.main_arg3) = m ((c.tc : Thread Cert.SwaRefIdeal.nD Cert.SwaRefIdeal.τ).loc Cert.SwaRefIdeal.main_arg3)
      ∧ r.2.mem ((c.tc : Thread Cert.SwaRefIdeal.nD Cert.SwaRefIdeal.τ).loc Cert.SwaRefIdeal.main_arg4) = m ((c.tc : Thread Cert.SwaRefIdeal.nD Cert.SwaRefIdeal.τ).loc Cert.SwaRefIdeal.main_arg4)
      ∧ r.2.mem ((c.tc : Thread Cert.SwaRefIdeal.nD Cert.SwaRefIdeal.τ).loc Cert.SwaRefIdeal.main_arg5) = m ((c.tc : Thread Cert.SwaRefIdeal.nD Cert.SwaRefIdeal.τ).loc Cert.SwaRefIdeal.main_arg5)
      ∧ r.2.mem ((c.tc : Thread Cert.SwaRefIdeal.nD Cert.SwaRefIdeal.τ).loc Cert.SwaRefIdeal.main_arg6) = m ((c.tc : Thread Cert.SwaRefIdeal.nD Cert.SwaRefIdeal.τ).loc Cert.SwaRefIdeal.main_arg6)
      ∧ r.2.mem ((c.tc : Thread Cert.SwaRefIdeal.nD Cert.SwaRefIdeal.τ).loc Cert.SwaRefIdeal.main_arg7) = m ((c.tc : Thread Cert.SwaRefIdeal.nD Cert.SwaRefIdeal.τ).loc Cert.SwaRefIdeal.main_arg7))
      ∧ r.2.sem = fun _ => 0)

def preserves_Kv_KvIdeal : Prop :=
  True

def algebraic_KvIdeal_KvRefIdeal [hKvIdeal : Cert.KvIdeal.Facts] [hKvRefIdeal : Cert.KvRefIdeal.Facts] : Prop :=
  ∀ (m : (ℓ : Loc Cert.KvIdeal.nD Cert.KvIdeal.τ Cert.KvIdeal.sig) → Buf (Elt Ideal) ℓ) (g : Dev Cert.KvIdeal.nD → PrngReg)
    (m' : (ℓ : Loc Cert.KvRefIdeal.nD Cert.KvRefIdeal.τ Cert.KvRefIdeal.sig) → Buf (Elt Ideal) ℓ) (g' : Dev Cert.KvRefIdeal.nD → PrngReg), Pre_KvIdeal m →
    (∀ c : Dev Cert.KvIdeal.nD,
      m' ((c.tc : Thread Cert.KvRefIdeal.nD Cert.KvRefIdeal.τ).loc Cert.KvRefIdeal.main_arg0) = m ((c.tc : Thread Cert.KvIdeal.nD Cert.KvIdeal.τ).loc Cert.KvIdeal.main_arg0)
      ∧ m' ((c.tc : Thread Cert.KvRefIdeal.nD Cert.KvRefIdeal.τ).loc Cert.KvRefIdeal.main_arg1) = m ((c.tc : Thread Cert.KvIdeal.nD Cert.KvIdeal.τ).loc Cert.KvIdeal.main_arg1)) →
    ∃ (v0 : (c : Dev Cert.KvIdeal.nD) → Buf (Elt Ideal) ((c.tc : Thread Cert.KvIdeal.nD Cert.KvIdeal.τ).loc Cert.KvIdeal.main_v2_0)) (v1 : (c : Dev Cert.KvIdeal.nD) → Buf (Elt Ideal) ((c.tc : Thread Cert.KvIdeal.nD Cert.KvIdeal.τ).loc Cert.KvIdeal.main_v2_1)),
      θ_run (Cert.KvIdeal.defs (F := Ideal)) (onTc (τ := Cert.KvIdeal.τ) (Cert.KvIdeal.main (F := Ideal))) ⟨m, fun _ => 0, g⟩ (fun r => ∀ c : Dev Cert.KvIdeal.nD,
          r.2.mem ((c.tc : Thread Cert.KvIdeal.nD Cert.KvIdeal.τ).loc Cert.KvIdeal.main_v2_0) = v0 c
          ∧ r.2.mem ((c.tc : Thread Cert.KvIdeal.nD Cert.KvIdeal.τ).loc Cert.KvIdeal.main_v2_1) = v1 c
          ∧ r.2.mem ((c.tc : Thread Cert.KvIdeal.nD Cert.KvIdeal.τ).loc Cert.KvIdeal.main_arg0) = m ((c.tc : Thread Cert.KvIdeal.nD Cert.KvIdeal.τ).loc Cert.KvIdeal.main_arg0)
          ∧ r.2.mem ((c.tc : Thread Cert.KvIdeal.nD Cert.KvIdeal.τ).loc Cert.KvIdeal.main_arg1) = m ((c.tc : Thread Cert.KvIdeal.nD Cert.KvIdeal.τ).loc Cert.KvIdeal.main_arg1))
      ∧ θ_run (Cert.KvRefIdeal.defs (F := Ideal)) (onTc (τ := Cert.KvRefIdeal.τ) (Cert.KvRefIdeal.main (F := Ideal))) ⟨m', fun _ => 0, g'⟩ (fun r => ∀ c : Dev Cert.KvRefIdeal.nD,
          r.2.mem ((c.tc : Thread Cert.KvRefIdeal.nD Cert.KvRefIdeal.τ).loc Cert.KvRefIdeal.main_v3) = v0 c
          ∧ r.2.mem ((c.tc : Thread Cert.KvRefIdeal.nD Cert.KvRefIdeal.τ).loc Cert.KvRefIdeal.main_v5) = v1 c
          ∧ r.2.mem ((c.tc : Thread Cert.KvRefIdeal.nD Cert.KvRefIdeal.τ).loc Cert.KvRefIdeal.main_arg0) = m' ((c.tc : Thread Cert.KvRefIdeal.nD Cert.KvRefIdeal.τ).loc Cert.KvRefIdeal.main_arg0)
          ∧ r.2.mem ((c.tc : Thread Cert.KvRefIdeal.nD Cert.KvRefIdeal.τ).loc Cert.KvRefIdeal.main_arg1) = m' ((c.tc : Thread Cert.KvRefIdeal.nD Cert.KvRefIdeal.τ).loc Cert.KvRefIdeal.main_arg1))

def preserves_Ex_ExIdeal : Prop :=
  True

def algebraic_ExIdeal_ExRefIdeal_on_used_blocks [hExIdeal : Cert.ExIdeal.Facts] [hExRefIdeal : Cert.ExRefIdeal.Facts] [hPre_tables : Cert.Pre_tables.Facts] [hOn_used_blocks : Cert.On_used_blocks.Facts] : Prop :=
  ∀ (m : (ℓ : Loc Cert.ExIdeal.nD Cert.ExIdeal.τ Cert.ExIdeal.sig) → Buf (Elt Ideal) ℓ) (g : Dev Cert.ExIdeal.nD → PrngReg)
    (m' : (ℓ : Loc Cert.ExRefIdeal.nD Cert.ExRefIdeal.τ Cert.ExRefIdeal.sig) → Buf (Elt Ideal) ℓ) (g' : Dev Cert.ExRefIdeal.nD → PrngReg), Pre_ExIdeal m →
    (∀ c : Dev Cert.ExIdeal.nD,
      m' ((c.tc : Thread Cert.ExRefIdeal.nD Cert.ExRefIdeal.τ).loc Cert.ExRefIdeal.main_arg0) = m ((c.tc : Thread Cert.ExIdeal.nD Cert.ExIdeal.τ).loc Cert.ExIdeal.main_arg0)
      ∧ m' ((c.tc : Thread Cert.ExRefIdeal.nD Cert.ExRefIdeal.τ).loc Cert.ExRefIdeal.main_arg1) = m ((c.tc : Thread Cert.ExIdeal.nD Cert.ExIdeal.τ).loc Cert.ExIdeal.main_arg1)
      ∧ m' ((c.tc : Thread Cert.ExRefIdeal.nD Cert.ExRefIdeal.τ).loc Cert.ExRefIdeal.main_arg2) = m ((c.tc : Thread Cert.ExIdeal.nD Cert.ExIdeal.τ).loc Cert.ExIdeal.main_arg2)
      ∧ m' ((c.tc : Thread Cert.ExRefIdeal.nD Cert.ExRefIdeal.τ).loc Cert.ExRefIdeal.main_arg3) = m ((c.tc : Thread Cert.ExIdeal.nD Cert.ExIdeal.τ).loc Cert.ExIdeal.main_arg3)
      ∧ m' ((c.tc : Thread Cert.ExRefIdeal.nD Cert.ExRefIdeal.τ).loc Cert.ExRefIdeal.main_arg4) = m ((c.tc : Thread Cert.ExIdeal.nD Cert.ExIdeal.τ).loc Cert.ExIdeal.main_arg4)
      ∧ m' ((c.tc : Thread Cert.ExRefIdeal.nD Cert.ExRefIdeal.τ).loc Cert.ExRefIdeal.main_arg5) = m ((c.tc : Thread Cert.ExIdeal.nD Cert.ExIdeal.τ).loc Cert.ExIdeal.main_arg5)
      ∧ m' ((c.tc : Thread Cert.ExRefIdeal.nD Cert.ExRefIdeal.τ).loc Cert.ExRefIdeal.main_arg6) = m ((c.tc : Thread Cert.ExIdeal.nD Cert.ExIdeal.τ).loc Cert.ExIdeal.main_arg6)) →
    ∃ (v0 : (c : Dev Cert.ExIdeal.nD) → Buf (Elt Ideal) ((c.tc : Thread Cert.ExIdeal.nD Cert.ExIdeal.τ).loc Cert.ExIdeal.main_v0)),
      θ_run (Cert.ExIdeal.defs (F := Ideal)) (onTc (τ := Cert.ExIdeal.τ) (Cert.ExIdeal.main (F := Ideal))) ⟨m, fun _ => 0, g⟩ (fun r => ∀ c : Dev Cert.ExIdeal.nD,
          (∀ i : (⟨2, ![2359296, 128]⟩ : Shape).Idx, (Cert.On_used_blocks.fn (F := Ideal) (m ((c.tc : Thread Cert.ExIdeal.nD Cert.ExIdeal.τ).loc Cert.ExIdeal.main_arg0)) (m ((c.tc : Thread Cert.ExIdeal.nD Cert.ExIdeal.τ).loc Cert.ExIdeal.main_arg1)) (m ((c.tc : Thread Cert.ExIdeal.nD Cert.ExIdeal.τ).loc Cert.ExIdeal.main_arg2)) (m ((c.tc : Thread Cert.ExIdeal.nD Cert.ExIdeal.τ).loc Cert.ExIdeal.main_arg3)) (m ((c.tc : Thread Cert.ExIdeal.nD Cert.ExIdeal.τ).loc Cert.ExIdeal.main_arg4)) (m ((c.tc : Thread Cert.ExIdeal.nD Cert.ExIdeal.τ).loc Cert.ExIdeal.main_arg5)) (m ((c.tc : Thread Cert.ExIdeal.nD Cert.ExIdeal.τ).loc Cert.ExIdeal.main_arg6))) i = 1#1 → r.2.mem ((c.tc : Thread Cert.ExIdeal.nD Cert.ExIdeal.τ).loc Cert.ExIdeal.main_v0) i = v0 c i)
          ∧ r.2.mem ((c.tc : Thread Cert.ExIdeal.nD Cert.ExIdeal.τ).loc Cert.ExIdeal.main_arg0) = m ((c.tc : Thread Cert.ExIdeal.nD Cert.ExIdeal.τ).loc Cert.ExIdeal.main_arg0)
          ∧ r.2.mem ((c.tc : Thread Cert.ExIdeal.nD Cert.ExIdeal.τ).loc Cert.ExIdeal.main_arg1) = m ((c.tc : Thread Cert.ExIdeal.nD Cert.ExIdeal.τ).loc Cert.ExIdeal.main_arg1)
          ∧ r.2.mem ((c.tc : Thread Cert.ExIdeal.nD Cert.ExIdeal.τ).loc Cert.ExIdeal.main_arg2) = m ((c.tc : Thread Cert.ExIdeal.nD Cert.ExIdeal.τ).loc Cert.ExIdeal.main_arg2)
          ∧ r.2.mem ((c.tc : Thread Cert.ExIdeal.nD Cert.ExIdeal.τ).loc Cert.ExIdeal.main_arg3) = m ((c.tc : Thread Cert.ExIdeal.nD Cert.ExIdeal.τ).loc Cert.ExIdeal.main_arg3)
          ∧ r.2.mem ((c.tc : Thread Cert.ExIdeal.nD Cert.ExIdeal.τ).loc Cert.ExIdeal.main_arg4) = m ((c.tc : Thread Cert.ExIdeal.nD Cert.ExIdeal.τ).loc Cert.ExIdeal.main_arg4)
          ∧ r.2.mem ((c.tc : Thread Cert.ExIdeal.nD Cert.ExIdeal.τ).loc Cert.ExIdeal.main_arg5) = m ((c.tc : Thread Cert.ExIdeal.nD Cert.ExIdeal.τ).loc Cert.ExIdeal.main_arg5)
          ∧ r.2.mem ((c.tc : Thread Cert.ExIdeal.nD Cert.ExIdeal.τ).loc Cert.ExIdeal.main_arg6) = m ((c.tc : Thread Cert.ExIdeal.nD Cert.ExIdeal.τ).loc Cert.ExIdeal.main_arg6))
      ∧ θ_run (Cert.ExRefIdeal.defs (F := Ideal)) (onTc (τ := Cert.ExRefIdeal.τ) (Cert.ExRefIdeal.main (F := Ideal))) ⟨m', fun _ => 0, g'⟩ (fun r => ∀ c : Dev Cert.ExRefIdeal.nD,
          (∀ i : (⟨2, ![2359296, 128]⟩ : Shape).Idx, (Cert.On_used_blocks.fn (F := Ideal) (m ((c.tc : Thread Cert.ExIdeal.nD Cert.ExIdeal.τ).loc Cert.ExIdeal.main_arg0)) (m ((c.tc : Thread Cert.ExIdeal.nD Cert.ExIdeal.τ).loc Cert.ExIdeal.main_arg1)) (m ((c.tc : Thread Cert.ExIdeal.nD Cert.ExIdeal.τ).loc Cert.ExIdeal.main_arg2)) (m ((c.tc : Thread Cert.ExIdeal.nD Cert.ExIdeal.τ).loc Cert.ExIdeal.main_arg3)) (m ((c.tc : Thread Cert.ExIdeal.nD Cert.ExIdeal.τ).loc Cert.ExIdeal.main_arg4)) (m ((c.tc : Thread Cert.ExIdeal.nD Cert.ExIdeal.τ).loc Cert.ExIdeal.main_arg5)) (m ((c.tc : Thread Cert.ExIdeal.nD Cert.ExIdeal.τ).loc Cert.ExIdeal.main_arg6))) i = 1#1 → r.2.mem ((c.tc : Thread Cert.ExRefIdeal.nD Cert.ExRefIdeal.τ).loc Cert.ExRefIdeal.main_v92) i = v0 c i)
          ∧ r.2.mem ((c.tc : Thread Cert.ExRefIdeal.nD Cert.ExRefIdeal.τ).loc Cert.ExRefIdeal.main_arg0) = m' ((c.tc : Thread Cert.ExRefIdeal.nD Cert.ExRefIdeal.τ).loc Cert.ExRefIdeal.main_arg0)
          ∧ r.2.mem ((c.tc : Thread Cert.ExRefIdeal.nD Cert.ExRefIdeal.τ).loc Cert.ExRefIdeal.main_arg1) = m' ((c.tc : Thread Cert.ExRefIdeal.nD Cert.ExRefIdeal.τ).loc Cert.ExRefIdeal.main_arg1)
          ∧ r.2.mem ((c.tc : Thread Cert.ExRefIdeal.nD Cert.ExRefIdeal.τ).loc Cert.ExRefIdeal.main_arg2) = m' ((c.tc : Thread Cert.ExRefIdeal.nD Cert.ExRefIdeal.τ).loc Cert.ExRefIdeal.main_arg2)
          ∧ r.2.mem ((c.tc : Thread Cert.ExRefIdeal.nD Cert.ExRefIdeal.τ).loc Cert.ExRefIdeal.main_arg3) = m' ((c.tc : Thread Cert.ExRefIdeal.nD Cert.ExRefIdeal.τ).loc Cert.ExRefIdeal.main_arg3)
          ∧ r.2.mem ((c.tc : Thread Cert.ExRefIdeal.nD Cert.ExRefIdeal.τ).loc Cert.ExRefIdeal.main_arg4) = m' ((c.tc : Thread Cert.ExRefIdeal.nD Cert.ExRefIdeal.τ).loc Cert.ExRefIdeal.main_arg4)
          ∧ r.2.mem ((c.tc : Thread Cert.ExRefIdeal.nD Cert.ExRefIdeal.τ).loc Cert.ExRefIdeal.main_arg5) = m' ((c.tc : Thread Cert.ExRefIdeal.nD Cert.ExRefIdeal.τ).loc Cert.ExRefIdeal.main_arg5)
          ∧ r.2.mem ((c.tc : Thread Cert.ExRefIdeal.nD Cert.ExRefIdeal.τ).loc Cert.ExRefIdeal.main_arg6) = m' ((c.tc : Thread Cert.ExRefIdeal.nD Cert.ExRefIdeal.τ).loc Cert.ExRefIdeal.main_arg6))

def preserves_Att_AttIdeal : Prop :=
  True

def algebraic_AttIdeal_AttRefIdeal_pre_finite [hAttIdeal : Cert.AttIdeal.Facts] [hAttRefIdeal : Cert.AttRefIdeal.Facts] [hPre_finite : Cert.Pre_finite.Facts] : Prop :=
  ∀ (m : (ℓ : Loc Cert.AttIdeal.nD Cert.AttIdeal.τ Cert.AttIdeal.sig) → Buf (Elt Ideal) ℓ) (g : Dev Cert.AttIdeal.nD → PrngReg)
    (m' : (ℓ : Loc Cert.AttRefIdeal.nD Cert.AttRefIdeal.τ Cert.AttRefIdeal.sig) → Buf (Elt Ideal) ℓ) (g' : Dev Cert.AttRefIdeal.nD → PrngReg), Pre_AttIdeal_finite m →
    (∀ c : Dev Cert.AttIdeal.nD,
      m' ((c.tc : Thread Cert.AttRefIdeal.nD Cert.AttRefIdeal.τ).loc Cert.AttRefIdeal.main_arg0) = m ((c.tc : Thread Cert.AttIdeal.nD Cert.AttIdeal.τ).loc Cert.AttIdeal.main_arg0)
      ∧ m' ((c.tc : Thread Cert.AttRefIdeal.nD Cert.AttRefIdeal.τ).loc Cert.AttRefIdeal.main_arg1) = m ((c.tc : Thread Cert.AttIdeal.nD Cert.AttIdeal.τ).loc Cert.AttIdeal.main_arg1)
      ∧ m' ((c.tc : Thread Cert.AttRefIdeal.nD Cert.AttRefIdeal.τ).loc Cert.AttRefIdeal.main_arg2) = m ((c.tc : Thread Cert.AttIdeal.nD Cert.AttIdeal.τ).loc Cert.AttIdeal.main_arg2)
      ∧ m' ((c.tc : Thread Cert.AttRefIdeal.nD Cert.AttRefIdeal.τ).loc Cert.AttRefIdeal.main_arg3) = m ((c.tc : Thread Cert.AttIdeal.nD Cert.AttIdeal.τ).loc Cert.AttIdeal.main_arg3)
      ∧ m' ((c.tc : Thread Cert.AttRefIdeal.nD Cert.AttRefIdeal.τ).loc Cert.AttRefIdeal.main_arg4) = m ((c.tc : Thread Cert.AttIdeal.nD Cert.AttIdeal.τ).loc Cert.AttIdeal.main_arg4)
      ∧ m' ((c.tc : Thread Cert.AttRefIdeal.nD Cert.AttRefIdeal.τ).loc Cert.AttRefIdeal.main_arg5) = m ((c.tc : Thread Cert.AttIdeal.nD Cert.AttIdeal.τ).loc Cert.AttIdeal.main_arg5)
      ∧ m' ((c.tc : Thread Cert.AttRefIdeal.nD Cert.AttRefIdeal.τ).loc Cert.AttRefIdeal.main_arg6) = m ((c.tc : Thread Cert.AttIdeal.nD Cert.AttIdeal.τ).loc Cert.AttIdeal.main_arg6)) →
    ∃ (v0 : (c : Dev Cert.AttIdeal.nD) → Buf (Elt Ideal) ((c.tc : Thread Cert.AttIdeal.nD Cert.AttIdeal.τ).loc Cert.AttIdeal.main_v4)),
      θ_run (Cert.AttIdeal.defs (F := Ideal)) (onTc (τ := Cert.AttIdeal.τ) (Cert.AttIdeal.main (F := Ideal))) ⟨m, fun _ => 0, g⟩ (fun r => ∀ c : Dev Cert.AttIdeal.nD,
          r.2.mem ((c.tc : Thread Cert.AttIdeal.nD Cert.AttIdeal.τ).loc Cert.AttIdeal.main_v4) = v0 c
          ∧ r.2.mem ((c.tc : Thread Cert.AttIdeal.nD Cert.AttIdeal.τ).loc Cert.AttIdeal.main_arg0) = m ((c.tc : Thread Cert.AttIdeal.nD Cert.AttIdeal.τ).loc Cert.AttIdeal.main_arg0)
          ∧ r.2.mem ((c.tc : Thread Cert.AttIdeal.nD Cert.AttIdeal.τ).loc Cert.AttIdeal.main_arg1) = m ((c.tc : Thread Cert.AttIdeal.nD Cert.AttIdeal.τ).loc Cert.AttIdeal.main_arg1)
          ∧ r.2.mem ((c.tc : Thread Cert.AttIdeal.nD Cert.AttIdeal.τ).loc Cert.AttIdeal.main_arg2) = m ((c.tc : Thread Cert.AttIdeal.nD Cert.AttIdeal.τ).loc Cert.AttIdeal.main_arg2)
          ∧ r.2.mem ((c.tc : Thread Cert.AttIdeal.nD Cert.AttIdeal.τ).loc Cert.AttIdeal.main_arg3) = m ((c.tc : Thread Cert.AttIdeal.nD Cert.AttIdeal.τ).loc Cert.AttIdeal.main_arg3)
          ∧ r.2.mem ((c.tc : Thread Cert.AttIdeal.nD Cert.AttIdeal.τ).loc Cert.AttIdeal.main_arg4) = m ((c.tc : Thread Cert.AttIdeal.nD Cert.AttIdeal.τ).loc Cert.AttIdeal.main_arg4)
          ∧ r.2.mem ((c.tc : Thread Cert.AttIdeal.nD Cert.AttIdeal.τ).loc Cert.AttIdeal.main_arg5) = m ((c.tc : Thread Cert.AttIdeal.nD Cert.AttIdeal.τ).loc Cert.AttIdeal.main_arg5)
          ∧ r.2.mem ((c.tc : Thread Cert.AttIdeal.nD Cert.AttIdeal.τ).loc Cert.AttIdeal.main_arg6) = m ((c.tc : Thread Cert.AttIdeal.nD Cert.AttIdeal.τ).loc Cert.AttIdeal.main_arg6))
      ∧ θ_run (Cert.AttRefIdeal.defs (F := Ideal)) (onTc (τ := Cert.AttRefIdeal.τ) (Cert.AttRefIdeal.main (F := Ideal))) ⟨m', fun _ => 0, g'⟩ (fun r => ∀ c : Dev Cert.AttRefIdeal.nD,
          r.2.mem ((c.tc : Thread Cert.AttRefIdeal.nD Cert.AttRefIdeal.τ).loc Cert.AttRefIdeal.main_v52) = v0 c
          ∧ r.2.mem ((c.tc : Thread Cert.AttRefIdeal.nD Cert.AttRefIdeal.τ).loc Cert.AttRefIdeal.main_arg0) = m' ((c.tc : Thread Cert.AttRefIdeal.nD Cert.AttRefIdeal.τ).loc Cert.AttRefIdeal.main_arg0)
          ∧ r.2.mem ((c.tc : Thread Cert.AttRefIdeal.nD Cert.AttRefIdeal.τ).loc Cert.AttRefIdeal.main_arg1) = m' ((c.tc : Thread Cert.AttRefIdeal.nD Cert.AttRefIdeal.τ).loc Cert.AttRefIdeal.main_arg1)
          ∧ r.2.mem ((c.tc : Thread Cert.AttRefIdeal.nD Cert.AttRefIdeal.τ).loc Cert.AttRefIdeal.main_arg2) = m' ((c.tc : Thread Cert.AttRefIdeal.nD Cert.AttRefIdeal.τ).loc Cert.AttRefIdeal.main_arg2)
          ∧ r.2.mem ((c.tc : Thread Cert.AttRefIdeal.nD Cert.AttRefIdeal.τ).loc Cert.AttRefIdeal.main_arg3) = m' ((c.tc : Thread Cert.AttRefIdeal.nD Cert.AttRefIdeal.τ).loc Cert.AttRefIdeal.main_arg3)
          ∧ r.2.mem ((c.tc : Thread Cert.AttRefIdeal.nD Cert.AttRefIdeal.τ).loc Cert.AttRefIdeal.main_arg4) = m' ((c.tc : Thread Cert.AttRefIdeal.nD Cert.AttRefIdeal.τ).loc Cert.AttRefIdeal.main_arg4)
          ∧ r.2.mem ((c.tc : Thread Cert.AttRefIdeal.nD Cert.AttRefIdeal.τ).loc Cert.AttRefIdeal.main_arg5) = m' ((c.tc : Thread Cert.AttRefIdeal.nD Cert.AttRefIdeal.τ).loc Cert.AttRefIdeal.main_arg5)
          ∧ r.2.mem ((c.tc : Thread Cert.AttRefIdeal.nD Cert.AttRefIdeal.τ).loc Cert.AttRefIdeal.main_arg6) = m' ((c.tc : Thread Cert.AttRefIdeal.nD Cert.AttRefIdeal.τ).loc Cert.AttRefIdeal.main_arg6))

def preserves_Gla_GlaIdeal : Prop :=
  True

def algebraic_GlaIdeal_GlaRefIdeal [hGlaIdeal : Cert.GlaIdeal.Facts] [hGlaRefIdeal : Cert.GlaRefIdeal.Facts] : Prop :=
  ∀ (m : (ℓ : Loc Cert.GlaIdeal.nD Cert.GlaIdeal.τ Cert.GlaIdeal.sig) → Buf (Elt Ideal) ℓ) (g : Dev Cert.GlaIdeal.nD → PrngReg)
    (m' : (ℓ : Loc Cert.GlaRefIdeal.nD Cert.GlaRefIdeal.τ Cert.GlaRefIdeal.sig) → Buf (Elt Ideal) ℓ) (g' : Dev Cert.GlaRefIdeal.nD → PrngReg), Pre_GlaIdeal m →
    (∀ c : Dev Cert.GlaIdeal.nD,
      m' ((c.tc : Thread Cert.GlaRefIdeal.nD Cert.GlaRefIdeal.τ).loc Cert.GlaRefIdeal.main_arg0) = m ((c.tc : Thread Cert.GlaIdeal.nD Cert.GlaIdeal.τ).loc Cert.GlaIdeal.main_arg0)
      ∧ m' ((c.tc : Thread Cert.GlaRefIdeal.nD Cert.GlaRefIdeal.τ).loc Cert.GlaRefIdeal.main_arg1) = m ((c.tc : Thread Cert.GlaIdeal.nD Cert.GlaIdeal.τ).loc Cert.GlaIdeal.main_arg1)
      ∧ m' ((c.tc : Thread Cert.GlaRefIdeal.nD Cert.GlaRefIdeal.τ).loc Cert.GlaRefIdeal.main_arg2) = m ((c.tc : Thread Cert.GlaIdeal.nD Cert.GlaIdeal.τ).loc Cert.GlaIdeal.main_arg2)
      ∧ m' ((c.tc : Thread Cert.GlaRefIdeal.nD Cert.GlaRefIdeal.τ).loc Cert.GlaRefIdeal.main_arg3) = m ((c.tc : Thread Cert.GlaIdeal.nD Cert.GlaIdeal.τ).loc Cert.GlaIdeal.main_arg3)) →
    ∃ (v0 : (c : Dev Cert.GlaIdeal.nD) → Buf (Elt Ideal) ((c.tc : Thread Cert.GlaIdeal.nD Cert.GlaIdeal.τ).loc Cert.GlaIdeal.main_v9_0)) (v1 : (c : Dev Cert.GlaIdeal.nD) → Buf (Elt Ideal) ((c.tc : Thread Cert.GlaIdeal.nD Cert.GlaIdeal.τ).loc Cert.GlaIdeal.main_v9_1)) (v2 : (c : Dev Cert.GlaIdeal.nD) → Buf (Elt Ideal) ((c.tc : Thread Cert.GlaIdeal.nD Cert.GlaIdeal.τ).loc Cert.GlaIdeal.main_v9_2)) (v3 : (c : Dev Cert.GlaIdeal.nD) → Buf (Elt Ideal) ((c.tc : Thread Cert.GlaIdeal.nD Cert.GlaIdeal.τ).loc Cert.GlaIdeal.main_v9_3)) (v4 : (c : Dev Cert.GlaIdeal.nD) → Buf (Elt Ideal) ((c.tc : Thread Cert.GlaIdeal.nD Cert.GlaIdeal.τ).loc Cert.GlaIdeal.main_v9_4)),
      θ_run (Cert.GlaIdeal.defs (F := Ideal)) (onTc (τ := Cert.GlaIdeal.τ) (Cert.GlaIdeal.main (F := Ideal))) ⟨m, fun _ => 0, g⟩ (fun r => ∀ c : Dev Cert.GlaIdeal.nD,
          r.2.mem ((c.tc : Thread Cert.GlaIdeal.nD Cert.GlaIdeal.τ).loc Cert.GlaIdeal.main_v9_0) = v0 c
          ∧ r.2.mem ((c.tc : Thread Cert.GlaIdeal.nD Cert.GlaIdeal.τ).loc Cert.GlaIdeal.main_v9_1) = v1 c
          ∧ r.2.mem ((c.tc : Thread Cert.GlaIdeal.nD Cert.GlaIdeal.τ).loc Cert.GlaIdeal.main_v9_2) = v2 c
          ∧ r.2.mem ((c.tc : Thread Cert.GlaIdeal.nD Cert.GlaIdeal.τ).loc Cert.GlaIdeal.main_v9_3) = v3 c
          ∧ r.2.mem ((c.tc : Thread Cert.GlaIdeal.nD Cert.GlaIdeal.τ).loc Cert.GlaIdeal.main_v9_4) = v4 c
          ∧ r.2.mem ((c.tc : Thread Cert.GlaIdeal.nD Cert.GlaIdeal.τ).loc Cert.GlaIdeal.main_arg0) = m ((c.tc : Thread Cert.GlaIdeal.nD Cert.GlaIdeal.τ).loc Cert.GlaIdeal.main_arg0)
          ∧ r.2.mem ((c.tc : Thread Cert.GlaIdeal.nD Cert.GlaIdeal.τ).loc Cert.GlaIdeal.main_arg1) = m ((c.tc : Thread Cert.GlaIdeal.nD Cert.GlaIdeal.τ).loc Cert.GlaIdeal.main_arg1)
          ∧ r.2.mem ((c.tc : Thread Cert.GlaIdeal.nD Cert.GlaIdeal.τ).loc Cert.GlaIdeal.main_arg2) = m ((c.tc : Thread Cert.GlaIdeal.nD Cert.GlaIdeal.τ).loc Cert.GlaIdeal.main_arg2)
          ∧ r.2.mem ((c.tc : Thread Cert.GlaIdeal.nD Cert.GlaIdeal.τ).loc Cert.GlaIdeal.main_arg3) = m ((c.tc : Thread Cert.GlaIdeal.nD Cert.GlaIdeal.τ).loc Cert.GlaIdeal.main_arg3))
      ∧ θ_run (Cert.GlaRefIdeal.defs (F := Ideal)) (onTc (τ := Cert.GlaRefIdeal.τ) (Cert.GlaRefIdeal.main (F := Ideal))) ⟨m', fun _ => 0, g'⟩ (fun r => ∀ c : Dev Cert.GlaRefIdeal.nD,
          r.2.mem ((c.tc : Thread Cert.GlaRefIdeal.nD Cert.GlaRefIdeal.τ).loc Cert.GlaRefIdeal.main_v17) = v0 c
          ∧ r.2.mem ((c.tc : Thread Cert.GlaRefIdeal.nD Cert.GlaRefIdeal.τ).loc Cert.GlaRefIdeal.main_v18) = v1 c
          ∧ r.2.mem ((c.tc : Thread Cert.GlaRefIdeal.nD Cert.GlaRefIdeal.τ).loc Cert.GlaRefIdeal.main_v19) = v2 c
          ∧ r.2.mem ((c.tc : Thread Cert.GlaRefIdeal.nD Cert.GlaRefIdeal.τ).loc Cert.GlaRefIdeal.main_v20) = v3 c
          ∧ r.2.mem ((c.tc : Thread Cert.GlaRefIdeal.nD Cert.GlaRefIdeal.τ).loc Cert.GlaRefIdeal.main_v21) = v4 c
          ∧ r.2.mem ((c.tc : Thread Cert.GlaRefIdeal.nD Cert.GlaRefIdeal.τ).loc Cert.GlaRefIdeal.main_arg0) = m' ((c.tc : Thread Cert.GlaRefIdeal.nD Cert.GlaRefIdeal.τ).loc Cert.GlaRefIdeal.main_arg0)
          ∧ r.2.mem ((c.tc : Thread Cert.GlaRefIdeal.nD Cert.GlaRefIdeal.τ).loc Cert.GlaRefIdeal.main_arg1) = m' ((c.tc : Thread Cert.GlaRefIdeal.nD Cert.GlaRefIdeal.τ).loc Cert.GlaRefIdeal.main_arg1)
          ∧ r.2.mem ((c.tc : Thread Cert.GlaRefIdeal.nD Cert.GlaRefIdeal.τ).loc Cert.GlaRefIdeal.main_arg2) = m' ((c.tc : Thread Cert.GlaRefIdeal.nD Cert.GlaRefIdeal.τ).loc Cert.GlaRefIdeal.main_arg2)
          ∧ r.2.mem ((c.tc : Thread Cert.GlaRefIdeal.nD Cert.GlaRefIdeal.τ).loc Cert.GlaRefIdeal.main_arg3) = m' ((c.tc : Thread Cert.GlaRefIdeal.nD Cert.GlaRefIdeal.τ).loc Cert.GlaRefIdeal.main_arg3))

def preserves_Swa_SwaIdeal : Prop :=
  IdealRules.named_const.Statement Cert.SwaIdeal.κ "mask" .f32 0xF149F2CA#32 ⊥

def algebraic_SwaIdeal_SwaRefIdeal_pre_finite_window [hSwaIdeal : Cert.SwaIdeal.Facts] [hSwaRefIdeal : Cert.SwaRefIdeal.Facts] [hPre_finite_window : Cert.Pre_finite_window.Facts] : Prop :=
  ∀ (m : (ℓ : Loc Cert.SwaIdeal.nD Cert.SwaIdeal.τ Cert.SwaIdeal.sig) → Buf (Elt Ideal) ℓ) (g : Dev Cert.SwaIdeal.nD → PrngReg)
    (m' : (ℓ : Loc Cert.SwaRefIdeal.nD Cert.SwaRefIdeal.τ Cert.SwaRefIdeal.sig) → Buf (Elt Ideal) ℓ) (g' : Dev Cert.SwaRefIdeal.nD → PrngReg), Pre_SwaIdeal_finite_window m →
    (∀ c : Dev Cert.SwaIdeal.nD,
      m' ((c.tc : Thread Cert.SwaRefIdeal.nD Cert.SwaRefIdeal.τ).loc Cert.SwaRefIdeal.main_arg0) = m ((c.tc : Thread Cert.SwaIdeal.nD Cert.SwaIdeal.τ).loc Cert.SwaIdeal.main_arg0)
      ∧ m' ((c.tc : Thread Cert.SwaRefIdeal.nD Cert.SwaRefIdeal.τ).loc Cert.SwaRefIdeal.main_arg1) = m ((c.tc : Thread Cert.SwaIdeal.nD Cert.SwaIdeal.τ).loc Cert.SwaIdeal.main_arg1)
      ∧ m' ((c.tc : Thread Cert.SwaRefIdeal.nD Cert.SwaRefIdeal.τ).loc Cert.SwaRefIdeal.main_arg2) = m ((c.tc : Thread Cert.SwaIdeal.nD Cert.SwaIdeal.τ).loc Cert.SwaIdeal.main_arg2)
      ∧ m' ((c.tc : Thread Cert.SwaRefIdeal.nD Cert.SwaRefIdeal.τ).loc Cert.SwaRefIdeal.main_arg3) = m ((c.tc : Thread Cert.SwaIdeal.nD Cert.SwaIdeal.τ).loc Cert.SwaIdeal.main_arg3)
      ∧ m' ((c.tc : Thread Cert.SwaRefIdeal.nD Cert.SwaRefIdeal.τ).loc Cert.SwaRefIdeal.main_arg4) = m ((c.tc : Thread Cert.SwaIdeal.nD Cert.SwaIdeal.τ).loc Cert.SwaIdeal.main_arg4)
      ∧ m' ((c.tc : Thread Cert.SwaRefIdeal.nD Cert.SwaRefIdeal.τ).loc Cert.SwaRefIdeal.main_arg5) = m ((c.tc : Thread Cert.SwaIdeal.nD Cert.SwaIdeal.τ).loc Cert.SwaIdeal.main_arg5)
      ∧ m' ((c.tc : Thread Cert.SwaRefIdeal.nD Cert.SwaRefIdeal.τ).loc Cert.SwaRefIdeal.main_arg6) = m ((c.tc : Thread Cert.SwaIdeal.nD Cert.SwaIdeal.τ).loc Cert.SwaIdeal.main_arg6)
      ∧ m' ((c.tc : Thread Cert.SwaRefIdeal.nD Cert.SwaRefIdeal.τ).loc Cert.SwaRefIdeal.main_arg7) = m ((c.tc : Thread Cert.SwaIdeal.nD Cert.SwaIdeal.τ).loc Cert.SwaIdeal.main_arg7)) →
    ∃ (v0 : (c : Dev Cert.SwaIdeal.nD) → Buf (Elt Ideal) ((c.tc : Thread Cert.SwaIdeal.nD Cert.SwaIdeal.τ).loc Cert.SwaIdeal.main_v5)),
      θ_run (Cert.SwaIdeal.defs (F := Ideal)) (onTc (τ := Cert.SwaIdeal.τ) (Cert.SwaIdeal.main (F := Ideal))) ⟨m, fun _ => 0, g⟩ (fun r => ∀ c : Dev Cert.SwaIdeal.nD,
          r.2.mem ((c.tc : Thread Cert.SwaIdeal.nD Cert.SwaIdeal.τ).loc Cert.SwaIdeal.main_v5) = v0 c
          ∧ r.2.mem ((c.tc : Thread Cert.SwaIdeal.nD Cert.SwaIdeal.τ).loc Cert.SwaIdeal.main_arg0) = m ((c.tc : Thread Cert.SwaIdeal.nD Cert.SwaIdeal.τ).loc Cert.SwaIdeal.main_arg0)
          ∧ r.2.mem ((c.tc : Thread Cert.SwaIdeal.nD Cert.SwaIdeal.τ).loc Cert.SwaIdeal.main_arg1) = m ((c.tc : Thread Cert.SwaIdeal.nD Cert.SwaIdeal.τ).loc Cert.SwaIdeal.main_arg1)
          ∧ r.2.mem ((c.tc : Thread Cert.SwaIdeal.nD Cert.SwaIdeal.τ).loc Cert.SwaIdeal.main_arg2) = m ((c.tc : Thread Cert.SwaIdeal.nD Cert.SwaIdeal.τ).loc Cert.SwaIdeal.main_arg2)
          ∧ r.2.mem ((c.tc : Thread Cert.SwaIdeal.nD Cert.SwaIdeal.τ).loc Cert.SwaIdeal.main_arg3) = m ((c.tc : Thread Cert.SwaIdeal.nD Cert.SwaIdeal.τ).loc Cert.SwaIdeal.main_arg3)
          ∧ r.2.mem ((c.tc : Thread Cert.SwaIdeal.nD Cert.SwaIdeal.τ).loc Cert.SwaIdeal.main_arg4) = m ((c.tc : Thread Cert.SwaIdeal.nD Cert.SwaIdeal.τ).loc Cert.SwaIdeal.main_arg4)
          ∧ r.2.mem ((c.tc : Thread Cert.SwaIdeal.nD Cert.SwaIdeal.τ).loc Cert.SwaIdeal.main_arg5) = m ((c.tc : Thread Cert.SwaIdeal.nD Cert.SwaIdeal.τ).loc Cert.SwaIdeal.main_arg5)
          ∧ r.2.mem ((c.tc : Thread Cert.SwaIdeal.nD Cert.SwaIdeal.τ).loc Cert.SwaIdeal.main_arg6) = m ((c.tc : Thread Cert.SwaIdeal.nD Cert.SwaIdeal.τ).loc Cert.SwaIdeal.main_arg6)
          ∧ r.2.mem ((c.tc : Thread Cert.SwaIdeal.nD Cert.SwaIdeal.τ).loc Cert.SwaIdeal.main_arg7) = m ((c.tc : Thread Cert.SwaIdeal.nD Cert.SwaIdeal.τ).loc Cert.SwaIdeal.main_arg7))
      ∧ θ_run (Cert.SwaRefIdeal.defs (F := Ideal)) (onTc (τ := Cert.SwaRefIdeal.τ) (Cert.SwaRefIdeal.main (F := Ideal))) ⟨m', fun _ => 0, g'⟩ (fun r => ∀ c : Dev Cert.SwaRefIdeal.nD,
          r.2.mem ((c.tc : Thread Cert.SwaRefIdeal.nD Cert.SwaRefIdeal.τ).loc Cert.SwaRefIdeal.main_v83) = v0 c
          ∧ r.2.mem ((c.tc : Thread Cert.SwaRefIdeal.nD Cert.SwaRefIdeal.τ).loc Cert.SwaRefIdeal.main_arg0) = m' ((c.tc : Thread Cert.SwaRefIdeal.nD Cert.SwaRefIdeal.τ).loc Cert.SwaRefIdeal.main_arg0)
          ∧ r.2.mem ((c.tc : Thread Cert.SwaRefIdeal.nD Cert.SwaRefIdeal.τ).loc Cert.SwaRefIdeal.main_arg1) = m' ((c.tc : Thread Cert.SwaRefIdeal.nD Cert.SwaRefIdeal.τ).loc Cert.SwaRefIdeal.main_arg1)
          ∧ r.2.mem ((c.tc : Thread Cert.SwaRefIdeal.nD Cert.SwaRefIdeal.τ).loc Cert.SwaRefIdeal.main_arg2) = m' ((c.tc : Thread Cert.SwaRefIdeal.nD Cert.SwaRefIdeal.τ).loc Cert.SwaRefIdeal.main_arg2)
          ∧ r.2.mem ((c.tc : Thread Cert.SwaRefIdeal.nD Cert.SwaRefIdeal.τ).loc Cert.SwaRefIdeal.main_arg3) = m' ((c.tc : Thread Cert.SwaRefIdeal.nD Cert.SwaRefIdeal.τ).loc Cert.SwaRefIdeal.main_arg3)
          ∧ r.2.mem ((c.tc : Thread Cert.SwaRefIdeal.nD Cert.SwaRefIdeal.τ).loc Cert.SwaRefIdeal.main_arg4) = m' ((c.tc : Thread Cert.SwaRefIdeal.nD Cert.SwaRefIdeal.τ).loc Cert.SwaRefIdeal.main_arg4)
          ∧ r.2.mem ((c.tc : Thread Cert.SwaRefIdeal.nD Cert.SwaRefIdeal.τ).loc Cert.SwaRefIdeal.main_arg5) = m' ((c.tc : Thread Cert.SwaRefIdeal.nD Cert.SwaRefIdeal.τ).loc Cert.SwaRefIdeal.main_arg5)
          ∧ r.2.mem ((c.tc : Thread Cert.SwaRefIdeal.nD Cert.SwaRefIdeal.τ).loc Cert.SwaRefIdeal.main_arg6) = m' ((c.tc : Thread Cert.SwaRefIdeal.nD Cert.SwaRefIdeal.τ).loc Cert.SwaRefIdeal.main_arg6)
          ∧ r.2.mem ((c.tc : Thread Cert.SwaRefIdeal.nD Cert.SwaRefIdeal.τ).loc Cert.SwaRefIdeal.main_arg7) = m' ((c.tc : Thread Cert.SwaRefIdeal.nD Cert.SwaRefIdeal.τ).loc Cert.SwaRefIdeal.main_arg7))

def Claim : Prop :=
  ∃ (hKv : Cert.Kv.Facts) (hKvIdeal : Cert.KvIdeal.Facts) (hKvRefIdeal : Cert.KvRefIdeal.Facts) (hEx : Cert.Ex.Facts) (hExIdeal : Cert.ExIdeal.Facts) (hExRefIdeal : Cert.ExRefIdeal.Facts) (hAtt : Cert.Att.Facts) (hAttIdeal : Cert.AttIdeal.Facts) (hAttRefIdeal : Cert.AttRefIdeal.Facts) (hGla : Cert.Gla.Facts) (hGlaIdeal : Cert.GlaIdeal.Facts) (hGlaRefIdeal : Cert.GlaRefIdeal.Facts) (hSwa : Cert.Swa.Facts) (hSwaIdeal : Cert.SwaIdeal.Facts) (hSwaRefIdeal : Cert.SwaRefIdeal.Facts) (hPre_tables : Cert.Pre_tables.Facts) (hPre_finite : Cert.Pre_finite.Facts) (hPre_finite_window : Cert.Pre_finite_window.Facts) (hOn_used_blocks : Cert.On_used_blocks.Facts),
    quiescent_Kv (hKv := hKv)
    ∧ quiescent_KvIdeal (hKvIdeal := hKvIdeal)
    ∧ quiescent_KvRefIdeal (hKvRefIdeal := hKvRefIdeal)
    ∧ quiescent_Ex (hEx := hEx) (hPre_tables := hPre_tables)
    ∧ quiescent_ExIdeal (hExIdeal := hExIdeal) (hPre_tables := hPre_tables)
    ∧ quiescent_ExRefIdeal (hExRefIdeal := hExRefIdeal)
    ∧ quiescent_ExRefIdeal_pre_tables (hExRefIdeal := hExRefIdeal) (hPre_tables := hPre_tables)
    ∧ quiescent_Att (hAtt := hAtt)
    ∧ quiescent_AttIdeal (hAttIdeal := hAttIdeal)
    ∧ quiescent_AttIdeal_pre_finite (hAttIdeal := hAttIdeal) (hPre_finite := hPre_finite)
    ∧ quiescent_AttRefIdeal (hAttRefIdeal := hAttRefIdeal)
    ∧ quiescent_AttRefIdeal_pre_finite (hAttRefIdeal := hAttRefIdeal) (hPre_finite := hPre_finite)
    ∧ quiescent_Gla (hGla := hGla)
    ∧ quiescent_GlaIdeal (hGlaIdeal := hGlaIdeal)
    ∧ quiescent_GlaRefIdeal (hGlaRefIdeal := hGlaRefIdeal)
    ∧ quiescent_Swa (hSwa := hSwa)
    ∧ quiescent_SwaIdeal (hSwaIdeal := hSwaIdeal)
    ∧ quiescent_SwaIdeal_pre_finite_window (hSwaIdeal := hSwaIdeal) (hPre_finite_window := hPre_finite_window)
    ∧ quiescent_SwaRefIdeal (hSwaRefIdeal := hSwaRefIdeal)
    ∧ quiescent_SwaRefIdeal_pre_finite_window (hSwaRefIdeal := hSwaRefIdeal) (hPre_finite_window := hPre_finite_window)
    ∧ preserves_Kv_KvIdeal
    ∧ algebraic_KvIdeal_KvRefIdeal (hKvIdeal := hKvIdeal) (hKvRefIdeal := hKvRefIdeal)
    ∧ preserves_Ex_ExIdeal
    ∧ algebraic_ExIdeal_ExRefIdeal_on_used_blocks (hExIdeal := hExIdeal) (hExRefIdeal := hExRefIdeal) (hPre_tables := hPre_tables) (hOn_used_blocks := hOn_used_blocks)
    ∧ preserves_Att_AttIdeal
    ∧ algebraic_AttIdeal_AttRefIdeal_pre_finite (hAttIdeal := hAttIdeal) (hAttRefIdeal := hAttRefIdeal) (hPre_finite := hPre_finite)
    ∧ preserves_Gla_GlaIdeal
    ∧ algebraic_GlaIdeal_GlaRefIdeal (hGlaIdeal := hGlaIdeal) (hGlaRefIdeal := hGlaRefIdeal)
    ∧ preserves_Swa_SwaIdeal
    ∧ algebraic_SwaIdeal_SwaRefIdeal_pre_finite_window (hSwaIdeal := hSwaIdeal) (hSwaRefIdeal := hSwaRefIdeal) (hPre_finite_window := hPre_finite_window)
-- ==== On_used_blocks.lean ====
abbrev S288 : Shape := ⟨1, ![288]⟩
abbrev S1 : Shape := ⟨1, ![1]⟩
abbrev S2359296x128 : Shape := ⟨2, ![2359296, 128]⟩
abbrev S128x1024x2048 : Shape := ⟨3, ![128, 1024, 2048]⟩
abbrev S128x1x2048 : Shape := ⟨3, ![128, 1, 2048]⟩
abbrev S128x1024x1024 : Shape := ⟨3, ![128, 1024, 1024]⟩
abbrev S128x1x1024 : Shape := ⟨3, ![128, 1, 1024]⟩
abbrev S2359296 : Shape := ⟨1, ![2359296]⟩
abbrev S2359296x1 : Shape := ⟨2, ![2359296, 1]⟩
abbrev S_ : Shape := ⟨0, ![]⟩

class Facts : Prop where
  bcast_S2359296_S2359296x1_0 : S2359296.BroadcastsInDim S2359296x1 (![0] : Fin 1 → Fin S2359296x1.rank)
  shapeCasts_S1_S_ : S1.ShapeCasts S_
  bcast_S_S2359296x1 : S_.BroadcastsInDim S2359296x1 (![] : Fin 0 → Fin S2359296x1.rank)
  bcast_S2359296x1_S2359296x128_0_1 : S2359296x1.BroadcastsInDim S2359296x128 (![0, 1] : Fin 2 → Fin S2359296x128.rank)

variable [Facts]

def fn {F : FTy → Type} [FloatOps F] (main_arg0 : IVec S288 32) (main_arg1 : IVec S1 32) (main_arg2 : FVec F S2359296x128 .f32) (main_arg3 : FVec F S128x1024x2048 .bf16) (main_arg4 : FVec F S128x1x2048 .f32) (main_arg5 : FVec F S128x1024x1024 .bf16) (main_arg6 : FVec F S128x1x1024 .f32) : IVec S2359296x128 1 :=
  let main_v0 : IVec S2359296 32 := iotaInDim S2359296 32 0
  let main_v1 : IVec S2359296x1 32 := broadcastInDim S2359296x1 ![0] bcast_S2359296_S2359296x1_0 main_v0
  let main_v2 : IVec S_ 32 := shapeCast S_ main_arg1 shapeCasts_S1_S_
  let main_c : IVec S_ 32 := constantI S_ 32 8192#32
  let main_v3 : IVec S_ 32 := muli main_v2 main_c
  let main_v4 : IVec S2359296x1 32 := broadcastInDim S2359296x1 ![] bcast_S_S2359296x1 main_v3
  let main_v5 : IVec S2359296x1 1 := cmpi .slt main_v1 main_v4
  let main_v6 : IVec S2359296x128 1 := broadcastInDim S2359296x128 ![0, 1] bcast_S2359296x1_S2359296x128_0_1 main_v5
  main_v6
-- ==== Pre_finite.lean ====
abbrev S32x2048x1024 : Shape := ⟨3, ![32, 2048, 1024]⟩
abbrev S128x256x1024 : Shape := ⟨3, ![128, 256, 1024]⟩
abbrev S1024x1024 : Shape := ⟨2, ![1024, 1024]⟩
abbrev S1024 : Shape := ⟨1, ![1024]⟩
abbrev S_ : Shape := ⟨0, ![]⟩

class Facts : Prop where
  bcast_S_S128x256x1024 : S_.BroadcastsInDim S128x256x1024 (![] : Fin 0 → Fin S128x256x1024.rank)
  reducesTo_S128x256x1024_S_d0_1_2 : S128x256x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn {F : FTy → Type} [FloatOps F] (main_arg0 : FVec F S32x2048x1024 .f32) (main_arg1 : FVec F S128x256x1024 .f32) (main_arg2 : FVec F S128x256x1024 .f32) (main_arg3 : FVec F S1024x1024 .f32) (main_arg4 : FVec F S1024x1024 .f32) (main_arg5 : FVec F S1024 .f32) (main_arg6 : FVec F S1024 .f32) : IVec S_ 1 :=
  let main_v0 : FVec F S128x256x1024 .f32 := Host.absf main_arg1
  let main_cst : FVec F S_ .f32 := constant S_ .f32 0x7F800000#32
  let main_v1 : FVec F S128x256x1024 .f32 := broadcastInDim S128x256x1024 ![] bcast_S_S128x256x1024 main_cst
  let main_v2 : IVec S128x256x1024 1 := cmpf .olt main_v0 main_v1
  let main_c : IVec S_ 1 := constantI S_ 1 1#1
  let main_v3 : IVec S_ 1 := (fun x v => Host.reduce IntOp.andi x v reducesTo_S128x256x1024_S_d0_1_2 h_S_) main_v2 main_c
  let main_v4 : FVec F S1024x1024 .f32 := Host.absf main_arg3
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  main_v8
-- ==== Pre_finite_window.lean ====
abbrev S32x2048x1024 : Shape := ⟨3, ![32, 2048, 1024]⟩
abbrev S32x2176x256 : Shape := ⟨3, ![32, 2176, 256]⟩
abbrev S1024x1024 : Shape := ⟨2, ![1024, 1024]⟩
abbrev S16 : Shape := ⟨1, ![16]⟩
abbrev S1024 : Shape := ⟨1, ![1024]⟩
abbrev S_ : Shape := ⟨0, ![]⟩

class Facts : Prop where
  bcast_S_S32x2176x256 : S_.BroadcastsInDim S32x2176x256 (![] : Fin 0 → Fin S32x2176x256.rank)
  reducesTo_S32x2176x256_S_d0_1_2 : S32x2176x256.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S16 : S_.BroadcastsInDim S16 (![] : Fin 0 → Fin S16.rank)
  reducesTo_S16_S_d0 : S16.ReducesTo [0] S_

variable [Facts]

def fn {F : FTy → Type} [FloatOps F] (main_arg0 : FVec F S32x2048x1024 .f32) (main_arg1 : FVec F S32x2176x256 .f32) (main_arg2 : FVec F S32x2176x256 .f32) (main_arg3 : FVec F S1024x1024 .f32) (main_arg4 : FVec F S16 .f32) (main_arg5 : FVec F S1024x1024 .f32) (main_arg6 : FVec F S1024 .f32) (main_arg7 : FVec F S1024 .f32) : IVec S_ 1 :=
  let main_v0 : FVec F S32x2176x256 .f32 := Host.absf main_arg1
  let main_cst : FVec F S_ .f32 := constant S_ .f32 0x7F800000#32
  let main_v1 : FVec F S32x2176x256 .f32 := broadcastInDim S32x2176x256 ![] bcast_S_S32x2176x256 main_cst
  let main_v2 : IVec S32x2176x256 1 := cmpf .olt main_v0 main_v1
  let main_c : IVec S_ 1 := constantI S_ 1 1#1
  let main_v3 : IVec S_ 1 := (fun x v => Host.reduce IntOp.andi x v reducesTo_S32x2176x256_S_d0_1_2 h_S_) main_v2 main_c
  let main_v4 : FVec F S1024x1024 .f32 := Host.absf main_arg3
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S16 .f32 := Host.absf main_arg4
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  main_v13
-- ==== Pre_tables.lean ====
abbrev S288 : Shape := ⟨1, ![288]⟩
abbrev S1 : Shape := ⟨1, ![1]⟩
abbrev S2359296x128 : Shape := ⟨2, ![2359296, 128]⟩
abbrev S128x1024x2048 : Shape := ⟨3, ![128, 1024, 2048]⟩
abbrev S128x1x2048 : Shape := ⟨3, ![128, 1, 2048]⟩
abbrev S128x1024x1024 : Shape := ⟨3, ![128, 1024, 1024]⟩
abbrev S128x1x1024 : Shape := ⟨3, ![128, 1, 1024]⟩
abbrev S_ : Shape := ⟨0, ![]⟩

class Facts : Prop where
  bcast_S_S288 : S_.BroadcastsInDim S288 (![] : Fin 0 → Fin S288.rank)
  bcast_S_S1 : S_.BroadcastsInDim S1 (![] : Fin 0 → Fin S1.rank)

variable [Facts]

def fn {F : FTy → Type} [FloatOps F] (main_arg0 : IVec S288 32) (main_arg1 : IVec S1 32) (main_arg2 : FVec F S2359296x128 .f32) (main_arg3 : FVec F S128x1024x2048 .bf16) (main_arg4 : FVec F S128x1x2048 .f32) (main_arg5 : FVec F S128x1024x1024 .bf16) (main_arg6 : FVec F S128x1x1024 .f32) : IVec S288 1 × IVec S1 1 :=
  let main_c : IVec S_ 32 := constantI S_ 32 0#32
  let main_v0 : IVec S288 32 := broadcastInDim S288 ![] bcast_S_S288 main_c
  let main_v1 : IVec S288 1 := cmpi .sge main_arg0 main_v0
  let main_c_0 : IVec S_ 32 := constantI S_ 32 128#32
  let main_v2 : IVec S288 32 := broadcastInDim S288 ![] bcast_S_S288 main_c_0
  let main_v3 : IVec S288 1 := cmpi .slt main_arg0 main_v2
  let main_v4 : IVec S288 1 := andi main_v1 main_v3
  let main_c_1 : IVec S_ 32 := constantI S_ 32 1#32
  let main_v5 : IVec S1 32 := broadcastInDim S1 ![] bcast_S_S1 main_c_1
  let main_v6 : IVec S1 1 := cmpi .sge main_arg1 main_v5
  let main_c_2 : IVec S_ 32 := constantI S_ 32 288#32
  let main_v7 : IVec S1 32 := broadcastInDim S1 ![] bcast_S_S1 main_c_2
  let main_v8 : IVec S1 1 := cmpi .sle main_arg1 main_v7
  let main_v9 : IVec S1 1 := andi main_v6 main_v8
  (main_v4, main_v9)
-- ==== Kv.lean ====
abbrev S32x256x1024 : Shape := ⟨3, ![32, 256, 1024]⟩
abbrev S4x1024x2048 : Shape := ⟨3, ![4, 1024, 2048]⟩
abbrev S8192x1024 : Shape := ⟨2, ![8192, 1024]⟩
abbrev S4x8192x1024 : Shape := ⟨3, ![4, 8192, 1024]⟩
abbrev S512x1024 : Shape := ⟨2, ![512, 1024]⟩
abbrev S1x1024x2048 : Shape := ⟨3, ![1, 1024, 2048]⟩
abbrev S1x512x1024 : Shape := ⟨3, ![1, 512, 1024]⟩
abbrev S1024x2048 : Shape := ⟨2, ![1024, 2048]⟩
abbrev S512x2048 : Shape := ⟨2, ![512, 2048]⟩

abbrev nBuf : Space → Nat
  | .hbm => 6
  | .vmem => 8
  | .smem => 0
  | _ => 0

abbrev bufTy : (tb : Table) → Fin (tcTables nBuf tb) → BufTy
  | .hbm, ⟨0, _⟩ => ⟨S32x256x1024, .f32⟩
  | .hbm, ⟨1, _⟩ => ⟨S4x1024x2048, .f32⟩
  | .hbm, ⟨2, _⟩ => ⟨S8192x1024, .f32⟩
  | .hbm, ⟨3, _⟩ => ⟨S4x1024x2048, .bf16⟩
  | .hbm, ⟨4, _⟩ => ⟨S4x8192x1024, .f32⟩
  | .hbm, ⟨5, _⟩ => ⟨S4x8192x1024, .f32⟩
  | .local _ .vmem, ⟨0, _⟩ => ⟨S512x1024, .f32⟩
  | .local _ .vmem, ⟨1, _⟩ => ⟨S512x1024, .f32⟩
  | .local _ .vmem, ⟨2, _⟩ => ⟨S1x1024x2048, .bf16⟩
  | .local _ .vmem, ⟨3, _⟩ => ⟨S1x1024x2048, .bf16⟩
  | .local _ .vmem, ⟨4, _⟩ => ⟨S1x512x1024, .f32⟩
  | .local _ .vmem, ⟨5, _⟩ => ⟨S1x512x1024, .f32⟩
  | .local _ .vmem, ⟨6, _⟩ => ⟨S1x512x1024, .f32⟩
  | .local _ .vmem, ⟨7, _⟩ => ⟨S1x512x1024, .f32⟩
  | _, _ => ⟨S32x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== KvRefIdeal.lean ====
abbrev S32x256x1024 : Shape := ⟨3, ![32, 256, 1024]⟩
abbrev S4x1024x2048 : Shape := ⟨3, ![4, 1024, 2048]⟩
abbrev S4x2048x32x256 : Shape := ⟨4, ![4, 2048, 32, 256]⟩
abbrev S4x32x256x2048 : Shape := ⟨4, ![4, 32, 256, 2048]⟩
abbrev S4x32x256x1024 : Shape := ⟨4, ![4, 32, 256, 1024]⟩
abbrev S4x8192x1024 : Shape := ⟨3, ![4, 8192, 1024]⟩

abbrev nBuf : Space → Nat
  | .hbm => 8
  | .vmem => 0
  | .smem => 0
  | _ => 0

abbrev bufTy : (tb : Table) → Fin (tcTables nBuf tb) → BufTy
  | .hbm, ⟨0, _⟩ => ⟨S32x256x1024, .f32⟩
  | .hbm, ⟨1, _⟩ => ⟨S4x1024x2048, .f32⟩
  | .hbm, ⟨2, _⟩ => ⟨S4x2048x32x256, .f32⟩
  | .hbm, ⟨3, _⟩ => ⟨S4x32x256x2048, .f32⟩
  | .hbm, ⟨4, _⟩ => ⟨S4x32x256x1024, .f32⟩
  | .hbm, ⟨5, _⟩ => ⟨S4x8192x1024, .f32⟩
  | .hbm, ⟨6, _⟩ => ⟨S4x32x256x1024, .f32⟩
  | .hbm, ⟨7, _⟩ => ⟨S4x8192x1024, .f32⟩
  | _, _ => ⟨S32x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Ex.lean ====
abbrev S288 : Shape := ⟨1, ![288]⟩
abbrev S1 : Shape := ⟨1, ![1]⟩
abbrev S2359296x128 : Shape := ⟨2, ![2359296, 128]⟩
abbrev S128x1024x2048 : Shape := ⟨3, ![128, 1024, 2048]⟩
abbrev S128x1x2048 : Shape := ⟨3, ![128, 1, 2048]⟩
abbrev S128x1024x1024 : Shape := ⟨3, ![128, 1024, 1024]⟩
abbrev S128x1x1024 : Shape := ⟨3, ![128, 1, 1024]⟩
abbrev S8192x128 : Shape := ⟨2, ![8192, 128]⟩
abbrev S1x1024x2048 : Shape := ⟨3, ![1, 1024, 2048]⟩
abbrev S1x1x2048 : Shape := ⟨3, ![1, 1, 2048]⟩
abbrev S1x1024x1024 : Shape := ⟨3, ![1, 1024, 1024]⟩
abbrev S1x1x1024 : Shape := ⟨3, ![1, 1, 1024]⟩
abbrev S1024x128 : Shape := ⟨2, ![1024, 128]⟩
abbrev S1024x1024 : Shape := ⟨2, ![1024, 1024]⟩
abbrev S1024x2048 : Shape := ⟨2, ![1024, 2048]⟩
abbrev S1x2048 : Shape := ⟨2, ![1, 2048]⟩
abbrev S1x1024 : Shape := ⟨2, ![1, 1024]⟩

abbrev nBuf : Space → Nat
  | .hbm => 6
  | .vmem => 12
  | .smem => 2
  | _ => 0

abbrev bufTy : (tb : Table) → Fin (tcTables nBuf tb) → BufTy
  | .hbm, ⟨0, _⟩ => ⟨S2359296x128, .f32⟩
  | .hbm, ⟨1, _⟩ => ⟨S128x1024x2048, .bf16⟩
  | .hbm, ⟨2, _⟩ => ⟨S128x1x2048, .f32⟩
  | .hbm, ⟨3, _⟩ => ⟨S128x1024x1024, .bf16⟩
  | .hbm, ⟨4, _⟩ => ⟨S128x1x1024, .f32⟩
  | .hbm, ⟨5, _⟩ => ⟨S2359296x128, .f32⟩
  | .local _ .vmem, ⟨0, _⟩ => ⟨S8192x128, .f32⟩
  | .local _ .vmem, ⟨1, _⟩ => ⟨S8192x128, .f32⟩
  | .local _ .vmem, ⟨2, _⟩ => ⟨S1x1024x2048, .bf16⟩
  | .local _ .vmem, ⟨3, _⟩ => ⟨S1x1024x2048, .bf16⟩
  | .local _ .vmem, ⟨4, _⟩ => ⟨S1x1x2048, .f32⟩
  | .local _ .vmem, ⟨5, _⟩ => ⟨S1x1x2048, .f32⟩
  | .local _ .vmem, ⟨6, _⟩ => ⟨S1x1024x1024, .bf16⟩
  | .local _ .vmem, ⟨7, _⟩ => ⟨S1x1024x1024, .bf16⟩
  | .local _ .vmem, ⟨8, _⟩ => ⟨S1x1x1024, .f32⟩
  | .local _ .vmem, ⟨9, _⟩ => ⟨S1x1x1024, .f32⟩
  | .local _ .vmem, ⟨10, _⟩ => ⟨S8192x128, .f32⟩
  | .local _ .vmem, ⟨11, _⟩ => ⟨S8192x128, .f32⟩
  | .local _ .smem, ⟨0, _⟩ => ⟨S288, .i32⟩
  | .local _ .smem, ⟨1, _⟩ => ⟨S1, .i32⟩
  | _, _ => ⟨S2359296x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_v0 : Ref sig .tc := ⟨.hbm, 5, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![288], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8192x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ExRefIdeal.lean ====
abbrev S288 : Shape := ⟨1, ![288]⟩
abbrev S1 : Shape := ⟨1, ![1]⟩
abbrev S2359296x128 : Shape := ⟨2, ![2359296, 128]⟩
abbrev S128x1024x2048 : Shape := ⟨3, ![128, 1024, 2048]⟩
abbrev S128x1x2048 : Shape := ⟨3, ![128, 1, 2048]⟩
abbrev S128x1024x1024 : Shape := ⟨3, ![128, 1024, 1024]⟩
abbrev S128x1x1024 : Shape := ⟨3, ![128, 1, 1024]⟩
abbrev S288x1024x1024 : Shape := ⟨3, ![288, 1024, 1024]⟩
abbrev S_ : Shape := ⟨0, ![]⟩
abbrev S288x1 : Shape := ⟨2, ![288, 1]⟩
abbrev S288x3 : Shape := ⟨2, ![288, 3]⟩
abbrev S288x1x1024x2048 : Shape := ⟨4, ![288, 1, 1024, 2048]⟩
abbrev S288x1024x2048 : Shape := ⟨3, ![288, 1024, 2048]⟩
abbrev S288x1x1x2048 : Shape := ⟨4, ![288, 1, 1, 2048]⟩
abbrev S288x1x2048 : Shape := ⟨3, ![288, 1, 2048]⟩
abbrev S288x1x1024x1024 : Shape := ⟨4, ![288, 1, 1024, 1024]⟩
abbrev S288x1x1x1024 : Shape := ⟨4, ![288, 1, 1, 1024]⟩
abbrev S288x1x1024 : Shape := ⟨3, ![288, 1, 1024]⟩

abbrev nBuf : Space → Nat
  | .hbm => 160
  | .vmem => 0
  | .smem => 0
  | _ => 0

abbrev hbmTy0_0 (i : Nat) : BufTy := match i % 128 with
  | 0 => ⟨S288, .i32⟩
  | 1 => ⟨S1, .i32⟩
  | 2 => ⟨S2359296x128, .f32⟩
  | 3 => ⟨S128x1024x2048, .bf16⟩
  | 4 => ⟨S128x1x2048, .f32⟩
  | 5 => ⟨S128x1024x1024, .bf16⟩
  | 6 => ⟨S128x1x1024, .f32⟩
  | 7 => ⟨S288x1024x1024, .f32⟩
  | 8 => ⟨S_, .i32⟩
  | 9 => ⟨S288, .i32⟩
  | 10 => ⟨S288, .i1⟩
  | 11 => ⟨S_, .i32⟩
  | 12 => ⟨S288, .i32⟩
  | 13 => ⟨S288, .i32⟩
  | 14 => ⟨S288, .i32⟩
  | 15 => ⟨S_, .i32⟩
  | 16 => ⟨S_, .i32⟩
  | 17 => ⟨S_, .i1⟩
  | 18 => ⟨S_, .i32⟩
  | 19 => ⟨S_, .i32⟩
  | 20 => ⟨S_, .i32⟩
  | 21 => ⟨S_, .i32⟩
  | 22 => ⟨S_, .i32⟩
  | 23 => ⟨S_, .i32⟩
  | 24 => ⟨S_, .i32⟩
  | 25 => ⟨S_, .i1⟩
  | 26 => ⟨S_, .i32⟩
  | 27 => ⟨S_, .i32⟩
  | 28 => ⟨S_, .i32⟩
  | 29 => ⟨S_, .i32⟩
  | 30 => ⟨S_, .i32⟩
  | 31 => ⟨S288x1, .i32⟩
  | 32 => ⟨S288x1, .i32⟩
  | 33 => ⟨S288x1, .i32⟩
  | 34 => ⟨S288x3, .i32⟩
  | 35 => ⟨S288x1x1024x2048, .bf16⟩
  | 36 => ⟨S288x1024x2048, .bf16⟩
  | 37 => ⟨S288x1024x2048, .f32⟩
  | 38 => ⟨S_, .i32⟩
  | 39 => ⟨S288, .i32⟩
  | 40 => ⟨S288, .i1⟩
  | 41 => ⟨S_, .i32⟩
  | 42 => ⟨S288, .i32⟩
  | 43 => ⟨S288, .i32⟩
  | 44 => ⟨S288, .i32⟩
  | 45 => ⟨S_, .i32⟩
  | 46 => ⟨S_, .i32⟩
  | 47 => ⟨S_, .i1⟩
  | 48 => ⟨S_, .i32⟩
  | 49 => ⟨S_, .i32⟩
  | 50 => ⟨S_, .i32⟩
  | 51 => ⟨S_, .i32⟩
  | 52 => ⟨S_, .i32⟩
  | 53 => ⟨S_, .i32⟩
  | 54 => ⟨S_, .i32⟩
  | 55 => ⟨S_, .i1⟩
  | 56 => ⟨S_, .i32⟩
  | 57 => ⟨S_, .i32⟩
  | 58 => ⟨S_, .i32⟩
  | 59 => ⟨S_, .i32⟩
  | 60 => ⟨S_, .i32⟩
  | 61 => ⟨S288x1, .i32⟩
  | 62 => ⟨S288x1, .i32⟩
  | 63 => ⟨S288x1, .i32⟩
  | 64 => ⟨S288x3, .i32⟩
  | 65 => ⟨S288x1x1x2048, .f32⟩
  | 66 => ⟨S288x1x2048, .f32⟩
  | 67 => ⟨S288x1024x2048, .f32⟩
  | 68 => ⟨S288x1024x2048, .f32⟩
  | 69 => ⟨S288x1024x1024, .f32⟩
  | 70 => ⟨S_, .f32⟩
  | 71 => ⟨S288x1024x1024, .f32⟩
  | 72 => ⟨S288x1024x1024, .f32⟩
  | 73 => ⟨S288x1024x1024, .f32⟩
  | 74 => ⟨S_, .f32⟩
  | 75 => ⟨S_, .f32⟩
  | 76 => ⟨S_, .f32⟩
  | 77 => ⟨S288x1024x1024, .f32⟩
  | 78 => ⟨S288x1024x1024, .f32⟩
  | 79 => ⟨S_, .f32⟩
  | 80 => ⟨S288x1024x1024, .f32⟩
  | 81 => ⟨S288x1024x1024, .f32⟩
  | 82 => ⟨S_, .f32⟩
  | 83 => ⟨S288x1024x1024, .f32⟩
  | 84 => ⟨S288x1024x1024, .f32⟩
  | 85 => ⟨S288x1024x1024, .f32⟩
  | 86 => ⟨S288x1024x1024, .f32⟩
  | 87 => ⟨S_, .f32⟩
  | 88 => ⟨S288x1024x1024, .f32⟩
  | 89 => ⟨S288x1024x1024, .f32⟩
  | 90 => ⟨S_, .f32⟩
  | 91 => ⟨S288x1024x1024, .f32⟩
  | 92 => ⟨S288x1024x1024, .f32⟩
  | 93 => ⟨S288x1024x1024, .f32⟩
  | 94 => ⟨S_, .f32⟩
  | 95 => ⟨S288x1024x1024, .f32⟩
  | 96 => ⟨S288x1024x1024, .f32⟩
  | 97 => ⟨S288x1024x1024, .f32⟩
  | 98 => ⟨S_, .i32⟩
  | 99 => ⟨S288, .i32⟩
  | 100 => ⟨S288, .i1⟩
  | 101 => ⟨S_, .i32⟩
  | 102 => ⟨S288, .i32⟩
  | 103 => ⟨S288, .i32⟩
  | 104 => ⟨S288, .i32⟩
  | 105 => ⟨S_, .i32⟩
  | 106 => ⟨S_, .i32⟩
  | 107 => ⟨S_, .i1⟩
  | 108 => ⟨S_, .i32⟩
  | 109 => ⟨S_, .i32⟩
  | 110 => ⟨S_, .i32⟩
  | 111 => ⟨S_, .i32⟩
  | 112 => ⟨S_, .i32⟩
  | 113 => ⟨S_, .i32⟩
  | 114 => ⟨S_, .i32⟩
  | 115 => ⟨S_, .i1⟩
  | 116 => ⟨S_, .i32⟩
  | 117 => ⟨S_, .i32⟩
  | 118 => ⟨S_, .i32⟩
  | 119 => ⟨S_, .i32⟩
  | 120 => ⟨S_, .i32⟩
  | 121 => ⟨S288x1, .i32⟩
  | 122 => ⟨S288x1, .i32⟩
  | 123 => ⟨S288x1, .i32⟩
  | 124 => ⟨S288x3, .i32⟩
  | 125 => ⟨S288x1x1024x1024, .bf16⟩
  | 126 => ⟨S288x1024x1024, .bf16⟩
  | 127 => ⟨S288x1024x1024, .f32⟩
  | _ => ⟨S288, .i32⟩

abbrev hbmTy0_1 (i : Nat) : BufTy := match i % 128 with
  | 0 => ⟨S_, .i32⟩
  | 1 => ⟨S288, .i32⟩
  | 2 => ⟨S288, .i1⟩
  | 3 => ⟨S_, .i32⟩
  | 4 => ⟨S288, .i32⟩
  | 5 => ⟨S288, .i32⟩
  | 6 => ⟨S288, .i32⟩
  | 7 => ⟨S_, .i32⟩
  | 8 => ⟨S_, .i32⟩
  | 9 => ⟨S_, .i1⟩
  | 10 => ⟨S_, .i32⟩
  | 11 => ⟨S_, .i32⟩
  | 12 => ⟨S_, .i32⟩
  | 13 => ⟨S_, .i32⟩
  | 14 => ⟨S_, .i32⟩
  | 15 => ⟨S_, .i32⟩
  | 16 => ⟨S_, .i32⟩
  | 17 => ⟨S_, .i1⟩
  | 18 => ⟨S_, .i32⟩
  | 19 => ⟨S_, .i32⟩
  | 20 => ⟨S_, .i32⟩
  | 21 => ⟨S_, .i32⟩
  | 22 => ⟨S_, .i32⟩
  | 23 => ⟨S288x1, .i32⟩
  | 24 => ⟨S288x1, .i32⟩
  | 25 => ⟨S288x1, .i32⟩
  | 26 => ⟨S288x3, .i32⟩
  | 27 => ⟨S288x1x1x1024, .f32⟩
  | 28 => ⟨S288x1x1024, .f32⟩
  | 29 => ⟨S288x1024x1024, .f32⟩
  | 30 => ⟨S288x1024x1024, .f32⟩
  | 31 => ⟨S2359296x128, .f32⟩
  | _ => ⟨S288, .i32⟩

abbrev hbmTy (i : Nat) : BufTy := match i / 128 with
  | 0 => hbmTy0_0 i
  | 1 => hbmTy0_1 i
  | _ => ⟨S288, .i32⟩

abbrev bufTy : (tb : Table) → Fin (tcTables nBuf tb) → BufTy
  | .hbm, ⟨i, _⟩ => hbmTy i
  | _, _ => ⟨S288, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_c_1 : Ref sig .tc := ⟨.hbm, 15, rfl⟩
abbrev main_c_2 : Ref sig .tc := ⟨.hbm, 16, rfl⟩
abbrev main_v6 : Ref sig .tc := ⟨.hbm, 17, rfl⟩
abbrev main_c_3 : Ref sig .tc := ⟨.hbm, 18, rfl⟩
abbrev main_c_4 : Ref sig .tc := ⟨.hbm, 19, rfl⟩
abbrev main_v7 : Ref sig .tc := ⟨.hbm, 20, rfl⟩
abbrev main_c_5 : Ref sig .tc := ⟨.hbm, 21, rfl⟩
abbrev main_v8 : Ref sig .tc := ⟨.hbm, 22, rfl⟩
abbrev main_c_6 : Ref sig .tc := ⟨.hbm, 23, rfl⟩
abbrev main_c_7 : Ref sig .tc := ⟨.hbm, 24, rfl⟩
abbrev main_v9 : Ref sig .tc := ⟨.hbm, 25, rfl⟩
abbrev main_c_8 : Ref sig .tc := ⟨.hbm, 26, rfl⟩
abbrev main_c_9 : Ref sig .tc := ⟨.hbm, 27, rfl⟩
abbrev main_v10 : Ref sig .tc := ⟨.hbm, 28, rfl⟩
abbrev main_c_10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_c_11 : Ref sig .tc := ⟨.hbm, 38, rfl⟩
abbrev main_v19 : Ref sig .tc := ⟨.hbm, 39, rfl⟩
abbrev main_v20 : Ref sig .tc := ⟨.hbm, 40, rfl⟩
abbrev main_c_12 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_c_13 : Ref sig .tc := ⟨.hbm, 45, rfl⟩
abbrev main_c_14 : Ref sig .tc := ⟨.hbm, 46, rfl⟩
abbrev main_v24 : Ref sig .tc := ⟨.hbm, 47, rfl⟩
abbrev main_c_15 : Ref sig .tc := ⟨.hbm, 48, rfl⟩
abbrev main_c_16 : Ref sig .tc := ⟨.hbm, 49, rfl⟩
abbrev main_v25 : Ref sig .tc := ⟨.hbm, 50, rfl⟩
abbrev main_c_17 : Ref sig .tc := ⟨.hbm, 51, rfl⟩
abbrev main_v26 : Ref sig .tc := ⟨.hbm, 52, rfl⟩
abbrev main_c_18 : Ref sig .tc := ⟨.hbm, 53, rfl⟩
abbrev main_c_19 : Ref sig .tc := ⟨.hbm, 54, rfl⟩
abbrev main_v27 : Ref sig .tc := ⟨.hbm, 55, rfl⟩
abbrev main_c_20 : Ref sig .tc := ⟨.hbm, 56, rfl⟩
abbrev main_c_21 : Ref sig .tc := ⟨.hbm, 57, rfl⟩
abbrev main_v28 : Ref sig .tc := ⟨.hbm, 58, rfl⟩
abbrev main_c_22 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_cst : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_cst_23 : Ref sig .tc := ⟨.hbm, 74, rfl⟩
abbrev main_cst_24 : Ref sig .tc := ⟨.hbm, 75, rfl⟩
abbrev main_call0_v0 : Ref sig .tc := ⟨.hbm, 76, rfl⟩
abbrev main_call0_v1 : Ref sig .tc := ⟨.hbm, 77, rfl⟩
abbrev main_call0_v2 : Ref sig .tc := ⟨.hbm, 78, rfl⟩
abbrev main_call0_v3 : Ref sig .tc := ⟨.hbm, 79, rfl⟩
abbrev main_call0_v4 : Ref sig .tc := ⟨.hbm, 80, rfl⟩
abbrev main_v42 : Ref sig .tc := ⟨.hbm, 81, rfl⟩
abbrev main_cst_25 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_cst_26 : Ref sig .tc := ⟨.hbm, 87, rfl⟩
abbrev main_v47 : Ref sig .tc := ⟨.hbm, 88, rfl⟩
abbrev main_v48 : Ref sig .tc := ⟨.hbm, 89, rfl⟩
abbrev main_cst_27 : Ref sig .tc := ⟨.hbm, 90, rfl⟩
abbrev main_v49 : Ref sig .tc := ⟨.hbm, 91, rfl⟩
abbrev main_v50 : Ref sig .tc := ⟨.hbm, 92, rfl⟩
abbrev main_v51 : Ref sig .tc := ⟨.hbm, 93, rfl⟩
abbrev main_cst_28 : Ref sig .tc := ⟨.hbm, 94, rfl⟩
abbrev main_v52 : Ref sig .tc := ⟨.hbm, 95, rfl⟩
abbrev main_v53 : Ref sig .tc := ⟨.hbm, 96, rfl⟩
abbrev main_v54 : Ref sig .tc := ⟨.hbm, 97, rfl⟩
abbrev main_c_29 : Ref sig .tc := ⟨.hbm, 98, rfl⟩
abbrev main_v55 : Ref sig .tc := ⟨.hbm, 99, rfl⟩
abbrev main_v56 : Ref sig .tc := ⟨.hbm, 100, rfl⟩
abbrev main_c_30 : Ref sig .tc := ⟨.hbm, 101, rfl⟩
abbrev main_v57 : Ref sig .tc := ⟨.hbm, 102, rfl⟩
abbrev main_v58 : Ref sig .tc := ⟨.hbm, 103, rfl⟩
abbrev main_v59 : Ref sig .tc := ⟨.hbm, 104, rfl⟩
abbrev main_c_31 : Ref sig .tc := ⟨.hbm, 105, rfl⟩
abbrev main_c_32 : Ref sig .tc := ⟨.hbm, 106, rfl⟩
abbrev main_v60 : Ref sig .tc := ⟨.hbm, 107, rfl⟩
abbrev main_c_33 : Ref sig .tc := ⟨.hbm, 108, rfl⟩
abbrev main_c_34 : Ref sig .tc := ⟨.hbm, 109, rfl⟩
abbrev main_v61 : Ref sig .tc := ⟨.hbm, 110, rfl⟩
abbrev main_c_35 : Ref sig .tc := ⟨.hbm, 111, rfl⟩
abbrev main_v62 : Ref sig .tc := ⟨.hbm, 112, rfl⟩
abbrev main_c_36 : Ref sig .tc := ⟨.hbm, 113, rfl⟩
abbrev main_c_37 : Ref sig .tc := ⟨.hbm, 114, rfl⟩
abbrev main_v63 : Ref sig .tc := ⟨.hbm, 115, rfl⟩
abbrev main_c_38 : Ref sig .tc := ⟨.hbm, 116, rfl⟩
abbrev main_c_39 : Ref sig .tc := ⟨.hbm, 117, rfl⟩
abbrev main_v64 : Ref sig .tc := ⟨.hbm, 118, rfl⟩
abbrev main_c_40 : Ref sig .tc := ⟨.hbm, 119, rfl⟩
abbrev main_v65 : Ref sig .tc := ⟨.hbm, 120, rfl⟩
abbrev main_v66 : Ref sig .tc := ⟨.hbm, 121, rfl⟩
abbrev main_v67 : Ref sig .tc := ⟨.hbm, 122, rfl⟩
abbrev main_v68 : Ref sig .tc := ⟨.hbm, 123, rfl⟩
abbrev main_v69 : Ref sig .tc := ⟨.hbm, 124, rfl⟩
abbrev main_v70 : Ref sig .tc := ⟨.hbm, 125, rfl⟩
abbrev main_v71 : Ref sig .tc := ⟨.hbm, 126, rfl⟩
abbrev main_v72 : Ref sig .tc := ⟨.hbm, 127, rfl⟩
abbrev main_c_41 : Ref sig .tc := ⟨.hbm, 128, rfl⟩
abbrev main_v73 : Ref sig .tc := ⟨.hbm, 129, rfl⟩
abbrev main_v74 : Ref sig .tc := ⟨.hbm, 130, rfl⟩
abbrev main_c_42 : Ref sig .tc := ⟨.hbm, 131, rfl⟩
abbrev main_v75 : Ref sig .tc := ⟨.hbm, 132, rfl⟩
abbrev main_v76 : Ref sig .tc := ⟨.hbm, 133, rfl⟩
abbrev main_v77 : Ref sig .tc := ⟨.hbm, 134, rfl⟩
abbrev main_c_43 : Ref sig .tc := ⟨.hbm, 135, rfl⟩
abbrev main_c_44 : Ref sig .tc := ⟨.hbm, 136, rfl⟩
abbrev main_v78 : Ref sig .tc := ⟨.hbm, 137, rfl⟩
abbrev main_c_45 : Ref sig .tc := ⟨.hbm, 138, rfl⟩
abbrev main_c_46 : Ref sig .tc := ⟨.hbm, 139, rfl⟩
abbrev main_v79 : Ref sig .tc := ⟨.hbm, 140, rfl⟩
abbrev main_c_47 : Ref sig .tc := ⟨.hbm, 141, rfl⟩
abbrev main_v80 : Ref sig .tc := ⟨.hbm, 142, rfl⟩
abbrev main_c_48 : Ref sig .tc := ⟨.hbm, 143, rfl⟩
abbrev main_c_49 : Ref sig .tc := ⟨.hbm, 144, rfl⟩
abbrev main_v81 : Ref sig .tc := ⟨.hbm, 145, rfl⟩
abbrev main_c_50 : Ref sig .tc := ⟨.hbm, 146, rfl⟩
abbrev main_c_51 : Ref sig .tc := ⟨.hbm, 147, rfl⟩
abbrev main_v82 : Ref sig .tc := ⟨.hbm, 148, rfl⟩
abbrev main_c_52 : Ref sig .tc := ⟨.hbm, 149, rfl⟩
abbrev main_v83 : Ref sig .tc := ⟨.hbm, 150, rfl⟩
abbrev main_v84 : Ref sig .tc := ⟨.hbm, 151, rfl⟩
abbrev main_v85 : Ref sig .tc := ⟨.hbm, 152, rfl⟩
abbrev main_v86 : Ref sig .tc := ⟨.hbm, 153, rfl⟩
abbrev main_v87 : Ref sig .tc := ⟨.hbm, 154, rfl⟩
abbrev main_v88 : Ref sig .tc := ⟨.hbm, 155, rfl⟩
abbrev main_v89 : Ref sig .tc := ⟨.hbm, 156, rfl⟩
abbrev main_v90 : Ref sig .tc := ⟨.hbm, 157, rfl⟩
abbrev main_v91 : Ref sig .tc := ⟨.hbm, 158, rfl⟩
abbrev main_v92 : Ref sig .tc := ⟨.hbm, 159, rfl⟩

abbrev nD : Nat := 1
abbrev τ : Topo := Topo.v7x

variable {F : FTy → Type} [FloatOps F]
-- ==== Att.lean ====
abbrev S32x2048x1024 : Shape := ⟨3, ![32, 2048, 1024]⟩
abbrev S128x256x1024 : Shape := ⟨3, ![128, 256, 1024]⟩
abbrev S1024x1024 : Shape := ⟨2, ![1024, 1024]⟩
abbrev S1024 : Shape := ⟨1, ![1024]⟩
abbrev S1x1024 : Shape := ⟨2, ![1, 1024]⟩
abbrev S1x1024x1024 : Shape := ⟨3, ![1, 1024, 1024]⟩
abbrev S1x256x1024 : Shape := ⟨3, ![1, 256, 1024]⟩
abbrev S1024x256 : Shape := ⟨2, ![1024, 256]⟩
abbrev S1x256x256 : Shape := ⟨3, ![1, 256, 256]⟩
abbrev S256x256 : Shape := ⟨2, ![256, 256]⟩
abbrev S1024x1 : Shape := ⟨2, ![1024, 1]⟩

abbrev nBuf : Space → Nat
  | .hbm => 12
  | .vmem => 12
  | .smem => 0
  | _ => 0

abbrev bufTy : (tb : Table) → Fin (tcTables nBuf tb) → BufTy
  | .hbm, ⟨0, _⟩ => ⟨S32x2048x1024, .f32⟩
  | .hbm, ⟨1, _⟩ => ⟨S128x256x1024, .f32⟩
  | .hbm, ⟨2, _⟩ => ⟨S128x256x1024, .f32⟩
  | .hbm, ⟨3, _⟩ => ⟨S1024x1024, .f32⟩
  | .hbm, ⟨4, _⟩ => ⟨S1024x1024, .f32⟩
  | .hbm, ⟨5, _⟩ => ⟨S1024, .f32⟩
  | .hbm, ⟨6, _⟩ => ⟨S1024, .f32⟩
  | .hbm, ⟨7, _⟩ => ⟨S1024x1024, .bf16⟩
  | .hbm, ⟨8, _⟩ => ⟨S1024x1024, .bf16⟩
  | .hbm, ⟨9, _⟩ => ⟨S1x1024, .f32⟩
  | .hbm, ⟨10, _⟩ => ⟨S1x1024, .f32⟩
  | .hbm, ⟨11, _⟩ => ⟨S32x2048x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1024x1024, .bf16⟩
  | .local _ .vmem, ⟨7, _⟩ => ⟨S1024x1024, .bf16⟩
  | .local _ .vmem, ⟨8, _⟩ => ⟨S1x1024, .f32⟩
  | .local _ .vmem, ⟨9, _⟩ => ⟨S1x1024, .f32⟩
  | .local _ .vmem, ⟨10, _⟩ => ⟨S1x1024x1024, .f32⟩
  | .local _ .vmem, ⟨11, _⟩ => ⟨S1x1024x1024, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![32, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg0
  let c0_i32 : BitVec 32 := 0#32
  let c0_i32_0 : BitVec 32 := 0#32
  let c0_i32_1 : BitVec 32 := 0#32
  ![v0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg0
  let c0_i32 : BitVec 32 := 0#32
  let c0_i32_0 : BitVec 32 := 0#32
  let c0_i32_1 : BitVec 32 := 0#32
  ![v0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AttRefIdeal.lean ====
abbrev S32x2048x1024 : Shape := ⟨3, ![32, 2048, 1024]⟩
abbrev S128x256x1024 : Shape := ⟨3, ![128, 256, 1024]⟩
abbrev S1024x1024 : Shape := ⟨2, ![1024, 1024]⟩
abbrev S1024 : Shape := ⟨1, ![1024]⟩
abbrev S4x32x256x4x256 : Shape := ⟨5, ![4, 32, 256, 4, 256]⟩
abbrev S1x32x256x4x256 : Shape := ⟨5, ![1, 32, 256, 4, 256]⟩
abbrev S32x256x4x256 : Shape := ⟨4, ![32, 256, 4, 256]⟩
abbrev S32x2048x4x256 : Shape := ⟨4, ![32, 2048, 4, 256]⟩
abbrev S_ : Shape := ⟨0, ![]⟩
abbrev S32x4x2048x256 : Shape := ⟨4, ![32, 4, 2048, 256]⟩
abbrev S32x4x2048 : Shape := ⟨3, ![32, 4, 2048]⟩
abbrev S32x4x2048x1 : Shape := ⟨4, ![32, 4, 2048, 1]⟩
abbrev S32x4x256x2048 : Shape := ⟨4, ![32, 4, 256, 2048]⟩
abbrev S32x2048 : Shape := ⟨2, ![32, 2048]⟩
abbrev S32x2048x1 : Shape := ⟨3, ![32, 2048, 1]⟩
abbrev S1x1x1024 : Shape := ⟨3, ![1, 1, 1024]⟩

abbrev nBuf : Space → Nat
  | .hbm => 70
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S128x256x1024, .f32⟩
  | .hbm, ⟨2, _⟩ => ⟨S128x256x1024, .f32⟩
  | .hbm, ⟨3, _⟩ => ⟨S1024x1024, .f32⟩
  | .hbm, ⟨4, _⟩ => ⟨S1024x1024, .f32⟩
  | .hbm, ⟨5, _⟩ => ⟨S1024, .f32⟩
  | .hbm, ⟨6, _⟩ => ⟨S1024, .f32⟩
  | .hbm, ⟨7, _⟩ => ⟨S4x32x256x4x256, .f32⟩
  | .hbm, ⟨8, _⟩ => ⟨S1x32x256x4x256, .f32⟩
  | .hbm, ⟨9, _⟩ => ⟨S32x256x4x256, .f32⟩
  | .hbm, ⟨10, _⟩ => ⟨S4x32x256x4x256, .f32⟩
  | .hbm, ⟨11, _⟩ => ⟨S1x32x256x4x256, .f32⟩
  | .hbm, ⟨12, _⟩ => ⟨S32x256x4x256, .f32⟩
  | .hbm, ⟨13, _⟩ => ⟨S32x2048x1024, .f32⟩
  | .hbm, ⟨14, _⟩ => ⟨S32x2048x4x256, .f32⟩
  | .hbm, ⟨15, _⟩ => ⟨S_, .f32⟩
  | .hbm, ⟨16, _⟩ => ⟨S32x2048x4x256, .f32⟩
  | .hbm, ⟨17, _⟩ => ⟨S32x2048x4x256, .f32⟩
  | .hbm, ⟨18, _⟩ => ⟨S32x4x2048x256, .f32⟩
  | .hbm, ⟨19, _⟩ => ⟨S_, .f32⟩
  | .hbm, ⟨20, _⟩ => ⟨S32x4x2048, .f32⟩
  | .hbm, ⟨21, _⟩ => ⟨S_, .f32⟩
  | .hbm, ⟨22, _⟩ => ⟨S32x4x2048, .f32⟩
  | .hbm, ⟨23, _⟩ => ⟨S32x4x2048, .f32⟩
  | .hbm, ⟨24, _⟩ => ⟨S32x4x2048x1, .f32⟩
  | .hbm, ⟨25, _⟩ => ⟨S32x4x2048x256, .f32⟩
  | .hbm, ⟨26, _⟩ => ⟨S32x4x2048x256, .f32⟩
  | .hbm, ⟨27, _⟩ => ⟨S32x4x2048x256, .f32⟩
  | .hbm, ⟨28, _⟩ => ⟨S_, .f32⟩
  | .hbm, ⟨29, _⟩ => ⟨S32x4x2048, .f32⟩
  | .hbm, ⟨30, _⟩ => ⟨S32x4x2048x1, .f32⟩
  | .hbm, ⟨31, _⟩ => ⟨S32x4x2048x256, .f32⟩
  | .hbm, ⟨32, _⟩ => ⟨S32x4x2048x256, .f32⟩
  | .hbm, ⟨33, _⟩ => ⟨S32x4x256x2048, .f32⟩
  | .hbm, ⟨34, _⟩ => ⟨S32x2048x4x256, .f32⟩
  | .hbm, ⟨35, _⟩ => ⟨S32x2048x1024, .f32⟩
  | .hbm, ⟨36, _⟩ => ⟨S32x2048x1024, .f32⟩
  | .hbm, ⟨37, _⟩ => ⟨S_, .f32⟩
  | .hbm, ⟨38, _⟩ => ⟨S32x2048x1024, .f32⟩
  | .hbm, ⟨39, _⟩ => ⟨S32x2048x1024, .f32⟩
  | .hbm, ⟨40, _⟩ => ⟨S32x2048x1024, .f32⟩
  | .hbm, ⟨41, _⟩ => ⟨S_, .f32⟩
  | .hbm, ⟨42, _⟩ => ⟨S32x2048, .f32⟩
  | .hbm, ⟨43, _⟩ => ⟨S32x2048x1, .f32⟩
  | .hbm, ⟨44, _⟩ => ⟨S_, .f32⟩
  | .hbm, ⟨45, _⟩ => ⟨S32x2048x1, .f32⟩
  | .hbm, ⟨46, _⟩ => ⟨S32x2048x1, .f32⟩
  | .hbm, ⟨47, _⟩ => ⟨S32x2048x1024, .f32⟩
  | .hbm, ⟨48, _⟩ => ⟨S32x2048x1024, .f32⟩
  | .hbm, ⟨49, _⟩ => ⟨S32x2048x1024, .f32⟩
  | .hbm, ⟨50, _⟩ => ⟨S_, .f32⟩
  | .hbm, ⟨51, _⟩ => ⟨S32x2048, .f32⟩
  | .hbm, ⟨52, _⟩ => ⟨S32x2048x1, .f32⟩
  | .hbm, ⟨53, _⟩ => ⟨S_, .f32⟩
  | .hbm, ⟨54, _⟩ => ⟨S32x2048x1, .f32⟩
  | .hbm, ⟨55, _⟩ => ⟨S32x2048x1, .f32⟩
  | .hbm, ⟨56, _⟩ => ⟨S32x2048x1024, .f32⟩
  | .hbm, ⟨57, _⟩ => ⟨S32x2048x1024, .f32⟩
  | .hbm, ⟨58, _⟩ => ⟨S_, .f32⟩
  | .hbm, ⟨59, _⟩ => ⟨S32x2048x1, .f32⟩
  | .hbm, ⟨60, _⟩ => ⟨S32x2048x1, .f32⟩
  | .hbm, ⟨61, _⟩ => ⟨S32x2048x1, .f32⟩
  | .hbm, ⟨62, _⟩ => ⟨S32x2048x1024, .f32⟩
  | .hbm, ⟨63, _⟩ => ⟨S32x2048x1024, .f32⟩
  | .hbm, ⟨64, _⟩ => ⟨S1x1x1024, .f32⟩
  | .hbm, ⟨65, _⟩ => ⟨S32x2048x1024, .f32⟩
  | .hbm, ⟨66, _⟩ => ⟨S32x2048x1024, .f32⟩
  | .hbm, ⟨67, _⟩ => ⟨S1x1x1024, .f32⟩
  | .hbm, ⟨68, _⟩ => ⟨S32x2048x1024, .f32⟩
  | .hbm, ⟨69, _⟩ => ⟨S32x2048x1024, .f32⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_3 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_4 : Ref sig .tc := ⟨.hbm, 41, rfl⟩
abbrev main_v29 : Ref sig .tc := ⟨.hbm, 42, rfl⟩
abbrev main_v30 : Ref sig .tc := ⟨.hbm, 43, rfl⟩
abbrev main_cst_5 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_6 : Ref sig .tc := ⟨.hbm, 50, rfl⟩
abbrev main_v36 : Ref sig .tc := ⟨.hbm, 51, rfl⟩
abbrev main_v37 : Ref sig .tc := ⟨.hbm, 52, rfl⟩
abbrev main_cst_7 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_8 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩

abbrev nD : Nat := 1
abbrev τ : Topo := Topo.v7x

variable {F : FTy → Type} [FloatOps F]
-- ==== Gla.lean ====
abbrev S32x2048x1024 : Shape := ⟨3, ![32, 2048, 1024]⟩
abbrev S1024x3088 : Shape := ⟨2, ![1024, 3088]⟩
abbrev S16x512 : Shape := ⟨2, ![16, 512]⟩
abbrev S512 : Shape := ⟨1, ![512]⟩
abbrev S1024x3072 : Shape := ⟨2, ![1024, 3072]⟩
abbrev S1024x16 : Shape := ⟨2, ![1024, 16]⟩
abbrev S_ : Shape := ⟨0, ![]⟩
abbrev S1024x128 : Shape := ⟨2, ![1024, 128]⟩
abbrev S128x512 : Shape := ⟨2, ![128, 512]⟩
abbrev S65536x1024 : Shape := ⟨2, ![65536, 1024]⟩
abbrev S1x512 : Shape := ⟨2, ![1, 512]⟩
abbrev S65536x512 : Shape := ⟨2, ![65536, 512]⟩
abbrev S512x1024 : Shape := ⟨2, ![512, 1024]⟩
abbrev S512x512 : Shape := ⟨2, ![512, 512]⟩
abbrev S512x3072 : Shape := ⟨2, ![512, 3072]⟩
abbrev S512x128 : Shape := ⟨2, ![512, 128]⟩

abbrev nBuf : Space → Nat
  | .hbm => 22
  | .vmem => 16
  | .smem => 0
  | _ => 0

abbrev bufTy : (tb : Table) → Fin (tcTables nBuf tb) → BufTy
  | .hbm, ⟨0, _⟩ => ⟨S32x2048x1024, .f32⟩
  | .hbm, ⟨1, _⟩ => ⟨S1024x3088, .f32⟩
  | .hbm, ⟨2, _⟩ => ⟨S16x512, .f32⟩
  | .hbm, ⟨3, _⟩ => ⟨S512, .f32⟩
  | .hbm, ⟨4, _⟩ => ⟨S1024x3072, .f32⟩
  | .hbm, ⟨5, _⟩ => ⟨S1024x3072, .bf16⟩
  | .hbm, ⟨6, _⟩ => ⟨S1024x16, .f32⟩
  | .hbm, ⟨7, _⟩ => ⟨S_, .i32⟩
  | .hbm, ⟨8, _⟩ => ⟨S_, .f32⟩
  | .hbm, ⟨9, _⟩ => ⟨S1024x128, .f32⟩
  | .hbm, ⟨10, _⟩ => ⟨S1024x128, .bf16⟩
  | .hbm, ⟨11, _⟩ => ⟨S_, .i32⟩
  | .hbm, ⟨12, _⟩ => ⟨S_, .f32⟩
  | .hbm, ⟨13, _⟩ => ⟨S128x512, .f32⟩
  | .hbm, ⟨14, _⟩ => ⟨S128x512, .bf16⟩
  | .hbm, ⟨15, _⟩ => ⟨S65536x1024, .f32⟩
  | .hbm, ⟨16, _⟩ => ⟨S1x512, .f32⟩
  | .hbm, ⟨17, _⟩ => ⟨S65536x512, .f32⟩
  | .hbm, ⟨18, _⟩ => ⟨S65536x512, .f32⟩
  | .hbm, ⟨19, _⟩ => ⟨S65536x1024, .f32⟩
  | .hbm, ⟨20, _⟩ => ⟨S65536x1024, .f32⟩
  | .hbm, ⟨21, _⟩ => ⟨S65536x512, .f32⟩
  | .local _ .vmem, ⟨0, _⟩ => ⟨S512x1024, .f32⟩
  | .local _ .vmem, ⟨1, _⟩ => ⟨S512x1024, .f32⟩
  | .local _ .vmem, ⟨2, _⟩ => ⟨S1024x3072, .bf16⟩
  | .local _ .vmem, ⟨3, _⟩ => ⟨S1024x128, .bf16⟩
  | .local _ .vmem, ⟨4, _⟩ => ⟨S128x512, .bf16⟩
  | .local _ .vmem, ⟨5, _⟩ => ⟨S1x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x512, .f32⟩
  | .local _ .vmem, ⟨15, _⟩ => ⟨S512x512, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_call0_v0 : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_call1_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9_0 : Ref sig .tc := ⟨.hbm, 17, rfl⟩
abbrev main_v9_1 : Ref sig .tc := ⟨.hbm, 18, rfl⟩
abbrev main_v9_2 : Ref sig .tc := ⟨.hbm, 19, rfl⟩
abbrev main_v9_3 : Ref sig .tc := ⟨.hbm, 20, rfl⟩
abbrev main_v9_4 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== GlaRefIdeal.lean ====
abbrev S32x2048x1024 : Shape := ⟨3, ![32, 2048, 1024]⟩
abbrev S1024x3088 : Shape := ⟨2, ![1024, 3088]⟩
abbrev S16x512 : Shape := ⟨2, ![16, 512]⟩
abbrev S512 : Shape := ⟨1, ![512]⟩
abbrev S32x2048x3088 : Shape := ⟨3, ![32, 2048, 3088]⟩
abbrev S32x2048x512 : Shape := ⟨3, ![32, 2048, 512]⟩
abbrev S32x2048x16 : Shape := ⟨3, ![32, 2048, 16]⟩
abbrev S1x1x512 : Shape := ⟨3, ![1, 1, 512]⟩
abbrev S_ : Shape := ⟨0, ![]⟩
abbrev S32x32x64x512 : Shape := ⟨4, ![32, 32, 64, 512]⟩
abbrev S65536x512 : Shape := ⟨2, ![65536, 512]⟩
abbrev S65536x1024 : Shape := ⟨2, ![65536, 1024]⟩

abbrev nBuf : Space → Nat
  | .hbm => 45
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S1024x3088, .f32⟩
  | .hbm, ⟨2, _⟩ => ⟨S16x512, .f32⟩
  | .hbm, ⟨3, _⟩ => ⟨S512, .f32⟩
  | .hbm, ⟨4, _⟩ => ⟨S32x2048x3088, .f32⟩
  | .hbm, ⟨5, _⟩ => ⟨S32x2048x512, .f32⟩
  | .hbm, ⟨6, _⟩ => ⟨S32x2048x512, .f32⟩
  | .hbm, ⟨7, _⟩ => ⟨S32x2048x1024, .f32⟩
  | .hbm, ⟨8, _⟩ => ⟨S32x2048x1024, .f32⟩
  | .hbm, ⟨9, _⟩ => ⟨S32x2048x16, .f32⟩
  | .hbm, ⟨10, _⟩ => ⟨S32x2048x512, .f32⟩
  | .hbm, ⟨11, _⟩ => ⟨S1x1x512, .f32⟩
  | .hbm, ⟨12, _⟩ => ⟨S32x2048x512, .f32⟩
  | .hbm, ⟨13, _⟩ => ⟨S32x2048x512, .f32⟩
  | .hbm, ⟨14, _⟩ => ⟨S32x2048x512, .f32⟩
  | .hbm, ⟨15, _⟩ => ⟨S_, .f32⟩
  | .hbm, ⟨16, _⟩ => ⟨S32x2048x512, .f32⟩
  | .hbm, ⟨17, _⟩ => ⟨S32x2048x512, .f32⟩
  | .hbm, ⟨18, _⟩ => ⟨S32x2048x512, .f32⟩
  | .hbm, ⟨19, _⟩ => ⟨S32x2048x512, .f32⟩
  | .hbm, ⟨20, _⟩ => ⟨S32x2048x512, .i1⟩
  | .hbm, ⟨21, _⟩ => ⟨S32x2048x512, .f32⟩
  | .hbm, ⟨22, _⟩ => ⟨S32x2048x512, .f32⟩
  | .hbm, ⟨23, _⟩ => ⟨S32x2048x512, .f32⟩
  | .hbm, ⟨24, _⟩ => ⟨S32x2048x512, .f32⟩
  | .hbm, ⟨25, _⟩ => ⟨S32x2048x512, .f32⟩
  | .hbm, ⟨26, _⟩ => ⟨S32x2048x512, .f32⟩
  | .hbm, ⟨27, _⟩ => ⟨S32x2048x512, .f32⟩
  | .hbm, ⟨28, _⟩ => ⟨S32x2048x512, .f32⟩
  | .hbm, ⟨29, _⟩ => ⟨S32x2048x512, .f32⟩
  | .hbm, ⟨30, _⟩ => ⟨S_, .f32⟩
  | .hbm, ⟨31, _⟩ => ⟨S32x2048x512, .f32⟩
  | .hbm, ⟨32, _⟩ => ⟨S32x2048x512, .f32⟩
  | .hbm, ⟨33, _⟩ => ⟨S32x32x64x512, .f32⟩
  | .hbm, ⟨34, _⟩ => ⟨S_, .f32⟩
  | .hbm, ⟨35, _⟩ => ⟨S_, .f32⟩
  | .hbm, ⟨36, _⟩ => ⟨S32x32x64x512, .f32⟩
  | .hbm, ⟨37, _⟩ => ⟨S_, .f32⟩
  | .hbm, ⟨38, _⟩ => ⟨S32x2048x512, .f32⟩
  | .hbm, ⟨39, _⟩ => ⟨S32x2048x512, .f32⟩
  | .hbm, ⟨40, _⟩ => ⟨S65536x512, .f32⟩
  | .hbm, ⟨41, _⟩ => ⟨S65536x512, .f32⟩
  | .hbm, ⟨42, _⟩ => ⟨S65536x1024, .f32⟩
  | .hbm, ⟨43, _⟩ => ⟨S65536x1024, .f32⟩
  | .hbm, ⟨44, _⟩ => ⟨S65536x512, .f32⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_call0_v0 : Ref sig .tc := ⟨.hbm, 14, rfl⟩
abbrev main_call0_call0_cst : Ref sig .tc := ⟨.hbm, 15, rfl⟩
abbrev main_call0_call0_v0 : Ref sig .tc := ⟨.hbm, 16, rfl⟩
abbrev main_call0_call0_v1 : Ref sig .tc := ⟨.hbm, 17, rfl⟩
abbrev main_call0_call0_v2 : Ref sig .tc := ⟨.hbm, 18, rfl⟩
abbrev main_call0_call0_v3 : Ref sig .tc := ⟨.hbm, 19, rfl⟩
abbrev main_call0_call0_v4 : Ref sig .tc := ⟨.hbm, 20, rfl⟩
abbrev main_call0_call0_v5 : Ref sig .tc := ⟨.hbm, 21, rfl⟩
abbrev main_call0_call0_v6 : Ref sig .tc := ⟨.hbm, 22, rfl⟩
abbrev main_call0_call0_v7 : Ref sig .tc := ⟨.hbm, 23, rfl⟩
abbrev main_call0_call0_v8 : Ref sig .tc := ⟨.hbm, 24, rfl⟩
abbrev main_call0_call0_v9 : Ref sig .tc := ⟨.hbm, 25, rfl⟩
abbrev main_call0_call0_v10 : Ref sig .tc := ⟨.hbm, 26, rfl⟩
abbrev main_call0_call0_v11 : Ref sig .tc := ⟨.hbm, 27, rfl⟩
abbrev main_call0_v1 : Ref sig .tc := ⟨.hbm, 28, rfl⟩
abbrev main_v10 : Ref sig .tc := ⟨.hbm, 29, rfl⟩
abbrev main_cst : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_call1_call0_cst : Ref sig .tc := ⟨.hbm, 34, rfl⟩
abbrev main_call1_call0_v0 : Ref sig .tc := ⟨.hbm, 35, rfl⟩
abbrev main_v14 : Ref sig .tc := ⟨.hbm, 36, rfl⟩
abbrev main_cst_0 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩

abbrev nD : Nat := 1
abbrev τ : Topo := Topo.v7x

variable {F : FTy → Type} [FloatOps F]
-- ==== Swa.lean ====
abbrev S32x2048x1024 : Shape := ⟨3, ![32, 2048, 1024]⟩
abbrev S32x2176x256 : Shape := ⟨3, ![32, 2176, 256]⟩
abbrev S1024x1024 : Shape := ⟨2, ![1024, 1024]⟩
abbrev S16 : Shape := ⟨1, ![16]⟩
abbrev S1024 : Shape := ⟨1, ![1024]⟩
abbrev S16x1 : Shape := ⟨2, ![16, 1]⟩
abbrev S1x1024 : Shape := ⟨2, ![1, 1024]⟩
abbrev S1x256x1024 : Shape := ⟨3, ![1, 256, 1024]⟩
abbrev S1x2176x256 : Shape := ⟨3, ![1, 2176, 256]⟩
abbrev S256x1024 : Shape := ⟨2, ![256, 1024]⟩
abbrev S1x384x256 : Shape := ⟨3, ![1, 384, 256]⟩
abbrev S384x256 : Shape := ⟨2, ![384, 256]⟩
abbrev S128x256 : Shape := ⟨2, ![128, 256]⟩
abbrev S384x64 : Shape := ⟨2, ![384, 64]⟩
abbrev S384x128 : Shape := ⟨2, ![384, 128]⟩
abbrev S1x1 : Shape := ⟨2, ![1, 1]⟩
abbrev S128x128 : Shape := ⟨2, ![128, 128]⟩
abbrev S256x128 : Shape := ⟨2, ![256, 128]⟩
abbrev S128 : Shape := ⟨1, ![128]⟩
abbrev S128x1 : Shape := ⟨2, ![128, 1]⟩
abbrev S256 : Shape := ⟨1, ![256]⟩
abbrev S256x1 : Shape := ⟨2, ![256, 1]⟩

abbrev nBuf : Space → Nat
  | .hbm => 14
  | .vmem => 13
  | .smem => 0
  | _ => 0

abbrev bufTy : (tb : Table) → Fin (tcTables nBuf tb) → BufTy
  | .hbm, ⟨0, _⟩ => ⟨S32x2048x1024, .f32⟩
  | .hbm, ⟨1, _⟩ => ⟨S32x2176x256, .f32⟩
  | .hbm, ⟨2, _⟩ => ⟨S32x2176x256, .f32⟩
  | .hbm, ⟨3, _⟩ => ⟨S1024x1024, .f32⟩
  | .hbm, ⟨4, _⟩ => ⟨S16, .f32⟩
  | .hbm, ⟨5, _⟩ => ⟨S1024x1024, .f32⟩
  | .hbm, ⟨6, _⟩ => ⟨S1024, .f32⟩
  | .hbm, ⟨7, _⟩ => ⟨S1024, .f32⟩
  | .hbm, ⟨8, _⟩ => ⟨S1024x1024, .bf16⟩
  | .hbm, ⟨9, _⟩ => ⟨S16x1, .f32⟩
  | .hbm, ⟨10, _⟩ => ⟨S1024x1024, .bf16⟩
  | .hbm, ⟨11, _⟩ => ⟨S1x1024, .f32⟩
  | .hbm, ⟨12, _⟩ => ⟨S1x1024, .f32⟩
  | .hbm, ⟨13, _⟩ => ⟨S32x2048x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x2176x256, .f32⟩
  | .local _ .vmem, ⟨3, _⟩ => ⟨S1x2176x256, .f32⟩
  | .local _ .vmem, ⟨4, _⟩ => ⟨S1x2176x256, .f32⟩
  | .local _ .vmem, ⟨5, _⟩ => ⟨S1x2176x256, .f32⟩
  | .local _ .vmem, ⟨6, _⟩ => ⟨S1024x1024, .bf16⟩
  | .local _ .vmem, ⟨7, _⟩ => ⟨S16x1, .f32⟩
  | .local _ .vmem, ⟨8, _⟩ => ⟨S1024x1024, .bf16⟩
  | .local _ .vmem, ⟨9, _⟩ => ⟨S1x1024, .f32⟩
  | .local _ .vmem, ⟨10, _⟩ => ⟨S1x1024, .f32⟩
  | .local _ .vmem, ⟨11, _⟩ => ⟨S1x256x1024, .f32⟩
  | .local _ .vmem, ⟨12, _⟩ => ⟨S1x256x1024, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨2, ![32, 8], ![false, false]⟩

def k0_mult1 (i : grid0.Coords) : BitVec 32 :=
  let arg1 : BitVec 32 := BitVec.ofNat 32 (i 1).val
  let c256_i32 : BitVec 32 := 256#32
  let v9 : BitVec 32 := Scalar.muli arg1 c256_i32
  v9
def k0_off1 (i : grid0.Coords) : Fin 3 → Nat :=
  let c0_5 : Index := 0#32
  let arg1 : BitVec 32 := BitVec.ofNat 32 (i 1).val
  let c256_i32 : BitVec 32 := 256#32
  let v9 : BitVec 32 := Scalar.muli arg1 c256_i32
  let v10 : BitVec 32 := v9
  let v11 : Index := Scalar.indexCast v10
  let c0_6 : Index := 0#32
  ![0, v11.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2176x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2176x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S16x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== SwaIdeal.lean ====
variable {F : FTy → Type} [FloatOps F] [Named F]
def κ : String → Option EReal := fun
  | "mask" => some ⊥
  | _ => none
-- ==== SwaRefIdeal.lean ====
abbrev S32x2048x1024 : Shape := ⟨3, ![32, 2048, 1024]⟩
abbrev S32x2176x256 : Shape := ⟨3, ![32, 2176, 256]⟩
abbrev S1024x1024 : Shape := ⟨2, ![1024, 1024]⟩
abbrev S16 : Shape := ⟨1, ![16]⟩
abbrev S1024 : Shape := ⟨1, ![1024]⟩
abbrev S32x2176x4x64 : Shape := ⟨4, ![32, 2176, 4, 64]⟩
abbrev S_ : Shape := ⟨0, ![]⟩
abbrev S32x32x64x4x4x64 : Shape := ⟨6, ![32, 32, 64, 4, 4, 64]⟩
abbrev S32x34x64x4x64 : Shape := ⟨5, ![32, 34, 64, 4, 64]⟩
abbrev S32x32x64x4x64 : Shape := ⟨5, ![32, 32, 64, 4, 64]⟩
abbrev S32x32x192x4x64 : Shape := ⟨5, ![32, 32, 192, 4, 64]⟩
abbrev S32 : Shape := ⟨1, ![32]⟩
abbrev S32x1 : Shape := ⟨2, ![32, 1]⟩
abbrev S192 : Shape := ⟨1, ![192]⟩
abbrev S1x192 : Shape := ⟨2, ![1, 192]⟩
abbrev S32x192 : Shape := ⟨2, ![32, 192]⟩
abbrev S32x32x4x192x64x4 : Shape := ⟨6, ![32, 32, 4, 192, 64, 4]⟩
abbrev S32x32x4x4x64x192 : Shape := ⟨6, ![32, 32, 4, 4, 64, 192]⟩
abbrev S1x32x1x1x1x192 : Shape := ⟨6, ![1, 32, 1, 1, 1, 192]⟩
abbrev S4x4 : Shape := ⟨2, ![4, 4]⟩
abbrev S1x1x4x4x1x1 : Shape := ⟨6, ![1, 1, 4, 4, 1, 1]⟩
abbrev S32x32x4x4x64 : Shape := ⟨5, ![32, 32, 4, 4, 64]⟩
abbrev S32x32x4x4x64x1 : Shape := ⟨6, ![32, 32, 4, 4, 64, 1]⟩
abbrev S32x32x4x64x4x64 : Shape := ⟨6, ![32, 32, 4, 64, 4, 64]⟩
abbrev S32x2048 : Shape := ⟨2, ![32, 2048]⟩
abbrev S32x2048x1 : Shape := ⟨3, ![32, 2048, 1]⟩
abbrev S1x1x1024 : Shape := ⟨3, ![1, 1, 1024]⟩

abbrev nBuf : Space → Nat
  | .hbm => 111
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S32x2176x256, .f32⟩
  | .hbm, ⟨2, _⟩ => ⟨S32x2176x256, .f32⟩
  | .hbm, ⟨3, _⟩ => ⟨S1024x1024, .f32⟩
  | .hbm, ⟨4, _⟩ => ⟨S16, .f32⟩
  | .hbm, ⟨5, _⟩ => ⟨S1024x1024, .f32⟩
  | .hbm, ⟨6, _⟩ => ⟨S1024, .f32⟩
  | .hbm, ⟨7, _⟩ => ⟨S1024, .f32⟩
  | .hbm, ⟨8, _⟩ => ⟨S32x2176x4x64, .f32⟩
  | .hbm, ⟨9, _⟩ => ⟨S32x2176x4x64, .f32⟩
  | .hbm, ⟨10, _⟩ => ⟨S_, .f32⟩
  | .hbm, ⟨11, _⟩ => ⟨S32x2048x1024, .f32⟩
  | .hbm, ⟨12, _⟩ => ⟨S32x2048x1024, .f32⟩
  | .hbm, ⟨13, _⟩ => ⟨S32x2048x1024, .f32⟩
  | .hbm, ⟨14, _⟩ => ⟨S32x32x64x4x4x64, .f32⟩
  | .hbm, ⟨15, _⟩ => ⟨S_, .f32⟩
  | .hbm, ⟨16, _⟩ => ⟨S32x32x64x4x4x64, .f32⟩
  | .hbm, ⟨17, _⟩ => ⟨S32x32x64x4x4x64, .f32⟩
  | .hbm, ⟨18, _⟩ => ⟨S32x34x64x4x64, .f32⟩
  | .hbm, ⟨19, _⟩ => ⟨S32x32x64x4x64, .f32⟩
  | .hbm, ⟨20, _⟩ => ⟨S32x32x64x4x64, .f32⟩
  | .hbm, ⟨21, _⟩ => ⟨S32x32x64x4x64, .f32⟩
  | .hbm, ⟨22, _⟩ => ⟨S32x32x192x4x64, .f32⟩
  | .hbm, ⟨23, _⟩ => ⟨S32x34x64x4x64, .f32⟩
  | .hbm, ⟨24, _⟩ => ⟨S32x32x64x4x64, .f32⟩
  | .hbm, ⟨25, _⟩ => ⟨S32x32x64x4x64, .f32⟩
  | .hbm, ⟨26, _⟩ => ⟨S32x32x64x4x64, .f32⟩
  | .hbm, ⟨27, _⟩ => ⟨S32x32x192x4x64, .f32⟩
  | .hbm, ⟨28, _⟩ => ⟨S32, .i32⟩
  | .hbm, ⟨29, _⟩ => ⟨S32x1, .i32⟩
  | .hbm, ⟨30, _⟩ => ⟨S_, .i32⟩
  | .hbm, ⟨31, _⟩ => ⟨S32x1, .i32⟩
  | .hbm, ⟨32, _⟩ => ⟨S32x1, .i32⟩
  | .hbm, ⟨33, _⟩ => ⟨S192, .i32⟩
  | .hbm, ⟨34, _⟩ => ⟨S1x192, .i32⟩
  | .hbm, ⟨35, _⟩ => ⟨S32x192, .i32⟩
  | .hbm, ⟨36, _⟩ => ⟨S32x192, .i32⟩
  | .hbm, ⟨37, _⟩ => ⟨S32x192, .i32⟩
  | .hbm, ⟨38, _⟩ => ⟨S_, .i32⟩
  | .hbm, ⟨39, _⟩ => ⟨S32x192, .i32⟩
  | .hbm, ⟨40, _⟩ => ⟨S32x192, .i1⟩
  | .hbm, ⟨41, _⟩ => ⟨S_, .i32⟩
  | .hbm, ⟨42, _⟩ => ⟨S32x192, .i32⟩
  | .hbm, ⟨43, _⟩ => ⟨S32x192, .i32⟩
  | .hbm, ⟨44, _⟩ => ⟨S_, .i32⟩
  | .hbm, ⟨45, _⟩ => ⟨S32x192, .i32⟩
  | .hbm, ⟨46, _⟩ => ⟨S32x192, .i1⟩
  | .hbm, ⟨47, _⟩ => ⟨S_, .i1⟩
  | .hbm, ⟨48, _⟩ => ⟨S32x192, .i1⟩
  | .hbm, ⟨49, _⟩ => ⟨S32x192, .i1⟩
  | .hbm, ⟨50, _⟩ => ⟨S32x32x4x192x64x4, .f32⟩
  | .hbm, ⟨51, _⟩ => ⟨S32x32x4x4x64x192, .f32⟩
  | .hbm, ⟨52, _⟩ => ⟨S1x32x1x1x1x192, .i1⟩
  | .hbm, ⟨53, _⟩ => ⟨S_, .f32⟩
  | .hbm, ⟨54, _⟩ => ⟨S_, .f32⟩
  | .hbm, ⟨55, _⟩ => ⟨S32x32x4x4x64x192, .i1⟩
  | .hbm, ⟨56, _⟩ => ⟨S32x32x4x4x64x192, .f32⟩
  | .hbm, ⟨57, _⟩ => ⟨S32x32x4x4x64x192, .f32⟩
  | .hbm, ⟨58, _⟩ => ⟨S4x4, .f32⟩
  | .hbm, ⟨59, _⟩ => ⟨S1x1x4x4x1x1, .f32⟩
  | .hbm, ⟨60, _⟩ => ⟨S_, .f32⟩
  | .hbm, ⟨61, _⟩ => ⟨S32x32x4x4x64, .f32⟩
  | .hbm, ⟨62, _⟩ => ⟨S32x32x4x4x64x1, .f32⟩
  | .hbm, ⟨63, _⟩ => ⟨S32x32x4x4x64x1, .f32⟩
  | .hbm, ⟨64, _⟩ => ⟨S32x32x4x4x64x1, .f32⟩
  | .hbm, ⟨65, _⟩ => ⟨S32x32x4x4x64x192, .f32⟩
  | .hbm, ⟨66, _⟩ => ⟨S32x32x4x4x64x192, .f32⟩
  | .hbm, ⟨67, _⟩ => ⟨S32x32x4x4x64x192, .f32⟩
  | .hbm, ⟨68, _⟩ => ⟨S_, .f32⟩
  | .hbm, ⟨69, _⟩ => ⟨S32x32x4x4x64, .f32⟩
  | .hbm, ⟨70, _⟩ => ⟨S32x32x4x4x64x1, .f32⟩
  | .hbm, ⟨71, _⟩ => ⟨S32x32x4x4x64x1, .f32⟩
  | .hbm, ⟨72, _⟩ => ⟨S32x32x4x4x64x1, .f32⟩
  | .hbm, ⟨73, _⟩ => ⟨S32x32x4x4x64x1, .f32⟩
  | .hbm, ⟨74, _⟩ => ⟨S32x32x4x4x64x1, .f32⟩
  | .hbm, ⟨75, _⟩ => ⟨S32x32x4x4x64x192, .f32⟩
  | .hbm, ⟨76, _⟩ => ⟨S32x32x4x4x64x192, .f32⟩
  | .hbm, ⟨77, _⟩ => ⟨S32x32x4x64x4x64, .f32⟩
  | .hbm, ⟨78, _⟩ => ⟨S32x32x64x4x4x64, .f32⟩
  | .hbm, ⟨79, _⟩ => ⟨S32x2048x1024, .f32⟩
  | .hbm, ⟨80, _⟩ => ⟨S32x2048x1024, .f32⟩
  | .hbm, ⟨81, _⟩ => ⟨S32x2048x1024, .f32⟩
  | .hbm, ⟨82, _⟩ => ⟨S_, .f32⟩
  | .hbm, ⟨83, _⟩ => ⟨S32x2048, .f32⟩
  | .hbm, ⟨84, _⟩ => ⟨S32x2048x1, .f32⟩
  | .hbm, ⟨85, _⟩ => ⟨S_, .f32⟩
  | .hbm, ⟨86, _⟩ => ⟨S32x2048x1, .f32⟩
  | .hbm, ⟨87, _⟩ => ⟨S32x2048x1, .f32⟩
  | .hbm, ⟨88, _⟩ => ⟨S32x2048x1024, .f32⟩
  | .hbm, ⟨89, _⟩ => ⟨S32x2048x1024, .f32⟩
  | .hbm, ⟨90, _⟩ => ⟨S32x2048x1024, .f32⟩
  | .hbm, ⟨91, _⟩ => ⟨S_, .f32⟩
  | .hbm, ⟨92, _⟩ => ⟨S32x2048, .f32⟩
  | .hbm, ⟨93, _⟩ => ⟨S32x2048x1, .f32⟩
  | .hbm, ⟨94, _⟩ => ⟨S_, .f32⟩
  | .hbm, ⟨95, _⟩ => ⟨S32x2048x1, .f32⟩
  | .hbm, ⟨96, _⟩ => ⟨S32x2048x1, .f32⟩
  | .hbm, ⟨97, _⟩ => ⟨S32x2048x1024, .f32⟩
  | .hbm, ⟨98, _⟩ => ⟨S32x2048x1024, .f32⟩
  | .hbm, ⟨99, _⟩ => ⟨S_, .f32⟩
  | .hbm, ⟨100, _⟩ => ⟨S32x2048x1, .f32⟩
  | .hbm, ⟨101, _⟩ => ⟨S32x2048x1, .f32⟩
  | .hbm, ⟨102, _⟩ => ⟨S32x2048x1, .f32⟩
  | .hbm, ⟨103, _⟩ => ⟨S32x2048x1024, .f32⟩
  | .hbm, ⟨104, _⟩ => ⟨S32x2048x1024, .f32⟩
  | .hbm, ⟨105, _⟩ => ⟨S1x1x1024, .f32⟩
  | .hbm, ⟨106, _⟩ => ⟨S32x2048x1024, .f32⟩
  | .hbm, ⟨107, _⟩ => ⟨S32x2048x1024, .f32⟩
  | .hbm, ⟨108, _⟩ => ⟨S1x1x1024, .f32⟩
  | .hbm, ⟨109, _⟩ => ⟨S32x2048x1024, .f32⟩
  | .hbm, ⟨110, _⟩ => ⟨S32x2048x1024, .f32⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_c_1 : Ref sig .tc := ⟨.hbm, 38, rfl⟩
abbrev main_v27 : Ref sig .tc := ⟨.hbm, 39, rfl⟩
abbrev main_v28 : Ref sig .tc := ⟨.hbm, 40, rfl⟩
abbrev main_c_2 : Ref sig .tc := ⟨.hbm, 41, rfl⟩
abbrev main_v29 : Ref sig .tc := ⟨.hbm, 42, rfl⟩
abbrev main_v30 : Ref sig .tc := ⟨.hbm, 43, rfl⟩
abbrev main_c_3 : Ref sig .tc := ⟨.hbm, 44, rfl⟩
abbrev main_v31 : Ref sig .tc := ⟨.hbm, 45, rfl⟩
abbrev main_v32 : Ref sig .tc := ⟨.hbm, 46, rfl⟩
abbrev main_c_4 : Ref sig .tc := ⟨.hbm, 47, rfl⟩
abbrev main_call0_v0 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_5 : Ref sig .tc := ⟨.hbm, 53, rfl⟩
abbrev main_call1_v0 : Ref sig .tc := ⟨.hbm, 54, rfl⟩
abbrev main_call1_v1 : Ref sig .tc := ⟨.hbm, 55, rfl⟩
abbrev main_call1_v2 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_6 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_7 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_8 : Ref sig .tc := ⟨.hbm, 82, rfl⟩
abbrev main_v60 : Ref sig .tc := ⟨.hbm, 83, rfl⟩
abbrev main_v61 : Ref sig .tc := ⟨.hbm, 84, rfl⟩
abbrev main_cst_9 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_cst_10 : Ref sig .tc := ⟨.hbm, 91, rfl⟩
abbrev main_v67 : Ref sig .tc := ⟨.hbm, 92, rfl⟩
abbrev main_v68 : Ref sig .tc := ⟨.hbm, 93, rfl⟩
abbrev main_cst_11 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_cst_12 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩

abbrev nD : Nat := 1
abbrev τ : Topo := Topo.v7x

variable {F : FTy → Type} [FloatOps F]
-- ==== Proof.KvValue.lean ====
/-
  The memory projection: what its pipelined kernel leaves in its two result arrays, and what the reference computes,
  index by index over the extended reals.
-/
module

public import proofs.«01_k».proof.Proof.Gen.KvIdeal.Value
public import proofs.«01_k».proof.Proof.Gen.KvRefIdeal.Read
public import Idealize.ShloMosaic.Lib.Pipeline.ValueKit
public import Idealize.ShloMosaic.Lib.Pipeline.Covers
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.KvIdeal.RefValue

open Cert.KvIdeal Cert.KvIdeal.Gen

variable (m : (ℓ : Loc nD τ sig) → Buf (Elt Ideal) ℓ)

/-- Element `(g, r, j)` of the projection's left half plus `o` columns: row `r` of the flattened memory (sample
    `r / 256`, token `r % 256`) times column `o + j` of layer `g`'s weights. -/
def proj (o : ℕ) (ho : o ≤ 1024) (X : (⟨3, ![32, 256, 1024]⟩ : Shape).Idx → EReal)
    (W : (⟨3, ![4, 1024, 2048]⟩ : Shape).Idx → EReal) (i : (⟨3, ![4, 8192, 1024]⟩ : Shape).Idx) : EReal :=
  ∑ k : Fin 1024, X (ix3 (⟨(i 1).val / 256, by have : (i 1).val < 8192 := (i 1).isLt; omega⟩ : Fin 32)
      (⟨(i 1).val % 256, by omega⟩ : Fin 256) k)
    * W (ix3 (i 0 : Fin 4) k (⟨o + (i 2).val, by have : (i 2).val < 1024 := (i 2).isLt; omega⟩ : Fin 2048))

/-- Which block each window is on, by the grid's coordinates. -/
theorem idx : ∀ t : Fin grid0.N, win0_0.index t = ![(grid0.coords t 1).val, 0]
    ∧ win0_1.index t = ![(grid0.coords t 0).val, 0, 0]
    ∧ win0_2.index t = ![(grid0.coords t 0).val, (grid0.coords t 1).val, 0]
    ∧ win0_3.index t = ![(grid0.coords t 0).val, (grid0.coords t 1).val, 0] := by decide +kernel

/-- The first result array after the run: the keys. -/
theorem final2 (c : Dev nD) : (dats m 0 c).arrAt 2 (cfgs 0).N
    = proj 0 (by omega) (m ((c.tc : Thread nD τ).loc main_arg0)) (m ((c.tc : Thread nD τ).loc main_arg1)) := by
  refine (dats m 0 c).arrAt_eq_of_covers 2 _ (by decide +kernel) fun t hf y => ?_
  obtain ⟨e0, e1, e2, e3⟩ := idx t
  blk_simp
  rw [after0_2]
  frame_out
  unfold_payloads
  pointwise
  unfold proj
  refine Finset.sum_congr (M := EReal) rfl fun k _ => ?_
  congr 1
  · blk_simp [iblk, e0]
    entry_read
    pointwise
    blk_ext [e0, e2]
  · blk_ext [iblk, V, e1, e2]

/-- The second result array after the run: the values. -/
theorem final3 (c : Dev nD) : (dats m 0 c).arrAt 3 (cfgs 0).N
    = proj 1024 (by omega) (m ((c.tc : Thread nD τ).loc main_arg0)) (m ((c.tc : Thread nD τ).loc main_arg1)) := by
  refine (dats m 0 c).arrAt_eq_of_covers 3 _ (by decide +kernel) fun t hf y => ?_
  obtain ⟨e0, e1, e2, e3⟩ := idx t
  blk_simp
  rw [after0_3]
  frame_out
  unfold_payloads
  pointwise
  unfold proj
  refine Finset.sum_congr (M := EReal) rfl fun k _ => ?_
  congr 1
  · blk_simp [iblk, e0]
    entry_read
    pointwise
    blk_ext [e0, e3]
  · blk_ext [iblk, V, e1, e3]

/-- The reference's keys, index by index. -/
theorem ref3 (X : Vec Ideal Cert.KvRefIdeal.S32x256x1024 .f32) (W : Vec Ideal Cert.KvRefIdeal.S4x1024x2048 .f32) :
    Cert.KvRefIdeal.Read.val_main_v3 X W = proj 0 (by omega) X W := by
  funext i
  simp only [Cert.KvRefIdeal.Read.val_main_v3_apply, Cert.KvRefIdeal.Read.val_main_v2_apply,
    Cert.KvRefIdeal.Read.val_main_v1_apply, Cert.KvRefIdeal.Read.val_main_v0_apply]
  unfold proj
  refine Finset.sum_congr (M := EReal) rfl fun k _ => ?_
  rw [mul_comm]
  congr 1 <;> blk_ext []

/-- The reference's values, index by index. -/
theorem ref5 (X : Vec Ideal Cert.KvRefIdeal.S32x256x1024 .f32) (W : Vec Ideal Cert.KvRefIdeal.S4x1024x2048 .f32) :
    Cert.KvRefIdeal.Read.val_main_v5 X W = proj 1024 (by omega) X W := by
  funext i
  simp only [Cert.KvRefIdeal.Read.val_main_v5_apply, Cert.KvRefIdeal.Read.val_main_v4_apply,
    Cert.KvRefIdeal.Read.val_main_v1_apply, Cert.KvRefIdeal.Read.val_main_v0_apply]
  unfold proj
  refine Finset.sum_congr (M := EReal) rfl fun k _ => ?_
  rw [mul_comm]
  congr 1 <;> blk_ext []

end Cert.KvIdeal.RefValue
-- ==== Proof.KvClaim.lean ====
/-
  The memory projection's claim: kernel and reference leave the same two arrays.
-/
module

public import proofs.«01_k».proof.Defs
public import proofs.«01_k».proof.Proof.KvValue

@[expose] public section

set_option maxRecDepth 16384

noncomputable section

open Idealize.ShloMosaic Idealize.ShloMosaic.TcCoe Idealize.SL.Sem

namespace Cert.KvIdeal.RefValue

theorem algebraic : Cert.algebraic_KvIdeal_KvRefIdeal := by
  pair_intro
  · run_from (Cert.KvIdeal.Value.run_blocks m g)
  · run_from (Cert.KvRefIdeal.Value.run m' g')
    · exact (ref3 _ _).trans (final2 m c).symm
    · exact (ref5 _ _).trans (final3 m c).symm

theorem frameRef : Cert.quiescent_KvRefIdeal := by
  intro m g _
  refine (θ_run _ _ _).mono (fun r h => ⟨fun c => (h c).2.2, sem_eq_zero_of_no_sems (by decide) r.2⟩)
    (Cert.KvRefIdeal.Value.run m g)

end Cert.KvIdeal.RefValue
-- ==== Proof.ExIdealFrame.lean ====
/- The run of the expert blocks' program `ExIdeal`: what the body leaves at every grid point, the points past the
   last used block left alone, and the frame claim. -/
module

public import proofs.«01_k».proof.Proof.Gen.ExIdeal.Launch
public import proofs.«01_k».proof.Proof.Gen.ExIdeal.Skeleton
public import Idealize.ShloMosaic.Lib.Pointwise
public import Idealize.ShloMosaic.Lib.Pipeline.FrameBody
public import Idealize.ShloMosaic.Lib.Pipeline.TableIdle
public import Idealize.ShloMosaic.Lib.Claim
public import Idealize.ShloMosaic.Lib.Ring
public import Idealize.ShloMosaic.Lib.Tactic
public import Idealize.ShloMosaic.Lib.WordCmp
public import Idealize.ShloMosaic.Lib.WordArith

@[expose] public section

set_option maxRecDepth 16384

noncomputable section

namespace Cert.ExIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ExIdeal.Gen

variable {F : FTy → Type} [FloatOps F]

local notation "𝕄" => MT nD τ sig Unit (Elt F) ℕ (UR sig nD τ) ℕ

/-! ## What the body reads and leaves -/

theorem rS_inb (k : Fin 8) : ∀ a, S1024x128.size a = 0 ∨ (![k.val, 0] : Fin 2 → Nat) a + (![8, 1] : Fin 2 → Nat) a * (S1024x128.size a - 1) < S8192x128.size a := by
  revert k; decide

/-- Every eighth row of a block, from row `k` on: a plane of the block's rows, where row `r` of the operand lies in
    the eight rows `8 r .. 8 r + 7`. -/
abbrev rS (k : Fin 8) : Rect S8192x128 := ⟨(⟨![k.val, 0], S1024x128.size, ![8, 1], rS_inb k⟩ : LoadRect S8192x128), spos_8_1⟩
abbrev rW1 : Rect S1x1024x2048 := Rect.unit (s := S1x1024x2048) ![0, 0, 0] S1x1024x2048.size inb_S1x1024x2048_S1x1024x2048_0_0_0
abbrev rB1 : Rect S1x1x2048 := Rect.unit (s := S1x1x2048) ![0, 0, 0] S1x1x2048.size inb_S1x1x2048_S1x1x2048_0_0_0
abbrev rW2 : Rect S1x1024x1024 := Rect.unit (s := S1x1024x1024) ![0, 0, 0] S1x1024x1024.size inb_S1x1024x1024_S1x1024x1024_0_0_0
abbrev rB2 : Rect S1x1x1024 := Rect.unit (s := S1x1x1024) ![0, 0, 0] S1x1x1024.size inb_S1x1x1024_S1x1x1024_0_0_0

/-- The gated activations of a block of rows. -/
def act (x : Vec F S8192x128 .f32) (w1 : Vec F S1x1024x2048 .bf16) (b1 : Vec F S1x1x2048 .f32) : FVec F S1024x1024 .f32 :=
  k0_pay10 (View.ld x (rS 0)) (View.ld x (rS 1)) (View.ld x (rS 2)) (View.ld x (rS 3)) (View.ld x (rS 4)) (View.ld x (rS 5))
    (View.ld x (rS 6)) (View.ld x (rS 7)) (View.ld w1 rW1) (View.ld b1 rB1)

/-- What a point that works leaves in the result's buffer: the eight planes it stores, the last first. -/
def outBlk (x : Vec F S8192x128 .f32) (w1 : Vec F S1x1024x2048 .bf16) (b1 : Vec F S1x1x2048 .f32)
    (w2 : Vec F S1x1024x1024 .bf16) (b2 : Vec F S1x1x1024 .f32) : Vec F S8192x128 .f32 :=
  View.canon [⟨rS 7, k0_pay9 (act x w1 b1) (View.ld w2 rW2) (View.ld b2 rB2)⟩,
    ⟨rS 6, k0_pay8 (act x w1 b1) (View.ld w2 rW2) (View.ld b2 rB2)⟩,
    ⟨rS 5, k0_pay7 (act x w1 b1) (View.ld w2 rW2) (View.ld b2 rB2)⟩,
    ⟨rS 4, k0_pay6 (act x w1 b1) (View.ld w2 rW2) (View.ld b2 rB2)⟩,
    ⟨rS 3, k0_pay5 (act x w1 b1) (View.ld w2 rW2) (View.ld b2 rB2)⟩,
    ⟨rS 2, k0_pay4 (act x w1 b1) (View.ld w2 rW2) (View.ld b2 rB2)⟩,
    ⟨rS 1, k0_pay3 (act x w1 b1) (View.ld w2 rW2) (View.ld b2 rB2)⟩,
    ⟨rS 0, k0_pay2 (act x w1 b1) (View.ld w2 rW2) (View.ld b2 rB2)⟩]

theorem mem_rS {k : Fin 8} {y : S8192x128.Idx} (h : (y 0).val % 8 = k.val) : y ∈ (rS k).set := by
  rw [LoadRect.mem_set]
  intro a
  have h0 : (y 0).val < 8192 := (y 0).isLt
  have h1 : (y 1).val < 128 := (y 1).isLt
  match a with
  | ⟨0, _⟩ => exact ⟨(y 0).val / 8, (by show (y 0).val / 8 < 1024; omega), (by show (y 0).val = k.val + 8 * ((y 0).val / 8); omega)⟩
  | ⟨1, _⟩ => exact ⟨(y 1).val, h1, (by show (y 1).val = 0 + 1 * (y 1).val; omega)⟩

/-- The eight planes are every row. -/
theorem cover (p0 p1 p2 p3 p4 p5 p6 p7 : Vec F S1024x128 .f32) (y : S8192x128.Idx) :
    ∃ pc ∈ ([⟨rS 7, p7⟩, ⟨rS 6, p6⟩, ⟨rS 5, p5⟩, ⟨rS 4, p4⟩, ⟨rS 3, p3⟩, ⟨rS 2, p2⟩, ⟨rS 1, p1⟩, ⟨rS 0, p0⟩] :
      List (View.Piece (Elt F) S8192x128 .f32)), y ∈ pc.1.set := by
  have h : (y 0).val % 8 < 8 := Nat.mod_lt _ (by decide)
  obtain h | h | h | h | h | h | h | h : (y 0).val % 8 = 0 ∨ (y 0).val % 8 = 1 ∨ (y 0).val % 8 = 2 ∨ (y 0).val % 8 = 3
      ∨ (y 0).val % 8 = 4 ∨ (y 0).val % 8 = 5 ∨ (y 0).val % 8 = 6 ∨ (y 0).val % 8 = 7 := by omega
  · exact ⟨⟨rS 0, p0⟩, by simp, mem_rS h⟩
  · exact ⟨⟨rS 1, p1⟩, by simp, mem_rS h⟩
  · exact ⟨⟨rS 2, p2⟩, by simp, mem_rS h⟩
  · exact ⟨⟨rS 3, p3⟩, by simp, mem_rS h⟩
  · exact ⟨⟨rS 4, p4⟩, by simp, mem_rS h⟩
  · exact ⟨⟨rS 5, p5⟩, by simp, mem_rS h⟩
  · exact ⟨⟨rS 6, p6⟩, by simp, mem_rS h⟩
  · exact ⟨⟨rS 7, p7⟩, by simp, mem_rS h⟩

/-! ## The body's triple -/

abbrev rT : Rect S1 := Rect.unit (s := S1) ![0] S1.size inb_S1_S1_0

/-- The count of used blocks as the body loads it is the table's one word. -/
theorem word_read (c : Dev nD) (pf : pre0.Contents (Elt F)) (f : Buf (Elt F) ((c : Thread nD τ).loc main_arg1)) (hf : f = pf 1) :
    (((Memref.whole main_arg1).access rT : View sig .tc _ _ _).read (Elt F) f) (Shape.Idx.first (s := S1) (numel1_S1.symm ▸ Nat.one_pos))
      = pf.atD 1 ![0] := by
  subst hf
  unfold Pipeline.Prefetch.Contents.atD
  rw [dif_pos (fun a => by fin_cases a; decide)]
  rfl

set_option maxHeartbeats 4000000 in
/-- A point that works: the body reads the count, then its blocks, and stores the eight planes. -/
theorem sound_live (c : Dev nD) (E : Set ℕ) (i : grid0.Coords) (pf : pre0.Contents (Elt F)) (f : Buf (Elt F) ((c : Thread nD τ).loc main_arg1)) (hf : f = pf 1) (hc : k0_cond1 i (pf.atD 1 ![0]) = 1#1)
    (arg3 : Memref sig .tc .vmem S8192x128 .f32) (harg3 : arg3.IsWhole) (arg4 : Memref sig .tc .vmem S1x1024x2048 .bf16) (harg4 : arg4.IsWhole)
    (arg5 : Memref sig .tc .vmem S1x1x2048 .f32) (harg5 : arg5.IsWhole) (arg6 : Memref sig .tc .vmem S1x1024x1024 .bf16) (harg6 : arg6.IsWhole)
    (arg7 : Memref sig .tc .vmem S1x1x1024 .f32) (harg7 : arg7.IsWhole) (arg8 : Memref sig .tc .vmem S8192x128 .f32) (harg8 : arg8.IsWhole)
    (x : Vec F S8192x128 .f32) (w1 : Vec F S1x1024x2048 .bf16) (b1 : Vec F S1x1x2048 .f32)
    (w2 : Vec F S1x1024x1024 .bf16) (b2 : Vec F S1x1x1024 .f32) (K : PUnit → sProp 𝕄) :
    iprop(((c : Thread nD τ).loc main_arg1 ↦{fullShare.right} f)
        ∗ owns (c : Thread nD τ) arg3 fullShare x ∗ owns (c : Thread nD τ) arg4 fullShare w1 ∗ owns (c : Thread nD τ) arg5 fullShare b1
        ∗ owns (c : Thread nD τ) arg6 fullShare w2 ∗ owns (c : Thread nD τ) arg7 fullShare b2 ∗ (∃ d, owns (c : Thread nD τ) arg8 fullShare d)
        ∗ (iprop(((c : Thread nD τ).loc main_arg1 ↦{fullShare.right} f)
          ∗ owns (c : Thread nD τ) arg3 fullShare x ∗ owns (c : Thread nD τ) arg4 fullShare w1 ∗ owns (c : Thread nD τ) arg5 fullShare b1
          ∗ owns (c : Thread nD τ) arg6 fullShare w2 ∗ owns (c : Thread nD τ) arg7 fullShare b2 ∗ owns (c : Thread nD τ) arg8 fullShare (outBlk x w1 b1 w2 b2)) -∗ K ⟨⟩))
      ⊢ wp frame (wpE (defs₀ (F := F)) Variants.none c none) E
          (cc0_moe_experts i (Memref.whole main_arg0) (Memref.isWhole_whole _) (Memref.whole main_arg1) (Memref.isWhole_whole _) arg3 harg3 arg4 harg4 arg5 harg5 arg6 harg6 arg7 harg7 arg8 harg8) K := by
  simp only [cc0_moe_experts_eq_skeleton]; unfold cc0_moe_experts_skel smemLoad smemLoadElt
  unfold owns
  iintro ⟨Ht, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf3 hf4 hf5 hf6 hf7
  simp only [Prog.bind_op, Prog.bind_ret]
  iapply (wp_load_rect Variants.none (c : Thread nD τ) none E (m := Memref.whole main_arg1) (r := rT) (Finset.subset_univ _)) $$ Ht
  iintro Ht
  rw [word_read c pf f hf, dif_pos hc]
  sl_exec
  sl_step
  iapply Hk
  isplitl [Ht]; · iexact Ht
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (cover _ _ _ _ _ _ _ _)

set_option maxHeartbeats 1000000 in
/-- A point past the last used block: the body reads the count and does nothing. -/
theorem sound_idle (c : Dev nD) (E : Set ℕ) (i : grid0.Coords) (pf : pre0.Contents (Elt F)) (f : Buf (Elt F) ((c : Thread nD τ).loc main_arg1)) (hf : f = pf 1) (hc : ¬ k0_cond1 i (pf.atD 1 ![0]) = 1#1)
    (arg3 : Memref sig .tc .vmem S8192x128 .f32) (harg3 : arg3.IsWhole) (arg4 : Memref sig .tc .vmem S1x1024x2048 .bf16) (harg4 : arg4.IsWhole)
    (arg5 : Memref sig .tc .vmem S1x1x2048 .f32) (harg5 : arg5.IsWhole) (arg6 : Memref sig .tc .vmem S1x1024x1024 .bf16) (harg6 : arg6.IsWhole)
    (arg7 : Memref sig .tc .vmem S1x1x1024 .f32) (harg7 : arg7.IsWhole) (arg8 : Memref sig .tc .vmem S8192x128 .f32) (harg8 : arg8.IsWhole)
    (K : PUnit → sProp 𝕄) :
    iprop(((c : Thread nD τ).loc main_arg1 ↦{fullShare.right} f)
        ∗ (((c : Thread nD τ).loc main_arg1 ↦{fullShare.right} f) -∗ K ⟨⟩))
      ⊢ wp frame (wpE (defs₀ (F := F)) Variants.none c none) E
          (cc0_moe_experts i (Memref.whole main_arg0) (Memref.isWhole_whole _) (Memref.whole main_arg1) (Memref.isWhole_whole _) arg3 harg3 arg4 harg4 arg5 harg5 arg6 harg6 arg7 harg7 arg8 harg8) K := by
  simp only [cc0_moe_experts_eq_skeleton]; unfold cc0_moe_experts_skel smemLoad smemLoadElt
  iintro ⟨Ht, Hk⟩
  simp only [Prog.bind_op, Prog.bind_ret]
  iapply (wp_load_rect Variants.none (c : Thread nD τ) none E (m := Memref.whole main_arg1) (r := rT) (Finset.subset_univ _)) $$ Ht
  iintro Ht
  rw [word_read c pf f hf, dif_neg hc]
  sl_exec
  sl_step
  iapply Hk
  iexact Ht

/-! ## The tables' words -/

/-- The count of used blocks. -/
abbrev nuW (pf : pre0.Contents (Elt F)) : BitVec 32 := pf.atD 1 ![0]

/-- The count lies between one and the number of blocks. -/
abbrev Good (pf : pre0.Contents (Elt F)) : Prop := 1 ≤ (nuW pf).toNat ∧ (nuW pf).toNat ≤ 288

theorem coord_val (t : Fin 288) : (grid0.coords t 0).val = t.val := by
  revert t; decide +kernel

theorem at_eq (pf : pre0.Contents (Elt F)) :
    pf.at 1 (Rect.unit (s := S1) ![0] S1.size inb_S1_S1_0) numel1_S1 = nuW pf := by
  unfold nuW Pipeline.Prefetch.Contents.atD
  rw [dif_pos (fun a => by fin_cases a; decide)]
  rfl

/-- The body works at exactly the points below the count. -/
theorem cond_iff (i : grid0.Coords) (pf : pre0.Contents (Elt F)) (hg : Good pf) :
    k0_cond1 i (nuW pf) = 1#1 ↔ (i 0).val < (nuW pf).toNat := by
  have hi : (i 0).val < 288 := (i 0).isLt
  obtain ⟨h1, h2⟩ := hg
  generalize nuW pf = v at h1 h2 ⊢
  have hv : v = BitVec.ofNat 32 v.toNat := by simp
  rw [hv]
  generalize v.toNat = n at h1 h2 ⊢
  rw [show (BitVec.ofNat 32 n).toNat = n from Nat.mod_eq_of_lt (by omega)]
  unfold k0_cond1
  simp only [Scalar.cmpi, Scalar.extui]
  rw [WordCmp.cmpi_slt_ofNat (by omega) (by omega)]
  by_cases h : (i 0).val < n
  · rw [decide_eq_true h]; exact iff_of_true (by decide) h
  · rw [decide_eq_false h]; exact iff_of_false (by decide) h

/-- The result's block at a point: the point's own below the count, the last used one from there on. -/
theorem tr5 (i : grid0.Coords) (pf : pre0.Contents (Elt F)) (hg : Good pf) :
    cc0_transform_5 inb_S1_S1_0 numel1_S1 pf i = ![min (i 0).val ((nuW pf).toNat - 1), 0] := by
  have hi : (i 0).val < 288 := (i 0).isLt
  obtain ⟨h1, h2⟩ := hg
  unfold cc0_transform_5
  rw [at_eq]
  generalize nuW pf = v at h1 h2 ⊢
  have hv : v = BitVec.ofNat 32 v.toNat := by simp
  rw [hv]
  generalize v.toNat = n at h1 h2 ⊢
  rw [show (BitVec.ofNat 32 n).toNat = n from Nat.mod_eq_of_lt (by omega)]
  have hs : Scalar.subi (BitVec.ofNat 32 n) 1#32 = BitVec.ofNat 32 (n - 1) := by
    obtain ⟨k, rfl⟩ : ∃ k, n = k + 1 := ⟨n - 1, by omega⟩
    simp [Scalar.subi, IntOp.subi, BitVec.ofNat_add]
  have e : ∀ k : Nat, k < 2 ^ 31 → (BitVec.ofNat 32 k).toNat = k := fun k hk => Nat.mod_eq_of_lt (by omega)
  have hm : (Scalar.minsi (BitVec.ofNat 32 (i 0).val) (BitVec.ofNat 32 (n - 1))).toNat = min (i 0).val (n - 1) := by
    unfold Scalar.minsi
    rw [WordArith.toNat_minsi_of_lt _ _ (by rw [e (i 0).val (by omega)]; omega) (by rw [e (n - 1) (by omega)]; omega), e _ (by omega), e _ (by omega)]
  dsimp only
  rw [hs, hm]
  rfl

variable (m : (ℓ : Loc nD τ sig) → Buf (Elt F) ℓ) (g : Dev nD → PrngReg) (a : (pcfg0 (F := F)).Adm)

/-- Window `w`'s block at point `t`. -/
def iblk (c : Dev nD) (w : Fin (cfg0 a).W) (t : Fin (cfg0 a).N) :
    (((cfg0 a).win w).xblock ((cfg0 a).grid.coords t)).Idx → Elt F ((cfg0 a).win w).elt :=
  (((cfg0 a).win w).blk t).view.read (Elt F) (m ((c : Thread nD τ).loc (Pipeline.arrRef spec0 w)))

/-- The working point whose result is in the buffer after point `t`. -/
def live (t : Fin (cfg0 a).N) : Fin (cfg0 a).N := ⟨min t.val ((nuW a.1).toNat - 1), lt_of_le_of_lt (Nat.min_le_left _ _) t.isLt⟩

/-- The result's block left after point `t`. -/
def outAt (c : Dev nD) (t : Fin (cfg0 a).N) : Vec F S8192x128 .f32 :=
  outBlk (iblk m a c 0 t) (iblk m a c 1 t) (iblk m a c 2 t) (iblk m a c 3 t) (iblk m a c 4 t)

/-- The proof data: each input's buffer at its block, the result's at what the last working point left. -/
def dats (_ : Fin 1) (c : Dev nD) : Dat τ (Elt F) Unit ℕ (UR sig nD τ) ℕ (cfg0 a) c where
  A w := m ((c : Thread nD τ).loc (Pipeline.arrRef spec0 w))
  after w t := match w with
    | ⟨0, _⟩ => iblk m a c 0 t
    | ⟨1, _⟩ => iblk m a c 1 t
    | ⟨2, _⟩ => iblk m a c 2 t
    | ⟨3, _⟩ => iblk m a c 3 t
    | ⟨4, _⟩ => iblk m a c 4 t
    | ⟨5, _⟩ => outAt m a c (live a t)
  Φ _ := iprop(Pipeline.ΦA spec0 c ∗ Pipeline.ΦT pre0 a.1 c)
  q _ := fullShare
  owed _ := 0

theorem after0 (c : Dev nD) (t) : (dats m a 0 c).after 0 t = iblk m a c 0 t := by dsimp only [dats]; rfl
theorem after1 (c : Dev nD) (t) : (dats m a 0 c).after 1 t = iblk m a c 1 t := by dsimp only [dats]; rfl
theorem after2 (c : Dev nD) (t) : (dats m a 0 c).after 2 t = iblk m a c 2 t := by dsimp only [dats]; rfl
theorem after3 (c : Dev nD) (t) : (dats m a 0 c).after 3 t = iblk m a c 3 t := by dsimp only [dats]; rfl
theorem after4 (c : Dev nD) (t) : (dats m a 0 c).after 4 t = iblk m a c 4 t := by dsimp only [dats]; rfl
theorem after5 (c : Dev nD) (t) : (dats m a 0 c).after 5 t = outAt m a c (live a t) := by dsimp only [dats]; rfl

theorem before0 (c : Dev nD) (t) (d) : (dats m a 0 c).before 0 t d = iblk m a c 0 t :=
  ((dats m a 0 c).before_in_eq_fetched 0 rfl (fun _ => rfl) (fun _ _ _ => rfl) (fun t => by rw [after0]; rfl) t d).trans rfl
theorem before1 (c : Dev nD) (t) (d) : (dats m a 0 c).before 1 t d = iblk m a c 1 t :=
  ((dats m a 0 c).before_in_eq_fetched 1 rfl (fun _ => rfl) (fun _ _ _ => rfl) (fun t => by rw [after1]; rfl) t d).trans rfl
theorem before2 (c : Dev nD) (t) (d) : (dats m a 0 c).before 2 t d = iblk m a c 2 t :=
  ((dats m a 0 c).before_in_eq_fetched 2 rfl (fun _ => rfl) (fun _ _ _ => rfl) (fun t => by rw [after2]; rfl) t d).trans rfl
theorem before3 (c : Dev nD) (t) (d) : (dats m a 0 c).before 3 t d = iblk m a c 3 t :=
  ((dats m a 0 c).before_in_eq_fetched 3 rfl (fun _ => rfl) (fun _ _ _ => rfl) (fun t => by rw [after3]; rfl) t d).trans rfl
theorem before4 (c : Dev nD) (t) (d) : (dats m a 0 c).before 4 t d = iblk m a c 4 t :=
  ((dats m a 0 c).before_in_eq_fetched 4 rfl (fun _ => rfl) (fun _ _ _ => rfl) (fun t => by rw [after4]; rfl) t d).trans rfl

/-! ## The points past the last used block -/

theorem index5 (hg : Good a.1) (t : Fin (cfg0 a).N) :
    ((cfg0 a).win 5).index t = ![min t.val ((nuW a.1).toNat - 1), 0] := by
  refine (tr5 ((cfg0 a).grid.coords t) a.1 hg).trans ?_
  rw [show (((cfg0 a).grid.coords t) 0).val = t.val from coord_val t]

/-- Such a point but the last does not write the block back. -/
theorem flush5 (hg : Good a.1) (t : Fin (cfg0 a).N) (h : (nuW a.1).toNat ≤ t.val + 1) (h' : t.val + 1 < 288) :
    ((cfg0 a).win 5).flush t = false := by
  have hN : (cfg0 a).N = 288 := N_0
  unfold Window.flush
  have e : ∀ h : t.val + 1 < (cfg0 a).grid.N, ((cfg0 a).win 5).index ⟨t.val + 1, h⟩ = ((cfg0 a).win 5).index t := fun h => by
    rw [index5 a hg, index5 a hg]
    rw [show min (t.val + 1) ((nuW a.1).toNat - 1) = min t.val ((nuW a.1).toNat - 1) by omega]
  rw [Bool.and_eq_false_iff]; right
  rw [Bool.or_eq_false_iff]
  refine ⟨by rw [decide_eq_false_iff_not]; intro hh; have : (cfg0 a).grid.N = 288 := N_0; omega, ?_⟩
  rw [decide_eq_false_iff_not]
  rintro ⟨h, hne⟩
  exact hne (e h)

theorem idle5 (hg : Good a.1) (t : Fin (cfg0 a).N) :
    (cfg0 a).idle 5 ((cfg0 a).grid.coords t) = !decide (t.val < (nuW a.1).toNat) := by
  show (!(k0_cond1 (grid0.coords t) (nuW a.1) == 1#1)) = _
  congr 1
  have h := cond_iff (grid0.coords t) a.1 hg
  rw [coord_val t] at h
  by_cases hl : t.val < (nuW a.1).toNat
  · rw [h.mpr hl, decide_eq_true hl]; rfl
  · rw [decide_eq_false hl, beq_eq_false_iff_ne]; exact fun e => hl (h.mp e)

/-- There the buffer holds what the last working point left. -/
theorem before5 (hg : Good a.1) (c : Dev nD) (d) : ∀ (n : Nat) (t : Fin (cfg0 a).N), t.val = n → (nuW a.1).toNat ≤ n →
    (dats m a 0 c).before 5 t d = (dats m a 0 c).after 5 t := by
  intro n
  induction n with
  | zero => intro t _ h; exact absurd hg.1 (by omega)
  | succ n ih =>
    intro t ht h
    have hN : t.val < 288 := t.isLt
    have hfl := flush5 a hg ⟨t.val - 1, Nat.lt_of_le_of_lt (Nat.sub_le _ _) t.isLt⟩ (by show _ ≤ t.val - 1 + 1; omega) (by show t.val - 1 + 1 < 288; omega)
    rw [(dats m a 0 c).before_of_pos 5 t (by omega) rfl d, hfl, if_neg Bool.false_ne_true]
    have hid := idle5 a hg ⟨t.val - 1, Nat.lt_of_le_of_lt (Nat.sub_le _ _) t.isLt⟩
    have ea : (dats m a 0 c).after 5 ⟨t.val - 1, Nat.lt_of_le_of_lt (Nat.sub_le _ _) t.isLt⟩ = (dats m a 0 c).after 5 t := by
      rw [after5, after5]
      congr 1
      exact Fin.ext (by show min (t.val - 1) _ = min t.val _; omega)
    unfold Dat.left
    rw [hid]
    by_cases hl : t.val - 1 < (nuW a.1).toNat
    · rw [show (!decide ((⟨t.val - 1, Nat.lt_of_le_of_lt (Nat.sub_le _ _) t.isLt⟩ : Fin (cfg0 a).N).val < (nuW a.1).toNat)) = false by
        simp only [decide_eq_true hl, Bool.not_true]]
      exact ea
    · rw [show (!decide ((⟨t.val - 1, Nat.lt_of_le_of_lt (Nat.sub_le _ _) t.isLt⟩ : Fin (cfg0 a).N).val < (nuW a.1).toNat)) = true by
        simp only [decide_eq_false hl, Bool.not_false]]
      exact (ih ⟨t.val - 1, Nat.lt_of_le_of_lt (Nat.sub_le _ _) t.isLt⟩ (by show t.val - 1 = n; omega) (by omega)).trans ea

/-! ## The body obligation -/

omit [FloatOps F] in
/-- The two tables held, split. -/
theorem tables_pair (c : Dev nD) (q : Fin 2 → PosShare TreeShare) (v : pre0.Contents (Elt F)) :
    (Pipeline.prefHeld pre0 c q v : sProp 𝕄)
      = iprop((((c : Thread nD τ).loc main_arg0) ↦{q 0} (show Buf (Elt F) ((c : Thread nD τ).loc main_arg0) from v 0))
          ∗ (((c : Thread nD τ).loc main_arg1) ↦{q 1} (show Buf (Elt F) ((c : Thread nD τ).loc main_arg1) from v 1))) := by
  unfold Pipeline.prefHeld
  rw [show (Finset.univ : Finset (Fin 2)) = insert 0 {1} from by decide, bigSep_insert (by decide), bigSep_singleton]
  rfl

abbrev st0 (t : Fin (cfg0 a).N) := ((cfg0 a).win 0).stage ((cfg0 a).slots t 0)
abbrev st1 (t : Fin (cfg0 a).N) := ((cfg0 a).win 1).stage ((cfg0 a).slots t 1)
abbrev st2 (t : Fin (cfg0 a).N) := ((cfg0 a).win 2).stage ((cfg0 a).slots t 2)
abbrev st3 (t : Fin (cfg0 a).N) := ((cfg0 a).win 3).stage ((cfg0 a).slots t 3)
abbrev st4 (t : Fin (cfg0 a).N) := ((cfg0 a).win 4).stage ((cfg0 a).slots t 4)
abbrev st5 (t : Fin (cfg0 a).N) := ((cfg0 a).win 5).stage ((cfg0 a).slots t 5)

/-- The body as the pipeline runs it at point `t`. -/
abbrev bodyAt (t : Fin (cfg0 a).N) : Prog (TpuEff nD τ sig (Elt F) Λ₀ .tc) PUnit :=
  cc0_moe_experts (grid0.coords t) (Memref.whole main_arg0) (Memref.isWhole_whole _) (Memref.whole main_arg1) (Memref.isWhole_whole _)
    (spec0_0.stage ((cfg0 a).slots t 0)) (hstage0_0 (((cfg0 a).slots t 0).cast nbuf0_0)) (spec0_1.stage ((cfg0 a).slots t 1)) (hstage0_1 (((cfg0 a).slots t 1).cast nbuf0_1))
    (spec0_2.stage ((cfg0 a).slots t 2)) (hstage0_2 (((cfg0 a).slots t 2).cast nbuf0_2)) (spec0_3.stage ((cfg0 a).slots t 3)) (hstage0_3 (((cfg0 a).slots t 3).cast nbuf0_3))
    (spec0_4.stage ((cfg0 a).slots t 4)) (hstage0_4 (((cfg0 a).slots t 4).cast nbuf0_4)) (spec0_5.stage ((cfg0 a).slots t 5)) (hstage0_5 (((cfg0 a).slots t 5).cast nbuf0_5))

/-- What the body is called with at point `t`, -/
def bodyPre (c : Dev nD) (t : Fin (cfg0 a).N) : sProp 𝕄 :=
  iprop((dats m a 0 c).Φ t.castSucc ∗ (dats m a 0 c).owesAt () t.castSucc
    ∗ (∃ d, owns (c : Thread nD τ) (st0 a t) fullShare ((dats m a 0 c).before 0 t d))
    ∗ (∃ d, owns (c : Thread nD τ) (st1 a t) fullShare ((dats m a 0 c).before 1 t d))
    ∗ (∃ d, owns (c : Thread nD τ) (st2 a t) fullShare ((dats m a 0 c).before 2 t d))
    ∗ (∃ d, owns (c : Thread nD τ) (st3 a t) fullShare ((dats m a 0 c).before 3 t d))
    ∗ (∃ d, owns (c : Thread nD τ) (st4 a t) fullShare ((dats m a 0 c).before 4 t d))
    ∗ (∃ d, owns (c : Thread nD τ) (st5 a t) fullShare ((dats m a 0 c).before 5 t d)))

/-- and what it returns. -/
def bodyPost (c : Dev nD) (t : Fin (cfg0 a).N) : sProp 𝕄 :=
  iprop((dats m a 0 c).Φ t.succ ∗ (dats m a 0 c).owesAt () t.succ
    ∗ owns (c : Thread nD τ) (st0 a t) fullShare ((dats m a 0 c).after 0 t)
    ∗ owns (c : Thread nD τ) (st1 a t) fullShare ((dats m a 0 c).after 1 t)
    ∗ owns (c : Thread nD τ) (st2 a t) fullShare ((dats m a 0 c).after 2 t)
    ∗ owns (c : Thread nD τ) (st3 a t) fullShare ((dats m a 0 c).after 3 t)
    ∗ owns (c : Thread nD τ) (st4 a t) fullShare ((dats m a 0 c).after 4 t)
    ∗ (dats m a 0 c).leavesExact 5 t)

theorem sound_body (hg : Good a.1) (c : Dev nD) (t : Fin (cfg0 a).N) :
    bodyPre m a c t ⊢ wp frame (wpE (defs₀ (F := F)) Variants.none c none) Set.univ (bodyAt a t) (fun _ => bodyPost m a c t) := by
  unfold bodyPre bodyPost
  simp only [before0, before1, before2, before3, before4]
  rw [show (dats m a 0 c).Φ t.succ = (dats m a 0 c).Φ t.castSucc from rfl,
    show (dats m a 0 c).owesAt () t.succ = (dats m a 0 c).owesAt () t.castSucc from rfl,
    show (dats m a 0 c).Φ t.castSucc = iprop(Pipeline.ΦA spec0 c ∗ Pipeline.prefHeld pre0 c (fun _ => fullShare.right) a.1) from rfl,
    tables_pair, after0, after1, after2, after3, after4]
  by_cases hl : t.val < (nuW a.1).toNat
  · have hid : (cfg0 a).idle 5 ((cfg0 a).grid.coords t) = false := by rw [idle5 a hg, decide_eq_true hl]; rfl
    have hlv : live a t = t := Fin.ext (by show min t.val _ = t.val; omega)
    have hc : k0_cond1 (grid0.coords t) (a.1.atD 1 ![0]) = 1#1 := (cond_iff _ a.1 hg).mpr (by rw [coord_val t]; exact hl)
    have hpost : (dats m a 0 c).leavesExact 5 t = owns (c : Thread nD τ) (st5 a t) fullShare (outAt m a c t) := by
      unfold Dat.leavesExact; rw [hid]; rw [after5, hlv]
    rw [hpost]
    iintro ⟨⟨HΦ, HT0, HT1⟩, Ho, ⟨%d0, H0⟩, ⟨%d1, H1⟩, ⟨%d2, H2⟩, ⟨%d3, H3⟩, ⟨%d4, H4⟩, ⟨%d5, H5⟩⟩
    iapply (sound_live c Set.univ (grid0.coords t) a.1 (a.1 1) rfl hc _ _ _ _ _ _ _ _ _ _ _ _ (iblk m a c 0 t) (iblk m a c 1 t) (iblk m a c 2 t) (iblk m a c 3 t) (iblk m a c 4 t) _)
    isplitl [HT1]; · iexact HT1
    isplitl [H0]; · iexact H0
    isplitl [H1]; · iexact H1
    isplitl [H2]; · iexact H2
    isplitl [H3]; · iexact H3
    isplitl [H4]; · iexact H4
    isplitl [H5]; · iexists _; iexact H5
    iintro ⟨HT1, H0, H1, H2, H3, H4, H5⟩
    isplitl [HΦ HT0 HT1]
    · isplitl [HΦ]; · iexact HΦ
      isplitl [HT0]; · iexact HT0
      iexact HT1
    isplitl [Ho]; · iexact Ho
    isplitl [H0]; · iexact H0
    isplitl [H1]; · iexact H1
    isplitl [H2]; · iexact H2
    isplitl [H3]; · iexact H3
    isplitl [H4]; · iexact H4
    iexact H5
  · have hid : (cfg0 a).idle 5 ((cfg0 a).grid.coords t) = true := by rw [idle5 a hg, decide_eq_false hl]; rfl
    have hc : ¬ k0_cond1 (grid0.coords t) (a.1.atD 1 ![0]) = 1#1 := fun e => hl (by have := (cond_iff _ a.1 hg).mp e; rwa [coord_val t] at this)
    have hpost : ∀ d, owns (c : Thread nD τ) (st5 a t) fullShare ((dats m a 0 c).before 5 t d) ⊢ ((dats m a 0 c).leavesExact 5 t : sProp 𝕄) := by
      intro d
      unfold Dat.leavesExact; rw [hid]
      cases hf : ((cfg0 a).win 5).flush t
      · iintro H; iexists d; iexact H
      · rw [before5 m a hg c d t.val t rfl (by omega)]
    iintro ⟨⟨HΦ, HT0, HT1⟩, Ho, ⟨%d0, H0⟩, ⟨%d1, H1⟩, ⟨%d2, H2⟩, ⟨%d3, H3⟩, ⟨%d4, H4⟩, ⟨%d5, H5⟩⟩
    iapply (sound_idle c Set.univ (grid0.coords t) a.1 (a.1 1) rfl hc _ _ _ _ _ _ _ _ _ _ _ _ _)
    isplitl [HT1]; · iexact HT1
    iintro HT1
    isplitl [HΦ HT0 HT1]
    · isplitl [HΦ]; · iexact HΦ
      isplitl [HT0]; · iexact HT0
      iexact HT1
    isplitl [Ho]; · iexact Ho
    isplitl [H0]; · iexact H0
    isplitl [H1]; · iexact H1
    isplitl [H2]; · iexact H2
    isplitl [H3]; · iexact H3
    isplitl [H4]; · iexact H4
    iapply (hpost d5)
    iexact H5

theorem defs₀_row (t : Fin (cfg0 a).N) :
    defs₀ (F := F) .tc (cfg0 a).body ((cfg0 a).bodyArgs t ((cfg0 a).slots t)) = bodyAt a t := by
  unfold defs₀; rw [Defs.onTc_tc]

theorem body_obligation (hg : Good a.1) (c : Dev nD) :
    BodyObligation (dats (F := F) m a 0 c) (defs₀ (F := F)) Variants.none () Set.univ := fun t => by
  rw [bigSep_W0, bigSep_W0, defs₀_row]
  exact triple_restated (sound_body m a hg c t) rfl .rfl fun _ => .rfl

/-! ## The run and the frame -/

/-- The launch's contents of the buffers. -/
abbrev V (c : Dev nD) (b : Ref sig .tc) : Buf (Elt F) ((c : Thread nD τ).loc b) := m ((c : Thread nD τ).loc b)

set_option backward.isDefEq.respectTransparency.types false in
set_option maxHeartbeats 800000 in
/-- The run from a memory whose tables are `a`. -/
theorem run_main (hg : Good a.1) (hpf : ∀ (c : Dev nD) k, V m c (pre0.ref k) = a.1 k) :
    θ_run defs (onTc (τ := τ) (main (F := F))) (s₀ m g)
      (fun r => (Pipeline.FramePost (Pipeline.pin pcfgs (fun _ => a)) (dats m a) 0 (V m)) r ∧ r.2.sem = fun _ => 0) :=
  Pipeline.θ_run_frameP (Q' := _) pcfgs (fun _ => a) (dats m a) (0 : Fin 1) launch0 defs₀ Variants.none m g main
    (hbody := fun c => (body_obligation m a hg c).loose) (hshare := fun c => (dats m a 0 c).share_full fun _ => rfl)
    (howed := fun _ _ => rfl) (V := V m) (hmain := Pipeline.hmainP_region pcfgs 0 defs₀ Variants.none m main (fun c => main_chain c))
    (hA := fun _ _ => rfl) (hpf := hpf) (hΦ := fun _ _ => rfl)

/-! ## The expert of a block -/

/-- The expert of a block, the word an index map loads. -/
abbrev beW (pf : pre0.Contents (Elt F)) (i : grid0.Coords) : BitVec 32 :=
  pf.at 0 (Rect.unit (s := S288) (k0_off1 i) S1.size (k0_off1_inb i)) numel1_S1

omit [FloatOps F] in
/-- It is the table's entry at the block. -/
theorem beW_eq (pf : pre0.Contents (Elt F)) (i : grid0.Coords) :
    beW pf i = (show IVec S288 32 from pf 0) (ix1 (i 0 : Fin 288)) := by
  have hi : (i 0).val < 288 := (i 0).isLt
  refine congrArg (show IVec S288 32 from pf 0) ?_
  refine funext fun k => ?_
  fin_cases k
  refine Fin.ext ?_
  show (BitVec.ofNat 32 (i 0).val).toNat + 1 * 0 = (i 0).val
  rw [show (BitVec.ofNat 32 (i 0).val).toNat = (i 0).val from Nat.mod_eq_of_lt (by omega)]; omega

/-- The tables in range: every expert below their number, the count between one and the number of blocks. -/
structure Ranges (pf : pre0.Contents (Elt F)) : Prop where
  expert : ∀ i, ((show IVec S288 32 from pf 0) i).toNat < 128
  count : Good pf

theorem at_eq' (pf : pre0.Contents (Elt F)) :
    nuW pf = (show IVec S1 32 from pf 1) (ix1 (0 : Fin 1)) := by
  rw [← at_eq]
  refine congrArg (show IVec S1 32 from pf 1) ?_
  refine funext fun k => ?_
  fin_cases k; exact Subsingleton.elim (α := Fin 1) _ _

theorem ok_of (pf : pre0.Contents (Elt F)) (h : Ranges pf) : ok0 pf := by
  have hb : ∀ i, (beW pf i).toNat < 128 := fun i => by rw [beW_eq]; exact h.expert _
  have hn := h.count
  refine ⟨fun i => ⟨?_, .inl rfl⟩, fun i => ⟨?_, .inr (.inr ⟨by decide, rfl, rfl, rfl⟩)⟩, fun i => ⟨?_, .inl rfl⟩, fun i => ⟨?_, .inr (.inr ⟨by decide, rfl, rfl, rfl⟩)⟩, fun i => ⟨?_, .inl rfl⟩, fun i => ⟨?_, .inl rfl⟩⟩
  · rw [show cc0_transform_0 inb_S1_S1_0 numel1_S1 pf i = _ from tr5 i pf hn]
    intro k; fin_cases k
    · show (min (i 0).val _ + 1) * 8192 ≤ 2359296; omega
    · show (0 + 1) * 128 ≤ 128; omega
  · intro k; have := hb i; fin_cases k
    · show ((beW pf i).toNat + 1) * 1 ≤ 128; omega
    · show (0 + 1) * 1024 ≤ 1024; omega
    · show (0 + 1) * 2048 ≤ 2048; omega
  · intro k; have := hb i; fin_cases k
    · show ((beW pf i).toNat + 1) * 1 ≤ 128; omega
    · show (0 + 1) * 1 ≤ 1; omega
    · show (0 + 1) * 2048 ≤ 2048; omega
  · intro k; have := hb i; fin_cases k
    · show ((beW pf i).toNat + 1) * 1 ≤ 128; omega
    · show (0 + 1) * 1024 ≤ 1024; omega
    · show (0 + 1) * 1024 ≤ 1024; omega
  · intro k; have := hb i; fin_cases k
    · show ((beW pf i).toNat + 1) * 1 ≤ 128; omega
    · show (0 + 1) * 1 ≤ 1; omega
    · show (0 + 1) * 1024 ≤ 1024; omega
  · rw [tr5 i pf hn]
    intro k; fin_cases k
    · show (min (i 0).val _ + 1) * 8192 ≤ 2359296; omega
    · show (0 + 1) * 128 ≤ 128; omega

/-- The tables a memory holds. -/
def tabs : pre0.Contents (Elt F) := fun k => m (((0 : Dev nD) : Thread nD τ).loc (pre0.ref k))

variable {m} in
/-- A memory's tables in range are ones the call admits. -/
def adm (h : Ranges (tabs m)) : (pcfg0 (F := F)).Adm := ⟨tabs m, ok_of _ h⟩

theorem V_tabs (c : Dev nD) (k) : V m c (pre0.ref k) = tabs m k := by
  obtain rfl : c = 0 := Subsingleton.elim _ _
  rfl

theorem rest0 : main_arg0 ∈ Pipeline.restRefs sig spec0 := Pipeline.mem_restRefs_of main_arg0 (by decide) (by decide)
theorem rest1 : main_arg1 ∈ Pipeline.restRefs sig spec0 := Pipeline.mem_restRefs_of main_arg1 (by decide) (by decide)

set_option maxHeartbeats 1000000 in
/-- What the run leaves, with its arguments as launched. -/
theorem run (h : Ranges (tabs m)) :
    θ_run defs (onTc (τ := τ) (main (F := F))) (s₀ m g)
      (fun r => (∀ c : Dev nD, r.2.mem ((c.tc : Thread nD τ).loc main_v0) = (dats m (adm h) 0 c).arrAt 5 (cfg0 (adm h)).N
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)) ∧ r.2.sem = fun _ => 0) := by
  refine (θ_run defs _ _).mono (fun r hr => ⟨fun c => ?_, hr.2⟩) (run_main m g (adm h) h.count (V_tabs m))
  have hc := hr.1 c
  refine ⟨hc.1 5, ?_, ?_, ?_, ?_, ?_, ?_, ?_⟩
  · exact hc.2 main_arg0 rest0
  · exact hc.2 main_arg1 rest1
  · exact (hc.1 0).trans ((dats m (adm h) 0 c).arrAt_in 0 rfl _)
  · exact (hc.1 1).trans ((dats m (adm h) 0 c).arrAt_in 1 rfl _)
  · exact (hc.1 2).trans ((dats m (adm h) 0 c).arrAt_in 2 rfl _)
  · exact (hc.1 3).trans ((dats m (adm h) 0 c).arrAt_in 3 rfl _)
  · exact (hc.1 4).trans ((dats m (adm h) 0 c).arrAt_in 4 rfl _)

end Cert.ExIdeal.Run

end
-- ==== Proof.ExValue.lean ====
/- The experts' value: what a working point leaves, at an entry. -/
module

public import proofs.«01_k».proof.Proof.ExIdealFrame
public import Idealize.ShloMosaic.Lib.Pipeline.ValueKit
public import Idealize.ShloMosaic.Lib.Pipeline.Covers
public import Idealize.ShloMosaic.Lib.Pointwise

@[expose] public section

set_option maxRecDepth 16384

noncomputable section

open Idealize.ShloMosaic Idealize.ShloMosaic.TcCoe Idealize.SL.Sem

namespace Cert.ExIdeal.Run

open Cert.ExIdeal.Gen

/-- Row `r` of the operand, column `k`, in the block's rows of 128 lanes. -/
abbrev tileIx (r k : Fin 1024) : S8192x128.Idx :=
  ix2 (⟨8 * r.val + k.val / 128, by omega⟩ : Fin 8192) (⟨k.val % 128, by omega⟩ : Fin 128)

/-- The projection of a block's row. -/
def hidB (x : Vec Ideal S8192x128 .f32) (w1 : Vec Ideal S1x1024x2048 .bf16) (b1 : Vec Ideal S1x1x2048 .f32)
    (r : Fin 1024) (j : Fin 2048) : EReal :=
  (∑ k : Fin 1024, x (tileIx r k) * w1 (ix3 (0 : Fin 1) k j)) + b1 (ix3 (0 : Fin 1) (0 : Fin 1) j)

/-- The eight planes side by side are the operand's rows. -/
theorem planes (x : Vec Ideal S8192x128 .f32) :
    concatenate S1024x1024 1 [⟨S1024x128, View.ld x (rS 0)⟩, ⟨S1024x128, View.ld x (rS 1)⟩, ⟨S1024x128, View.ld x (rS 2)⟩,
      ⟨S1024x128, View.ld x (rS 3)⟩, ⟨S1024x128, View.ld x (rS 4)⟩, ⟨S1024x128, View.ld x (rS 5)⟩, ⟨S1024x128, View.ld x (rS 6)⟩,
      ⟨S1024x128, View.ld x (rS 7)⟩] concatenates_S1024x128_S1024x128_S1024x128_S1024x128_S1024x128_S1024x128_S1024x128_S1024x128_S1024x1024_d1
    = fun i => x (tileIx (i 0) (i 1)) := by
  funext i
  obtain ⟨r, k, rfl⟩ : ∃ r k : Fin 1024, i = ix2 r k := ⟨i 0, i 1, funext fun a => by fin_cases a <;> rfl⟩
  pointwise
  split_ifs <;> (refine congrArg x ?_; congr 1 <;> (refine Fin.ext ?_; show (_ : Nat) = _; simp only []; omega))

/-- The seven, minus seven, one and the sigmoid's slope as the programs write them. -/
abbrev lim : EReal := Ideal.ofBits FTy.f32 0x40E00000#32
abbrev nlim : EReal := Ideal.ofBits FTy.f32 0xC0E00000#32
abbrev slope : EReal := Ideal.ofBits FTy.f32 0x3FD9DB23#32

/-- The gate: the first half clipped above and swished, times one more than the second half clipped. -/
def gate (u v : EReal) : EReal :=
  min u lim * Ideal.logistic (slope * min u lim) * (min lim (max nlim v) + 1)

theorem act_apply (x : Vec Ideal S8192x128 .f32) (w1 : Vec Ideal S1x1024x2048 .bf16) (b1 : Vec Ideal S1x1x2048 .f32)
    (r j : Fin 1024) : act x w1 b1 (ix2 r j)
      = gate (hidB x w1 b1 r ⟨j.val, by omega⟩) (hidB x w1 b1 r ⟨1024 + j.val, by omega⟩) := by
  unfold act k0_pay10
  rw [planes]
  pointwise
  rfl

/-- A row of the block's result. -/
def outB (x : Vec Ideal S8192x128 .f32) (w1 : Vec Ideal S1x1024x2048 .bf16) (b1 : Vec Ideal S1x1x2048 .f32)
    (w2 : Vec Ideal S1x1024x1024 .bf16) (b2 : Vec Ideal S1x1x1024 .f32) (r l : Fin 1024) : EReal :=
  (∑ j : Fin 1024, gate (hidB x w1 b1 r ⟨j.val, by omega⟩) (hidB x w1 b1 r ⟨1024 + j.val, by omega⟩) * w2 (ix3 (0 : Fin 1) j l))
    + b2 (ix3 (0 : Fin 1) (0 : Fin 1) l)

theorem pay1_apply (x : Vec Ideal S8192x128 .f32) (w1 : Vec Ideal S1x1024x2048 .bf16) (b1 : Vec Ideal S1x1x2048 .f32)
    (w2 : Vec Ideal S1x1024x1024 .bf16) (b2 : Vec Ideal S1x1x1024 .f32) (r l : Fin 1024) :
    k0_pay1 (act x w1 b1) (View.ld w2 rW2) (View.ld b2 rB2) (ix2 r l) = outB x w1 b1 w2 b2 r l := by
  have h : act x w1 b1 = fun i => gate (hidB x w1 b1 (i 0) ⟨(i 1).val, by have : (i 1).val < 1024 := (i 1).isLt; omega⟩)
      (hidB x w1 b1 (i 0) ⟨1024 + (i 1).val, by have : (i 1).val < 1024 := (i 1).isLt; omega⟩) := by
    funext i
    obtain ⟨r, k, rfl⟩ : ∃ r k : Fin 1024, i = ix2 r k := ⟨i 0, i 1, funext fun a => by fin_cases a <;> rfl⟩
    exact act_apply x w1 b1 r k
  unfold k0_pay1
  rw [h]
  pointwise
  rfl

/-- The entry of a block's result that holds row `r`, column `l`. -/
def outAtB (x : Vec Ideal S8192x128 .f32) (w1 : Vec Ideal S1x1024x2048 .bf16) (b1 : Vec Ideal S1x1x2048 .f32)
    (w2 : Vec Ideal S1x1024x1024 .bf16) (b2 : Vec Ideal S1x1x1024 .f32) (y : S8192x128.Idx) : EReal :=
  outB x w1 b1 w2 b2 ⟨(y 0).val / 8, by have : (y 0).val < 8192 := (y 0).isLt; omega⟩
      ⟨(y 0).val % 8 * 128 + (y 1).val, by have : (y 1).val < 128 := (y 1).isLt; omega⟩

/-- A plane of the result's block. -/
theorem plane (k : Fin 8) (x : Vec Ideal S8192x128 .f32) (w1 : Vec Ideal S1x1024x2048 .bf16) (b1 : Vec Ideal S1x1x2048 .f32)
    (w2 : Vec Ideal S1x1024x1024 .bf16) (b2 : Vec Ideal S1x1x1024 .f32) (z : S1024x128.Idx) :
    k0_pay1 (act x w1 b1) (View.ld w2 rW2) (View.ld b2 rB2)
        (ix2 (z 0 : Fin 1024) (⟨128 * k.val + (z 1).val, by have : (z 1).val < 128 := (z 1).isLt; omega⟩ : Fin 1024))
      = outAtB x w1 b1 w2 b2 ((rS k).emb z) := by
  have h0 : (z 0).val < 1024 := (z 0).isLt
  have h1 : (z 1).val < 128 := (z 1).isLt
  have e0 : ((rS k).emb z 0).val = k.val + 8 * (z 0).val := rfl
  have e1 : ((rS k).emb z 1).val = 0 + 1 * (z 1).val := rfl
  refine (pay1_apply _ _ _ _ _ _ _).trans ?_
  unfold outAtB
  congr 1
  · refine Fin.ext ?_; show (z 0).val = ((rS k).emb z 0).val / 8; rw [e0]; omega
  · refine Fin.ext ?_; show 128 * k.val + (z 1).val = ((rS k).emb z 0).val % 8 * 128 + ((rS k).emb z 1).val; rw [e0, e1]; omega

theorem outBlk_apply (x : Vec Ideal S8192x128 .f32) (w1 : Vec Ideal S1x1024x2048 .bf16) (b1 : Vec Ideal S1x1x2048 .f32)
    (w2 : Vec Ideal S1x1024x1024 .bf16) (b2 : Vec Ideal S1x1x1024 .f32) (y : S8192x128.Idx) :
    outBlk x w1 b1 w2 b2 y = outAtB x w1 b1 w2 b2 y := by
  unfold outBlk
  refine View.canon_apply_of_pieces (Val := Elt Ideal) (outAtB x w1 b1 w2 b2) _ ?_ y (cover _ _ _ _ _ _ _ _ y)
  intro p hp z
  simp only [List.mem_cons, List.not_mem_nil, or_false] at hp
  obtain rfl | rfl | rfl | rfl | rfl | rfl | rfl | rfl := hp
  · rw [← plane 7]; unfold k0_pay9; pointwise
  · rw [← plane 6]; unfold k0_pay8; pointwise
  · rw [← plane 5]; unfold k0_pay7; pointwise
  · rw [← plane 4]; unfold k0_pay6; pointwise
  · rw [← plane 3]; unfold k0_pay5; pointwise
  · rw [← plane 2]; unfold k0_pay4; pointwise
  · rw [← plane 1]; unfold k0_pay3; pointwise
  · rw [← plane 0]; unfold k0_pay2; pointwise

/-! ## The blocks the points stage -/

variable (m : (ℓ : Loc nD τ sig) → Buf (Elt Ideal) ℓ) (a : (pcfg0 (F := Ideal)).Adm)

theorem index0 (hg : Good a.1) (t : Fin (cfg0 a).N) :
    ((cfg0 a).win 0).index t = ![min t.val ((nuW a.1).toNat - 1), 0] := index5 a hg t

theorem iblk0 (hg : Good a.1) (c : Dev nD) (t : Fin (cfg0 a).N) (y : S8192x128.Idx) (h) :
    iblk m a c 0 t y = m ((c : Thread nD τ).loc main_arg2)
      (ix2 (⟨min t.val ((nuW a.1).toNat - 1) * 8192 + (y 0).val, h⟩ : Fin 2359296) (y 1 : Fin 128)) := by
  refine congrArg (m ((c : Thread nD τ).loc main_arg2)) (funext fun k => Fin.ext ?_)
  refine (((cfg0 a).win 0).rect_emb_val t y k).trans ?_
  rw [index0 a hg]
  fin_cases k
  · rfl
  · show 0 * 128 + (y 1).val = (y 1).val; omega

theorem iblk0_live (hg : Good a.1) (c : Dev nD) (t : Fin (cfg0 a).N) (ht : t.val < (nuW a.1).toNat) (z : S8192x128.Idx) :
    iblk m a c 0 t z = m ((c : Thread nD τ).loc main_arg2) (ix2 (⟨t.val * 8192 + (z 0).val, by
      have : (z 0).val < 8192 := (z 0).isLt
      have := hg.2
      omega⟩ : Fin 2359296) (z 1 : Fin 128)) := by
  have hz : (z 0).val < 8192 := (z 0).isLt
  have hl := hg.2
  have hmin : min t.val ((nuW a.1).toNat - 1) = t.val := by omega
  refine (iblk0 m a hg c t z (by rw [hmin]; omega)).trans ?_
  exact congrArg (fun r : Fin 2359296 => (m ((c : Thread nD τ).loc main_arg2) : Vec Ideal S2359296x128 .f32) (ix2 r (z 1 : Fin 128)))
    (Fin.ext (by show min t.val ((nuW a.1).toNat - 1) * 8192 + (z 0).val = t.val * 8192 + (z 0).val; rw [hmin]))

theorem coord (t : Fin (cfg0 a).N) : (((cfg0 a).grid.coords t) 0 : Fin 288) = ⟨t.val, lt_of_lt_of_eq t.isLt N_0⟩ := Fin.ext (coord_val t)

/-- The expert of the block of point `t`. -/
abbrev expertAt (t : Fin (cfg0 a).N) : Nat := ((show IVec S288 32 from a.1 0) (ix1 (⟨t.val, lt_of_lt_of_eq t.isLt N_0⟩ : Fin 288))).toNat

theorem beW_at (t : Fin (cfg0 a).N) : (beW a.1 ((cfg0 a).grid.coords t)).toNat = expertAt a t := by
  rw [beW_eq, coord]; rfl

theorem iblk1 (c : Dev nD) (t : Fin (cfg0 a).N) (y : S1x1024x2048.Idx) (h : expertAt a t < 128) :
    iblk m a c 1 t y = m ((c : Thread nD τ).loc main_arg3) (ix3 (⟨expertAt a t, h⟩ : Fin 128) (y 1 : Fin 1024) (y 2 : Fin 2048)) := by
  refine congrArg (m ((c : Thread nD τ).loc main_arg3)) (funext fun k => Fin.ext ?_)
  refine (((cfg0 a).win 1).rect_emb_val t y k).trans ?_
  have y0 : (y 0).val < 1 := (y 0).isLt
  fin_cases k
  · show (beW a.1 ((cfg0 a).grid.coords t)).toNat * 1 + (y 0).val = expertAt a t; rw [beW_at]; omega
  · show 0 * 1024 + (y 1).val = (y 1).val; omega
  · show 0 * 2048 + (y 2).val = (y 2).val; omega

theorem iblk2 (c : Dev nD) (t : Fin (cfg0 a).N) (y : S1x1x2048.Idx) (h : expertAt a t < 128) :
    iblk m a c 2 t y = m ((c : Thread nD τ).loc main_arg4) (ix3 (⟨expertAt a t, h⟩ : Fin 128) (y 1 : Fin 1) (y 2 : Fin 2048)) := by
  refine congrArg (m ((c : Thread nD τ).loc main_arg4)) (funext fun k => Fin.ext ?_)
  refine (((cfg0 a).win 2).rect_emb_val t y k).trans ?_
  have y0 : (y 0).val < 1 := (y 0).isLt
  fin_cases k
  · show (beW a.1 ((cfg0 a).grid.coords t)).toNat * 1 + (y 0).val = expertAt a t; rw [beW_at]; omega
  · show 0 * 1 + (y 1).val = (y 1).val; omega
  · show 0 * 2048 + (y 2).val = (y 2).val; omega

theorem iblk3 (c : Dev nD) (t : Fin (cfg0 a).N) (y : S1x1024x1024.Idx) (h : expertAt a t < 128) :
    iblk m a c 3 t y = m ((c : Thread nD τ).loc main_arg5) (ix3 (⟨expertAt a t, h⟩ : Fin 128) (y 1 : Fin 1024) (y 2 : Fin 1024)) := by
  refine congrArg (m ((c : Thread nD τ).loc main_arg5)) (funext fun k => Fin.ext ?_)
  refine (((cfg0 a).win 3).rect_emb_val t y k).trans ?_
  have y0 : (y 0).val < 1 := (y 0).isLt
  fin_cases k
  · show (beW a.1 ((cfg0 a).grid.coords t)).toNat * 1 + (y 0).val = expertAt a t; rw [beW_at]; omega
  · show 0 * 1024 + (y 1).val = (y 1).val; omega
  · show 0 * 1024 + (y 2).val = (y 2).val; omega

theorem iblk4 (c : Dev nD) (t : Fin (cfg0 a).N) (y : S1x1x1024.Idx) (h : expertAt a t < 128) :
    iblk m a c 4 t y = m ((c : Thread nD τ).loc main_arg6) (ix3 (⟨expertAt a t, h⟩ : Fin 128) (y 1 : Fin 1) (y 2 : Fin 1024)) := by
  refine congrArg (m ((c : Thread nD τ).loc main_arg6)) (funext fun k => Fin.ext ?_)
  refine (((cfg0 a).win 4).rect_emb_val t y k).trans ?_
  have y0 : (y 0).val < 1 := (y 0).isLt
  fin_cases k
  · show (beW a.1 ((cfg0 a).grid.coords t)).toNat * 1 + (y 0).val = expertAt a t; rw [beW_at]; omega
  · show 0 * 1 + (y 1).val = (y 1).val; omega
  · show 0 * 1024 + (y 2).val = (y 2).val; omega

/-! ## The whole result -/

/-- Block `b`'s result, at an entry: its rows through its expert. -/
def resB (be : IVec S288 32) (hb : ∀ i, (be i).toNat < 128) (X : Vec Ideal S2359296x128 .f32) (W1 : Vec Ideal S128x1024x2048 .bf16)
    (B1 : Vec Ideal S128x1x2048 .f32) (W2 : Vec Ideal S128x1024x1024 .bf16) (B2 : Vec Ideal S128x1x1024 .f32) (b : Fin 288) (y : S8192x128.Idx) : EReal :=
  outAtB (fun z => X (ix2 (⟨b.val * 8192 + (z 0).val, by have : (z 0).val < 8192 := (z 0).isLt; omega⟩ : Fin 2359296) (z 1 : Fin 128)))
    (fun z => W1 (ix3 (⟨(be (ix1 b)).toNat, hb _⟩ : Fin 128) (z 1 : Fin 1024) (z 2 : Fin 2048)))
    (fun z => B1 (ix3 (⟨(be (ix1 b)).toNat, hb _⟩ : Fin 128) (z 1 : Fin 1) (z 2 : Fin 2048)))
    (fun z => W2 (ix3 (⟨(be (ix1 b)).toNat, hb _⟩ : Fin 128) (z 1 : Fin 1024) (z 2 : Fin 1024)))
    (fun z => B2 (ix3 (⟨(be (ix1 b)).toNat, hb _⟩ : Fin 128) (z 1 : Fin 1) (z 2 : Fin 1024))) y

/-- The experts' result. -/
def res (be : IVec S288 32) (hb : ∀ i, (be i).toNat < 128) (X : Vec Ideal S2359296x128 .f32) (W1 : Vec Ideal S128x1024x2048 .bf16)
    (B1 : Vec Ideal S128x1x2048 .f32) (W2 : Vec Ideal S128x1024x1024 .bf16) (B2 : Vec Ideal S128x1x1024 .f32) (i : S2359296x128.Idx) : EReal :=
  resB be hb X W1 B1 W2 B2 ⟨(i 0).val / 8192, by have : (i 0).val < 2359296 := (i 0).isLt; omega⟩
    (ix2 (⟨(i 0).val % 8192, by omega⟩ : Fin 8192) (i 1 : Fin 128))

/-- What a working point leaves. -/
theorem outAt_eq (hg : Good a.1) (hb : ∀ i, ((show IVec S288 32 from a.1 0) i).toNat < 128) (c : Dev nD) (t : Fin (cfg0 a).N)
    (ht : t.val < (nuW a.1).toNat) (y : S8192x128.Idx) :
    outAt m a c t y = resB (show IVec S288 32 from a.1 0) hb (m ((c : Thread nD τ).loc main_arg2)) (m ((c : Thread nD τ).loc main_arg3))
      (m ((c : Thread nD τ).loc main_arg4)) (m ((c : Thread nD τ).loc main_arg5)) (m ((c : Thread nD τ).loc main_arg6)) ⟨t.val, lt_of_lt_of_eq t.isLt N_0⟩ y := by
  have hN : (cfg0 a).N = 288 := N_0
  have hmin : min t.val ((nuW a.1).toNat - 1) = t.val := by omega
  unfold outAt
  refine (outBlk_apply _ _ _ _ _ y).trans ?_
  unfold resB
  congr 1
  · funext z; exact iblk0_live m a hg c t ht z
  · funext z; exact iblk1 m a c t z (hb _)
  · funext z; exact iblk2 m a c t z (hb _)
  · funext z; exact iblk3 m a c t z (hb _)
  · funext z; exact iblk4 m a c t z (hb _)

/-- Where the result's block of point `t` puts its entry `y`. -/
def pos5 (t : Fin (cfg0 a).N) (y : S8192x128.Idx) : S2359296x128.Idx := (((cfg0 a).win 5).blk t).view.emb y

theorem pos5_0 (hg : Good a.1) (t : Fin (cfg0 a).N) (y : S8192x128.Idx) :
    (pos5 a t y 0).val = min t.val ((nuW a.1).toNat - 1) * 8192 + (y 0).val := by
  refine (((cfg0 a).win 5).rect_emb_val t y (0 : Fin 2)).trans ?_
  rw [index5 a hg]; rfl

theorem pos5_1 (hg : Good a.1) (t : Fin (cfg0 a).N) (y : S8192x128.Idx) : (pos5 a t y 1).val = (y 1).val := by
  refine (((cfg0 a).win 5).rect_emb_val t y (1 : Fin 2)).trans ?_
  rw [index5 a hg]
  show 0 * 128 + (y 1).val = _; omega

/-- A used block is written back: where the next one starts, the last one at the end. -/
theorem flush5_used (hg : Good a.1) (t : Fin (cfg0 a).N) (h : t.val + 1 < (nuW a.1).toNat ∨ t.val + 1 = 288) :
    ((cfg0 a).win 5).flush t = true := by
  have hN : (cfg0 a).grid.N = 288 := N_0
  unfold Pipeline.Window.flush
  rw [Bool.and_eq_true]
  refine ⟨rfl, ?_⟩
  rw [Bool.or_eq_true, decide_eq_true_iff, decide_eq_true_iff]
  have hl := hg.2
  rcases h with h | h
  · refine Or.inr ⟨by omega, fun e => ?_⟩
    rw [index5 a hg, index5 a hg] at e
    have e0 := congrFun e (0 : Fin 2)
    have e1 : min (t.val + 1) ((nuW a.1).toNat - 1) = min t.val ((nuW a.1).toNat - 1) := e0
    omega
  · exact Or.inl (by omega)

/-- The result array on the used blocks. -/
theorem final5 (hg : Good a.1) (hb : ∀ i, ((show IVec S288 32 from a.1 0) i).toNat < 128) (c : Dev nD) (i : S2359296x128.Idx)
    (hi : (i 0).val < (nuW a.1).toNat * 8192) :
    (dats m a 0 c).arrAt 5 (cfg0 a).N i
      = res (show IVec S288 32 from a.1 0) hb (m ((c : Thread nD τ).loc main_arg2)) (m ((c : Thread nD τ).loc main_arg3))
          (m ((c : Thread nD τ).loc main_arg4)) (m ((c : Thread nD τ).loc main_arg5)) (m ((c : Thread nD τ).loc main_arg6)) i := by
  have hN : (cfg0 a).N = 288 := N_0
  have hl := hg.1
  have hl' := hg.2
  have hi0 : (i 0).val < 2359296 := (i 0).isLt
  obtain ⟨t, ht, ht'⟩ : ∃ t : Fin (cfg0 a).N, min t.val ((nuW a.1).toNat - 1) = (i 0).val / 8192
      ∧ (t.val + 1 < (nuW a.1).toNat ∨ t.val + 1 = 288) := by
    by_cases h : (i 0).val / 8192 + 1 = (nuW a.1).toNat
    · exact ⟨⟨287, by omega⟩, by show min 287 _ = _; omega, Or.inr rfl⟩
    · exact ⟨⟨(i 0).val / 8192, by omega⟩, by show min ((i 0).val / 8192) _ = _; omega, Or.inl (by show (i 0).val / 8192 + 1 < _; omega)⟩
  refine (dats m a 0 c).arrAt_forall_of_flushed 5 (fun i v => v = res (show IVec S288 32 from a.1 0) hb (m ((c : Thread nD τ).loc main_arg2)) (m ((c : Thread nD τ).loc main_arg3))
          (m ((c : Thread nD τ).loc main_arg4)) (m ((c : Thread nD τ).loc main_arg5)) (m ((c : Thread nD τ).loc main_arg6)) i) ?_ (cfg0 a).N
    t i (Fin.isLt _) (flush5_used a hg t ht') ?_
  · intro t hf y
    show (dats m a 0 c).after 5 t y = res _ _ _ _ _ _ _ (pos5 a t y)
    rw [after5]
    have hl : (live a t).val = min t.val ((nuW a.1).toNat - 1) := rfl
    refine (outAt_eq m a hg hb c (live a t) (by rw [hl]; omega) y).trans ?_
    have hy0 : (y (0 : Fin 2)).val < 8192 := (y (0 : Fin 2)).isLt
    have p0 := pos5_0 a hg t y
    have p1 := pos5_1 a hg t y
    unfold res
    congr 1
    · refine Fin.ext ?_
      show min t.val ((nuW a.1).toNat - 1) = (pos5 a t y 0).val / 8192
      rw [p0]; omega
    · funext k
      refine Fin.ext ?_
      match k with
      | ⟨0, _⟩ =>
        show (y (0 : Fin 2)).val = (pos5 a t y 0).val % 8192
        rw [p0]; omega
      | ⟨1, _⟩ => exact p1.symm
  · have e : i = pos5 a t (ix2 (⟨(i 0).val % 8192, by omega⟩ : Fin 8192) (i 1 : Fin 128)) := by
      funext k
      refine Fin.ext ?_
      match k with
      | ⟨0, _⟩ => exact (by rw [ht]; show (i 0).val = (i 0).val / 8192 * 8192 + (i 0).val % 8192; omega : (i 0).val = min t.val ((nuW a.1).toNat - 1) * 8192 + (i 0).val % 8192).trans (pos5_0 a hg t (ix2 (⟨(i 0).val % 8192, by omega⟩ : Fin 8192) (i 1 : Fin 128))).symm
      | ⟨1, _⟩ => exact (pos5_1 a hg t (ix2 (⟨(i 0).val % 8192, by omega⟩ : Fin 8192) (i 1 : Fin 128))).symm
    rw [e]
    exact View.emb_mem_set _ _

end Cert.ExIdeal.Run
-- ==== Proof.ExRefValue.lean ====
/- The experts' reference, at an entry. -/
module

public import proofs.«01_k».proof.Proof.Gen.ExRefIdeal.Read
public import proofs.«01_k».proof.Proof.ExValue
public import Idealize.ShloMosaic.Lib.Pointwise

@[expose] public section

set_option maxRecDepth 16384

noncomputable section

open Idealize.ShloMosaic Idealize.ShloMosaic.TcCoe Idealize.SL.Sem

namespace Cert.ExRefIdeal.Closed

open Cert.ExRefIdeal Cert.ExRefIdeal.Gen Cert.ExRefIdeal.Read

/-! ## A slab picked out of an array by a table -/

/-- One slab of an array of 128 per row of a table of starts. -/
abbrev slabDims (R C : Nat) (wf : GatherDims.WF ⟨3, ![128, R, C]⟩ ⟨2, ![288, 3]⟩ ⟨4, ![288, 1, R, C]⟩ [1, 2, 3] [] [] [0, 1, 2] [] 1 ![1, R, C]) :
    GatherDims ⟨3, ![128, R, C]⟩ ⟨2, ![288, 3]⟩ ⟨4, ![288, 1, R, C]⟩ where
  offsetDims := [1, 2, 3]
  collapsedSliceDims := []
  operandBatchingDims := []
  startIndicesBatchingDims := []
  startIndexMap := [0, 1, 2]
  indexVectorDim := 1
  sliceSizes := ![1, R, C]
  wf := wf

theorem gather_slab {α : Type} {R C : Nat} (wf) (x : (⟨3, ![128, R, C]⟩ : Shape).Idx → α) (idx : IVec ⟨2, ![288, 3]⟩ 32)
    (b : Fin 288) (p : Fin R) (q : Fin C) (e : Fin 128) (h0 : (idx (ix2 b (0 : Fin 3))).toInt.toNat = e.val)
    (y : (⟨4, ![288, 1, R, C]⟩ : Shape).Idx) (hy0 : (y 0).val = b.val) (hy2 : (y 2).val = p.val) (hy3 : (y 3).val = q.val) :
    Host.gather (slabDims R C wf) x idx y = x (ix3 e p q) := by
  unfold Host.gather
  congr 1
  funext a
  refine Fin.ext ?_
  show (slabDims R C wf).start y idx a + (slabDims R C wf).batchCoord y a + (slabDims R C wf).offCoord y a = _
  rw [GatherDims.batchCoord_eq_zero _ _ _ List.not_mem_nil]
  have hs : ∀ (k : Fin 3), (slabDims R C wf).siIdx y ⟨k.val, k.isLt⟩ = ix2 b k := fun k => by
    funext d; refine Fin.ext ?_
    match d with
    | ⟨0, _⟩ => exact hy0
    | ⟨1, _⟩ => rfl
  match a with
  | ⟨0, _⟩ =>
    show min (idx ((slabDims R C wf).siIdx y ⟨(0 : Fin 3).val, (0 : Fin 3).isLt⟩)).toInt.toNat (128 - 1) + 0 + (y 1).val = e.val
    have hy1 : (y 1).val < 1 := (y 1).isLt
    rw [hs 0, h0]; omega
  | ⟨1, _⟩ =>
    show min (idx ((slabDims R C wf).siIdx y ⟨(1 : Fin 3).val, (1 : Fin 3).isLt⟩)).toInt.toNat (R - R) + 0 + (y 2).val = p.val
    rw [hy2]; omega
  | ⟨2, _⟩ =>
    show min (idx ((slabDims R C wf).siIdx y ⟨(2 : Fin 3).val, (2 : Fin 3).isLt⟩)).toInt.toNat (C - C) + 0 + (y 3).val = q.val
    rw [hy3]; omega

/-- Three columns side by side: the first. -/
theorem table0 (A B C : IVec S288x1 32) (b : Fin 288) :
    concatenate S288x3 1 [⟨S288x1, A⟩, ⟨S288x1, B⟩, ⟨S288x1, C⟩] concatenates_S288x1_S288x1_S288x1_S288x3_d1 (ix2 b (0 : Fin 3))
      = A (ix2 b (0 : Fin 1)) := by
  pointwise

/-! ## The table of experts, with negative entries wrapped -/

variable (x0 : IVec S288 32) (hb : ∀ i, (x0 i).toNat < 128)

include hb in
theorem wrap (i : S288.Idx) (z w : IVec S288 32) (hz : z i = 0#32) : select (cmpi .slt x0 z) w x0 i = x0 i := by
  have h := hb i
  have hc : cmpi .slt x0 z i = 0#1 := by
    show BitVec.ofBool ((x0 i).slt (z i)) = 0#1
    rw [hz]
    have : (x0 i).slt 0#32 = false := by
      rw [BitVec.slt, decide_eq_false_iff_not, BitVec.toInt_eq_toNat_cond]
      simp only [BitVec.toInt_zero]
      split <;> omega
    rw [this]; rfl
  show Idealize.ShloMosaic.Scalar.select (cmpi .slt x0 z i) (w i) (x0 i) = x0 i
  rw [hc]; rfl

include hb in
theorem expert_toInt (i : S288.Idx) : (x0 i).toInt.toNat = (x0 i).toNat := by
  have h := hb i
  rw [BitVec.toInt_eq_toNat_cond]; split <;> omega

include hb in
theorem start15 (b : Fin 288) : val_main_v15 (F := Ideal) x0 (ix2 b (0 : Fin 3)) = x0 (ix1 b) := by
  refine (table0 _ _ _ b).trans ?_
  rw [val_main_v12_apply]
  refine (wrap x0 hb _ _ _ (by simp only [val_main_v1_apply, val_main_c_apply])).trans ?_
  exact congrArg x0 (funext fun a => by fin_cases a; rfl)

include hb in
theorem start33 (b : Fin 288) : val_main_v33 (F := Ideal) x0 (ix2 b (0 : Fin 3)) = x0 (ix1 b) := by
  refine (table0 _ _ _ b).trans ?_
  rw [val_main_v30_apply]
  refine (wrap x0 hb _ _ _ (by simp only [val_main_v19_apply, val_main_c_11_apply])).trans ?_
  exact congrArg x0 (funext fun a => by fin_cases a; rfl)

include hb in
theorem start69 (b : Fin 288) : val_main_v69 (F := Ideal) x0 (ix2 b (0 : Fin 3)) = x0 (ix1 b) := by
  refine (table0 _ _ _ b).trans ?_
  rw [val_main_v66_apply]
  refine (wrap x0 hb _ _ _ (by simp only [val_main_v55_apply, val_main_c_29_apply])).trans ?_
  exact congrArg x0 (funext fun a => by fin_cases a; rfl)

include hb in
theorem start87 (b : Fin 288) : val_main_v87 (F := Ideal) x0 (ix2 b (0 : Fin 3)) = x0 (ix1 b) := by
  refine (table0 _ _ _ b).trans ?_
  rw [val_main_v84_apply]
  refine (wrap x0 hb _ _ _ (by simp only [val_main_v73_apply, val_main_c_41_apply])).trans ?_
  exact congrArg x0 (funext fun a => by fin_cases a; rfl)

/-! ## The gathered parameters -/

theorem w1_apply (x3 : Vec Ideal S128x1024x2048 .bf16) (b : Fin 288) (p : Fin 1024) (q : Fin 2048) :
    val_main_v17 (F := Ideal) x0 x3 (ix3 b p q) = x3 (ix3 (⟨(x0 (ix1 b)).toNat, hb _⟩ : Fin 128) p q) := by
  rw [val_main_v17_apply]
  exact gather_slab _ x3 _ b p q ⟨(x0 (ix1 b)).toNat, hb _⟩ (by rw [start15 x0 hb]; exact expert_toInt x0 hb _) _
    (by show ((b.val * 1024 + p.val) * 2048 + q.val) / 2097152 = b.val; omega)
    (by show ((b.val * 1024 + p.val) * 2048 + q.val) / 2048 % 1024 = p.val; omega)
    (by show ((b.val * 1024 + p.val) * 2048 + q.val) % 2048 = q.val; omega)

theorem b1_apply (x4 : Vec Ideal S128x1x2048 .f32) (b : Fin 288) (p : Fin 1) (q : Fin 2048) :
    val_main_v35 (F := Ideal) x0 x4 (ix3 b p q) = x4 (ix3 (⟨(x0 (ix1 b)).toNat, hb _⟩ : Fin 128) p q) := by
  rw [val_main_v35_apply]
  exact gather_slab _ x4 _ b p q ⟨(x0 (ix1 b)).toNat, hb _⟩ (by rw [start33 x0 hb]; exact expert_toInt x0 hb _) _
    (by show ((b.val * 1 + p.val) * 2048 + q.val) / 2048 = b.val; omega)
    (by show 0 = p.val; omega)
    (by show ((b.val * 1 + p.val) * 2048 + q.val) % 2048 = q.val; omega)

theorem w2_apply (x5 : Vec Ideal S128x1024x1024 .bf16) (b : Fin 288) (p : Fin 1024) (q : Fin 1024) :
    val_main_v71 (F := Ideal) x0 x5 (ix3 b p q) = x5 (ix3 (⟨(x0 (ix1 b)).toNat, hb _⟩ : Fin 128) p q) := by
  rw [val_main_v71_apply]
  exact gather_slab _ x5 _ b p q ⟨(x0 (ix1 b)).toNat, hb _⟩ (by rw [start69 x0 hb]; exact expert_toInt x0 hb _) _
    (by show ((b.val * 1024 + p.val) * 1024 + q.val) / 1048576 = b.val; omega)
    (by show ((b.val * 1024 + p.val) * 1024 + q.val) / 1024 % 1024 = p.val; omega)
    (by show ((b.val * 1024 + p.val) * 1024 + q.val) % 1024 = q.val; omega)

theorem b2_apply (x6 : Vec Ideal S128x1x1024 .f32) (b : Fin 288) (p : Fin 1) (q : Fin 1024) :
    val_main_v89 (F := Ideal) x0 x6 (ix3 b p q) = x6 (ix3 (⟨(x0 (ix1 b)).toNat, hb _⟩ : Fin 128) p q) := by
  rw [val_main_v89_apply]
  exact gather_slab _ x6 _ b p q ⟨(x0 (ix1 b)).toNat, hb _⟩ (by rw [start87 x0 hb]; exact expert_toInt x0 hb _) _
    (by show ((b.val * 1 + p.val) * 1024 + q.val) / 1024 = b.val; omega)
    (by show 0 = p.val; omega)
    (by show ((b.val * 1 + p.val) * 1024 + q.val) % 1024 = q.val; omega)

/-! ## The projections and the gate -/

/-- Block `b`'s operands as one block's. -/
abbrev bX (x2 : Vec Ideal S2359296x128 .f32) (b : Fin 288) : Vec Ideal Cert.ExIdeal.S8192x128 .f32 :=
  fun z => x2 (ix2 (⟨b.val * 8192 + (z 0).val, by have : (z 0).val < 8192 := (z 0).isLt; omega⟩ : Fin 2359296) (z 1 : Fin 128))
abbrev bW1 (x3 : Vec Ideal S128x1024x2048 .bf16) (b : Fin 288) : Vec Ideal Cert.ExIdeal.S1x1024x2048 .bf16 :=
  fun z => x3 (ix3 (⟨(x0 (ix1 b)).toNat, hb _⟩ : Fin 128) (z 1 : Fin 1024) (z 2 : Fin 2048))
abbrev bB1 (x4 : Vec Ideal S128x1x2048 .f32) (b : Fin 288) : Vec Ideal Cert.ExIdeal.S1x1x2048 .f32 :=
  fun z => x4 (ix3 (⟨(x0 (ix1 b)).toNat, hb _⟩ : Fin 128) (z 1 : Fin 1) (z 2 : Fin 2048))
abbrev bW2 (x5 : Vec Ideal S128x1024x1024 .bf16) (b : Fin 288) : Vec Ideal Cert.ExIdeal.S1x1024x1024 .bf16 :=
  fun z => x5 (ix3 (⟨(x0 (ix1 b)).toNat, hb _⟩ : Fin 128) (z 1 : Fin 1024) (z 2 : Fin 1024))
abbrev bB2 (x6 : Vec Ideal S128x1x1024 .f32) (b : Fin 288) : Vec Ideal Cert.ExIdeal.S1x1x1024 .f32 :=
  fun z => x6 (ix3 (⟨(x0 (ix1 b)).toNat, hb _⟩ : Fin 128) (z 1 : Fin 1) (z 2 : Fin 1024))

theorem hid_apply (x2 : Vec Ideal S2359296x128 .f32) (x3 : Vec Ideal S128x1024x2048 .bf16) (x4 : Vec Ideal S128x1x2048 .f32)
    (b : Fin 288) (r : Fin 1024) (j : Fin 2048) :
    val_main_v37 (F := Ideal) x0 x2 x3 x4 (ix3 b r j)
      = Cert.ExIdeal.Run.hidB (bX x2 b) (bW1 x0 hb x3 b) (bB1 x0 hb x4 b) r j := by
  rw [val_main_v37_apply, val_main_v18_apply, val_main_v36_apply]
  unfold Cert.ExIdeal.Run.hidB
  refine congrArg₂ (fun u v : EReal => u + v) (Finset.sum_congr (M := EReal) rfl fun k _ => ?_) ?_
  · rw [val_main_v0_apply]
    refine congrArg₂ (fun u v : EReal => u * v) ?_ ?_
    · refine congrArg x2 (funext fun a => Fin.ext ?_)
      match a with
      | ⟨0, _⟩ => show ((b.val * 1024 + r.val) * 1024 + k.val) / 128 = b.val * 8192 + (8 * r.val + k.val / 128); omega
      | ⟨1, _⟩ => show ((b.val * 1024 + r.val) * 1024 + k.val) % 128 = k.val % 128; omega
    · exact w1_apply x0 hb x3 b k j
  · exact b1_apply x0 hb x4 b 0 j

theorem gate_apply (x2 : Vec Ideal S2359296x128 .f32) (x3 : Vec Ideal S128x1024x2048 .bf16) (x4 : Vec Ideal S128x1x2048 .f32)
    (b : Fin 288) (r j : Fin 1024) :
    val_main_v54 (F := Ideal) x0 x2 x3 x4 (ix3 b r j)
      = Cert.ExIdeal.Run.gate (Cert.ExIdeal.Run.hidB (bX x2 b) (bW1 x0 hb x3 b) (bB1 x0 hb x4 b) r ⟨j.val, by omega⟩)
          (Cert.ExIdeal.Run.hidB (bX x2 b) (bW1 x0 hb x3 b) (bB1 x0 hb x4 b) r ⟨1024 + j.val, by omega⟩) := by
  have h38 : val_main_v38 (F := Ideal) x0 x2 x3 x4 (ix3 b r j)
      = Cert.ExIdeal.Run.hidB (bX x2 b) (bW1 x0 hb x3 b) (bB1 x0 hb x4 b) r ⟨j.val, by omega⟩ := by
    rw [val_main_v38_apply]
    refine Eq.trans (congrArg _ (funext fun a => Fin.ext ?_)) (hid_apply x0 hb x2 x3 x4 b r ⟨j.val, by omega⟩)
    fin_cases a <;> rfl
  have h41 : val_main_v41 (F := Ideal) x0 x2 x3 x4 (ix3 b r j)
      = Cert.ExIdeal.Run.hidB (bX x2 b) (bW1 x0 hb x3 b) (bB1 x0 hb x4 b) r ⟨1024 + j.val, by omega⟩ := by
    rw [val_main_v41_apply]
    refine Eq.trans (congrArg _ (funext fun a => Fin.ext ?_)) (hid_apply x0 hb x2 x3 x4 b r ⟨1024 + j.val, by omega⟩)
    fin_cases a <;> rfl
  rw [val_main_v54_apply, val_main_v51_apply, val_main_v53_apply]
  simp only [val_main_v40_apply, val_main_v50_apply, val_main_v48_apply, val_main_v46_apply, val_main_v45_apply, val_main_v44_apply, val_main_v42_apply, val_main_call0_v2_apply, val_main_call0_v1_apply,
    val_main_call0_v0_apply, val_main_cst_23_apply, val_main_call0_v4_apply, val_main_call0_v3_apply, val_main_cst_24_apply, val_main_v39_apply,
    val_main_cst_apply, val_main_v43_apply, val_main_cst_25_apply, val_main_v47_apply, val_main_cst_26_apply, val_main_v49_apply,
    val_main_cst_27_apply, val_main_v52_apply, val_main_cst_28_apply, h38, h41]
  have h1 : (FloatOps.ofBits (F := Ideal) .f32 1065353216#32 : EReal) = 1 := by pointwise
  rw [h1]
  rfl

theorem outRef_apply (x2 : Vec Ideal S2359296x128 .f32) (x3 : Vec Ideal S128x1024x2048 .bf16) (x4 : Vec Ideal S128x1x2048 .f32)
    (x5 : Vec Ideal S128x1024x1024 .bf16) (x6 : Vec Ideal S128x1x1024 .f32) (b : Fin 288) (r l : Fin 1024) :
    val_main_v91 (F := Ideal) x0 x2 x3 x4 x5 x6 (ix3 b r l)
      = Cert.ExIdeal.Run.outB (bX x2 b) (bW1 x0 hb x3 b) (bB1 x0 hb x4 b) (bW2 x0 hb x5 b) (bB2 x0 hb x6 b) r l := by
  rw [val_main_v91_apply, val_main_v72_apply, val_main_v90_apply]
  unfold Cert.ExIdeal.Run.outB
  refine congrArg₂ (fun u v : EReal => u + v) (Finset.sum_congr (M := EReal) rfl fun k _ => ?_) ?_
  · exact congrArg₂ (fun u v : EReal => u * v) (gate_apply x0 hb x2 x3 x4 b r k) (w2_apply x0 hb x5 b k l)
  · exact b2_apply x0 hb x6 b 0 l

/-- The reference's result is the experts'. -/
theorem ref_apply (x2 : Vec Ideal S2359296x128 .f32) (x3 : Vec Ideal S128x1024x2048 .bf16) (x4 : Vec Ideal S128x1x2048 .f32)
    (x5 : Vec Ideal S128x1024x1024 .bf16) (x6 : Vec Ideal S128x1x1024 .f32) (i : S2359296x128.Idx) :
    val_main_v92 (F := Ideal) x0 x2 x3 x4 x5 x6 i = Cert.ExIdeal.Run.res x0 hb x2 x3 x4 x5 x6 i := by
  have h0 : (i 0).val < 2359296 := (i 0).isLt
  have h1 : (i 1).val < 128 := (i 1).isLt
  rw [val_main_v92_apply]
  have e : idx_main_v92 i = ix3 (⟨(i 0).val / 8192, by omega⟩ : Fin 288) (⟨(i 0).val % 8192 / 8, by omega⟩ : Fin 1024)
      (⟨(i 0).val % 8192 % 8 * 128 + (i 1).val, by omega⟩ : Fin 1024) := by
    funext a
    refine Fin.ext ?_
    match a with
    | ⟨0, _⟩ => show ((i 0).val * 128 + (i 1).val) / 1048576 = (i 0).val / 8192; omega
    | ⟨1, _⟩ => show ((i 0).val * 128 + (i 1).val) / 1024 % 1024 = (i 0).val % 8192 / 8; omega
    | ⟨2, _⟩ => show ((i 0).val * 128 + (i 1).val) % 1024 = (i 0).val % 8192 % 8 * 128 + (i 1).val; omega
  rw [e]
  exact outRef_apply x0 hb x2 x3 x4 x5 x6 _ _ _

end Cert.ExRefIdeal.Closed
-- ==== Proof.ExClaim.lean ====
/-
  The experts' claims: the tables' precondition and the used rows read off their predicates, the frames, and the value.
-/
module

public import proofs.«01_k».proof.Defs
public import proofs.«01_k».proof.Proof.Gen.Pre_tables
public import proofs.«01_k».proof.Proof.Gen.On_used_blocks
public import proofs.«01_k».proof.Proof.ExFrame
public import proofs.«01_k».proof.Proof.ExRefValue
public import Idealize.ShloMosaic.Lib.Pointwise

@[expose] public section

set_option maxRecDepth 16384

noncomputable section

open Idealize.ShloMosaic Idealize.ShloMosaic.TcCoe Idealize.SL.Sem

namespace Cert.ExIdeal.RefValue

/-! ## The predicates -/

section Words

theorem lt_of_word (x : BitVec 32) (h : IntOp.andi (IntOp.cmpi .sge x 0#32) (IntOp.cmpi .slt x 128#32) = 1#1) : x.toNat < 128 := by
  have e := WordCmp.andi_sge_zero_slt_ofNat (w := 32) (k := 128) (by decide) x
  rw [show (BitVec.ofNat 32 128) = 128#32 from rfl, h] at e
  exact of_decide_eq_true ((WordCmp.ofBool_eq_one_iff _).mp e.symm)

theorem count_of_word (x : BitVec 32) (h : IntOp.andi (IntOp.cmpi .sge x 1#32) (IntOp.cmpi .sle x 288#32) = 1#1) :
    1 ≤ x.toNat ∧ x.toNat ≤ 288 := by
  rw [WordCmp.cmpi_sge_eq, WordCmp.cmpi_sle_eq, WordCmp.andi_ofBool, WordCmp.ofBool_eq_one_iff, Bool.and_eq_true, decide_eq_true_iff,
    decide_eq_true_iff] at h
  have e1 : (1#32 : BitVec 32).toInt = 1 := by decide
  have e2 : (288#32 : BitVec 32).toInt = 288 := by decide
  rw [e1, e2, BitVec.toInt_eq_toNat_cond] at h
  split at h <;> omega

theorem row_of_word (x : BitVec 32) (n : Nat) (hn : n < 2359296) (hx : x.toNat ≤ 288)
    (h : IntOp.cmpi .slt (BitVec.ofNat 32 n) (IntOp.muli x 8192#32) = 1#1) : n < x.toNat * 8192 := by
  have e : (IntOp.muli x 8192#32).toNat = x.toNat * 8192 := by
    show (x * 8192#32).toNat = _
    rw [BitVec.toNat_mul, show (8192#32 : BitVec 32).toNat = 8192 from rfl]; omega
  have h' : BitVec.ofBool ((BitVec.ofNat 32 n).slt (IntOp.muli x 8192#32)) = 1#1 := h
  rw [WordCmp.ofBool_eq_one_iff, BitVec.slt, decide_eq_true_iff, BitVec.toInt_eq_toNat_cond, BitVec.toInt_eq_toNat_cond, e,
    BitVec.toNat_ofNat] at h'
  rw [Nat.mod_eq_of_lt (by omega)] at h'
  split at h' <;> split at h' <;> omega

end Words

/-- The tables in range, from the predicate. -/
theorem experts_of {F : FTy → Type} [FloatOps F] (a0 a1 a2 a3 a4 a5 a6)
    (h : (Cert.Pre_tables.fn (F := F) a0 a1 a2 a3 a4 a5 a6).1 = fun _ => 1#1) (i : Cert.ExIdeal.S288.Idx) : (a0 i).toNat < 128 :=
  lt_of_word _ (congrFun h i)

theorem count_of {F : FTy → Type} [FloatOps F] (a0 a1 a2 a3 a4 a5 a6)
    (h : (Cert.Pre_tables.fn (F := F) a0 a1 a2 a3 a4 a5 a6).2 = fun _ => 1#1) : 1 ≤ (a1 (ix1 (0 : Fin 1))).toNat ∧ (a1 (ix1 (0 : Fin 1))).toNat ≤ 288 :=
  count_of_word _ (congrFun h (ix1 (0 : Fin 1)))

theorem used_of {F : FTy → Type} [FloatOps F] (a0 a1 a2 a3 a4 a5 a6) (hc : (a1 (ix1 (0 : Fin 1))).toNat ≤ 288) (i : Cert.ExIdeal.S2359296x128.Idx)
    (h : Cert.On_used_blocks.fn (F := F) a0 a1 a2 a3 a4 a5 a6 i = 1#1) : (i 0).val < (a1 (ix1 (0 : Fin 1))).toNat * 8192 := by
  refine row_of_word _ _ (i 0).isLt hc (Eq.trans ?_ h)
  obtain ⟨r, l, rfl⟩ : ∃ (r : Fin 2359296) (l : Fin 128), i = ix2 r l := ⟨i 0, i 1, funext fun a => by fin_cases a <;> rfl⟩
  unfold Cert.On_used_blocks.fn
  pointwise

theorem ranges (m : (ℓ : Loc Cert.ExIdeal.nD Cert.ExIdeal.τ Cert.ExIdeal.sig) → Buf (Elt Ideal) ℓ) (h : Cert.Pre_ExIdeal m) :
    Cert.ExIdeal.Run.Ranges (Cert.ExIdeal.Run.tabs m) where
  expert i := experts_of _ _ _ _ _ _ _ (h 0).1 i
  count := by
    unfold Cert.ExIdeal.Run.Good
    rw [Cert.ExIdeal.Run.at_eq']
    exact count_of _ _ _ _ _ _ _ (h 0).2

theorem rangesBits (m : (ℓ : Loc Cert.Ex.nD Cert.Ex.τ Cert.Ex.sig) → Buf (Elt Bits) ℓ) (h : Cert.Pre_Ex m) :
    Cert.Ex.Run.Ranges (Cert.Ex.Run.tabs m) where
  expert i := experts_of _ _ _ _ _ _ _ (h 0).1 i
  count := by
    unfold Cert.Ex.Run.Good
    rw [Cert.Ex.Run.at_eq']
    exact count_of _ _ _ _ _ _ _ (h 0).2

/-! ## The claims -/

theorem frameKernel : Cert.quiescent_Ex := by
  intro m g h
  exact (θ_run _ _ _).mono (fun r hr => ⟨fun c => (hr.1 c).2, hr.2⟩) (Cert.Ex.Run.run m g (rangesBits m h))

theorem frameIdeal : Cert.quiescent_ExIdeal := by
  intro m g h
  exact (θ_run _ _ _).mono (fun r hr => ⟨fun c => (hr.1 c).2, hr.2⟩) (Cert.ExIdeal.Run.run m g (ranges m h))

theorem frameRef : Cert.quiescent_ExRefIdeal := by
  intro m g _
  refine (θ_run _ _ _).mono (fun r h => ⟨fun c => (h c).2, sem_eq_zero_of_no_sems (by decide) r.2⟩)
    (Cert.ExRefIdeal.Value.run m g)

theorem frameRefTables : Cert.quiescent_ExRefIdeal_pre_tables := by
  intro m g _
  refine (θ_run _ _ _).mono (fun r h => ⟨fun c => (h c).2, sem_eq_zero_of_no_sems (by decide) r.2⟩)
    (Cert.ExRefIdeal.Value.run m g)

/-- What both leave on the used rows. -/
abbrev both (m : (ℓ : Loc Cert.ExIdeal.nD Cert.ExIdeal.τ Cert.ExIdeal.sig) → Buf (Elt Ideal) ℓ) (c : Dev Cert.ExIdeal.nD)
    (hb : ∀ i, ((show IVec Cert.ExIdeal.S288 32 from m ((c.tc : Thread Cert.ExIdeal.nD Cert.ExIdeal.τ).loc Cert.ExIdeal.main_arg0)) i).toNat < 128) :
    Buf (Elt Ideal) ((c.tc : Thread Cert.ExIdeal.nD Cert.ExIdeal.τ).loc Cert.ExIdeal.main_v0) :=
  Cert.ExIdeal.Run.res (show IVec Cert.ExIdeal.S288 32 from m ((c.tc : Thread Cert.ExIdeal.nD Cert.ExIdeal.τ).loc Cert.ExIdeal.main_arg0)) hb
    (m ((c.tc : Thread Cert.ExIdeal.nD Cert.ExIdeal.τ).loc Cert.ExIdeal.main_arg2)) (m ((c.tc : Thread Cert.ExIdeal.nD Cert.ExIdeal.τ).loc Cert.ExIdeal.main_arg3))
    (m ((c.tc : Thread Cert.ExIdeal.nD Cert.ExIdeal.τ).loc Cert.ExIdeal.main_arg4)) (m ((c.tc : Thread Cert.ExIdeal.nD Cert.ExIdeal.τ).loc Cert.ExIdeal.main_arg5))
    (m ((c.tc : Thread Cert.ExIdeal.nD Cert.ExIdeal.τ).loc Cert.ExIdeal.main_arg6))

theorem kernel_eq (m : (ℓ : Loc Cert.ExIdeal.nD Cert.ExIdeal.τ Cert.ExIdeal.sig) → Buf (Elt Ideal) ℓ)
    (hr : Cert.ExIdeal.Run.Ranges (Cert.ExIdeal.Run.tabs m)) (c : Dev Cert.ExIdeal.nD) (hb) (i : Cert.ExIdeal.S2359296x128.Idx)
    (hi : (i 0).val < (Cert.ExIdeal.Run.nuW (Cert.ExIdeal.Run.tabs m)).toNat * 8192) :
    (Cert.ExIdeal.Run.dats m (Cert.ExIdeal.Run.adm hr) 0 c).arrAt 5 (Cert.ExIdeal.cfg0 (Cert.ExIdeal.Run.adm hr)).N i = both m c hb i := by
  obtain rfl : c = 0 := Subsingleton.elim _ _
  exact Cert.ExIdeal.Run.final5 m (Cert.ExIdeal.Run.adm hr) hr.count hb 0 i hi

theorem ref_eq (m : (ℓ : Loc Cert.ExIdeal.nD Cert.ExIdeal.τ Cert.ExIdeal.sig) → Buf (Elt Ideal) ℓ)
    (m' : (ℓ : Loc Cert.ExRefIdeal.nD Cert.ExRefIdeal.τ Cert.ExRefIdeal.sig) → Buf (Elt Ideal) ℓ) (c : Dev Cert.ExIdeal.nD) (hb)
    (h0 : m' ((c.tc : Thread Cert.ExRefIdeal.nD Cert.ExRefIdeal.τ).loc Cert.ExRefIdeal.main_arg0) = m ((c.tc : Thread Cert.ExIdeal.nD Cert.ExIdeal.τ).loc Cert.ExIdeal.main_arg0))
    (h2 : m' ((c.tc : Thread Cert.ExRefIdeal.nD Cert.ExRefIdeal.τ).loc Cert.ExRefIdeal.main_arg2) = m ((c.tc : Thread Cert.ExIdeal.nD Cert.ExIdeal.τ).loc Cert.ExIdeal.main_arg2))
    (h3 : m' ((c.tc : Thread Cert.ExRefIdeal.nD Cert.ExRefIdeal.τ).loc Cert.ExRefIdeal.main_arg3) = m ((c.tc : Thread Cert.ExIdeal.nD Cert.ExIdeal.τ).loc Cert.ExIdeal.main_arg3))
    (h4 : m' ((c.tc : Thread Cert.ExRefIdeal.nD Cert.ExRefIdeal.τ).loc Cert.ExRefIdeal.main_arg4) = m ((c.tc : Thread Cert.ExIdeal.nD Cert.ExIdeal.τ).loc Cert.ExIdeal.main_arg4))
    (h5 : m' ((c.tc : Thread Cert.ExRefIdeal.nD Cert.ExRefIdeal.τ).loc Cert.ExRefIdeal.main_arg5) = m ((c.tc : Thread Cert.ExIdeal.nD Cert.ExIdeal.τ).loc Cert.ExIdeal.main_arg5))
    (h6 : m' ((c.tc : Thread Cert.ExRefIdeal.nD Cert.ExRefIdeal.τ).loc Cert.ExRefIdeal.main_arg6) = m ((c.tc : Thread Cert.ExIdeal.nD Cert.ExIdeal.τ).loc Cert.ExIdeal.main_arg6))
    (i : Cert.ExIdeal.S2359296x128.Idx) : Cert.ExRefIdeal.Value.res_main_v92 m' c i = both m c hb i := by
  rw [Cert.ExRefIdeal.Read.val_main_v92_eq, h0, h2, h3, h4, h5, h6]
  exact Cert.ExRefIdeal.Closed.ref_apply _ hb _ _ _ _ _ i

theorem algebraic : Cert.algebraic_ExIdeal_ExRefIdeal_on_used_blocks := by
  intro m g m' g' hp he
  have hr := ranges m hp
  have hb := fun c : Dev Cert.ExIdeal.nD => experts_of _ _ _ _ _ _ _ (hp c).1
  have hu : ∀ (c : Dev Cert.ExIdeal.nD) (i : Cert.ExIdeal.S2359296x128.Idx) (a0 a2 a3 a4 a5 a6),
      Cert.On_used_blocks.fn (F := Ideal) a0 (m ((c.tc : Thread Cert.ExIdeal.nD Cert.ExIdeal.τ).loc Cert.ExIdeal.main_arg1)) a2 a3 a4 a5 a6 i = 1#1 → (i 0).val < (Cert.ExIdeal.Run.nuW (Cert.ExIdeal.Run.tabs m)).toNat * 8192 :=
    fun c i a0 a2 a3 a4 a5 a6 h => by
      rw [Cert.ExIdeal.Run.at_eq']
      obtain rfl : c = 0 := Subsingleton.elim _ _
      exact used_of _ _ _ _ _ _ _ (count_of _ _ _ _ _ _ _ (hp 0).2).2 i h
  refine ⟨fun c => both m c (hb c), ?_, ?_⟩
  · refine (θ_run _ _ _).mono (fun r h c => ?_) (Cert.ExIdeal.Run.run m g hr)
    exact ⟨fun i hi => (congrFun (h.1 c).1 i).trans (kernel_eq m hr c (hb c) i (hu c i _ _ _ _ _ _ hi)), (h.1 c).2⟩
  · refine (θ_run _ _ _).mono (fun r h c => ?_) (Cert.ExRefIdeal.Value.run m' g')
    obtain ⟨e0, _, e2, e3, e4, e5, e6⟩ := he c
    exact ⟨fun i _ => (congrFun (h c).1 i).trans (ref_eq m m' c (hb c) e0 e2 e3 e4 e5 e6 i), (h c).2⟩

end Cert.ExIdeal.RefValue
-- ==== Proof.AttValue.lean ====
/-
  The memory cross-attention: what its pipelined kernel leaves in its result array, index by index over the extended
  reals.
-/
module

public import proofs.«01_k».proof.Proof.Gen.AttIdeal.Value
public import Idealize.ShloMosaic.Lib.Pipeline.ValueKit
public import Idealize.ShloMosaic.Lib.Pipeline.Covers
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.AttIdeal.RefValue

open Cert.AttIdeal Cert.AttIdeal.Gen

/-- One row of tokens against column `j` of the query weights, scaled by a sixteenth. -/
def query (X : Fin 1024 → EReal) (W : Fin 1024 → Fin 1024 → EReal) (j : Fin 1024) : EReal :=
  (∑ k, X k * W k j) * Ideal.ofBits .f32 1031798784#32

/-- The row's score on memory token `l`, for the head whose 256 columns start at `o`. -/
def score (X : Fin 1024 → EReal) (W : Fin 1024 → Fin 1024 → EReal) (K : Fin 256 → Fin 1024 → EReal) (o : ℕ)
    (ho : o ≤ 768) (l : Fin 256) : EReal :=
  ∑ d : Fin 256, query X W ⟨o + d.val, by omega⟩ * K l ⟨o + d.val, by omega⟩

/-- The largest of the scores. -/
def top (s : Fin 256 → EReal) : EReal := Finset.fold max (Ideal.ofBits .f32 4286578688#32) s Finset.univ

/-- The weight of memory token `l` before normalisation. -/
def wgt (s : Fin 256 → EReal) (l : Fin 256) : EReal := Ideal.exp (s l - top s)

/-- The attention over values `v`, normalised after the sum: as the kernel has it. -/
def attLate (s v : Fin 256 → EReal) : EReal := (∑ l, wgt s l * v l) * Ideal.div 1 (∑ l, wgt s l)

/-- The attention's column `k`, in the head that owns it. -/
def column (att : (Fin 256 → EReal) → (Fin 256 → EReal) → EReal) (X : Fin 1024 → EReal)
    (W : Fin 1024 → Fin 1024 → EReal) (K V : Fin 256 → Fin 1024 → EReal) (k : Fin 1024) : EReal :=
  att (score X W K (k.val / 256 * 256) (by omega)) (fun l => V l k)

/-- The residual plus the attention through its output weights. -/
def mix (A X : Fin 1024 → EReal) (Wo : Fin 1024 → Fin 1024 → EReal) (j : Fin 1024) : EReal :=
  Ideal.ofBits .f32 1071072509#32 * X j + ∑ k, A k * Wo k j

/-- A row minus its mean. -/
def centred (z : Fin 1024 → EReal) (j : Fin 1024) : EReal :=
  z j - Ideal.div (∑ k, z k) (Ideal.ofBits .f32 1149239296#32)

/-- A row normalised to mean zero and variance one, with gain and bias. -/
def normed (z g b : Fin 1024 → EReal) (j : Fin 1024) : EReal :=
  centred z j * Ideal.rsqrt (Ideal.div (∑ k, centred z k * centred z k) (Ideal.ofBits .f32 1149239296#32)
    + Ideal.ofBits .f32 925353388#32) * g j + b j

/-- The whole block at sample `b`, token `t`, feature `j`; layer 1's memories are the samples from 32 on. -/
def block (att : (Fin 256 → EReal) → (Fin 256 → EReal) → EReal) (X : (⟨3, ![32, 2048, 1024]⟩ : Shape).Idx → EReal)
    (MK MV : (⟨3, ![128, 256, 1024]⟩ : Shape).Idx → EReal) (Wq Wo : (⟨2, ![1024, 1024]⟩ : Shape).Idx → EReal)
    (g b : (⟨1, ![1024]⟩ : Shape).Idx → EReal) (n : Fin 32) (t : Fin 2048) (j : Fin 1024) : EReal :=
  normed (mix (column att (fun k => X (ix3 n t k)) (fun k j => Wq (ix2 k j))
      (fun l j => MK (ix3 (⟨32 + n.val, by omega⟩ : Fin 128) l j))
      (fun l j => MV (ix3 (⟨32 + n.val, by omega⟩ : Fin 128) l j)))
    (fun k => X (ix3 n t k)) (fun k j => Wo (ix2 k j))) (fun j => g (ix1 j)) (fun j => b (ix1 j)) j

section Payloads

variable (x0 : Vec Ideal S1x1024x1024 .f32) (x1 x2 : Vec Ideal S1x256x1024 .f32) (x3 x4 : Vec Ideal S1024x1024 .bf16)
  (x5 x6 : Vec Ideal S1x1024 .f32)

/-- The first head's part of the body. -/
theorem head0 (r : Fin 1024) (d : Fin 256) : k0_pay4 x0 x3 (View.ld x1 r0_2) (View.ld x2 r0_2) (ix2 r d)
    = attLate (score (fun k => x0 (ix3 0 r k)) (fun k j => x3 (ix2 k j)) (fun l j => x1 (ix3 0 l j)) 0 (by omega))
      (fun l => x2 (ix3 0 l ⟨0 + d.val, by omega⟩)) := by
  unfold k0_pay4 k0_pay3 k0_pay2
  pointwise
  rfl

/-- The second head's part of the body. -/
theorem head1 (r : Fin 1024) (d : Fin 256) : k0_pay6 (k0_pay5 x0 x3 (View.ld x1 r0_3)) (View.ld x2 r0_3) (ix2 r d)
    = attLate (score (fun k => x0 (ix3 0 r k)) (fun k j => x3 (ix2 k j)) (fun l j => x1 (ix3 0 l j)) 256 (by omega))
      (fun l => x2 (ix3 0 l ⟨256 + d.val, by omega⟩)) := by
  unfold k0_pay6 k0_pay5 k0_pay3 k0_pay2
  pointwise
  rfl

/-- The third head's part of the body. -/
theorem head2 (r : Fin 1024) (d : Fin 256) : k0_pay7 (k0_pay3 x0 x3) (View.ld x1 r0_4) (View.ld x2 r0_4) (ix2 r d)
    = attLate (score (fun k => x0 (ix3 0 r k)) (fun k j => x3 (ix2 k j)) (fun l j => x1 (ix3 0 l j)) 512 (by omega))
      (fun l => x2 (ix3 0 l ⟨512 + d.val, by omega⟩)) := by
  unfold k0_pay7 k0_pay3 k0_pay2
  pointwise
  rfl

/-- Four heads side by side. -/
def beside (a b c e : Fin 256 → EReal) (k : Fin 1024) : EReal :=
  if h : k.val < 256 then a ⟨k.val, h⟩ else if h : k.val - 256 < 256 then b ⟨k.val - 256, h⟩
  else if h : k.val - 256 - 256 < 256 then c ⟨k.val - 256 - 256, h⟩ else e ⟨k.val - 256 - 256 - 256, by omega⟩

/-- The fourth head's part of the body. -/
theorem head3 (r : Fin 1024) (d : Fin 256) :
    attLate (fun l => ∑ e : Fin 256, k0_pay8 (k0_pay3 x0 x3) (ix2 r e) * View.ld x1 r0_5 (ix3 0 l e))
      (fun l => View.ld x2 r0_5 (ix3 0 l d))
    = attLate (score (fun k => x0 (ix3 0 r k)) (fun k j => x3 (ix2 k j)) (fun l j => x1 (ix3 0 l j)) 768 (by omega))
      (fun l => x2 (ix3 0 l ⟨768 + d.val, by omega⟩)) := by
  unfold k0_pay8 k0_pay3 k0_pay2
  pointwise
  rfl

/-- The centred row, from the first three heads and the fourth's operands. -/
theorem centre (v1 : Vec Ideal S1024x1024 .f32) (v29 v51 v73 v74 : Vec Ideal S1024x256 .f32)
    (v75 v85 : Vec Ideal S1x256x256 .f32) (r j : Fin 1024) : k0_pay11 v1 v29 v51 v73 v74 v75 v85 x4 (ix2 r j)
    = centred (mix (beside (fun d => v29 (ix2 r d)) (fun d => v51 (ix2 r d)) (fun d => v73 (ix2 r d))
        (fun d => attLate (fun l => ∑ e : Fin 256, v74 (ix2 r e) * v75 (ix3 0 l e)) (fun l => v85 (ix3 0 l d))))
      (fun j => v1 (ix2 r j)) (fun k j => x4 (ix2 k j))) j := by
  unfold k0_pay11
  pointwise
  rfl

theorem att_move (X : Fin 1024 → EReal) (W : Fin 1024 → Fin 1024 → EReal) (K V : Fin 256 → Fin 1024 → EReal)
    (o o' : ℕ) (ho : o ≤ 768) (ho' : o' ≤ 768) (k k' : Fin 1024) (e : o = o') (e' : k = k') :
    attLate (score X W K o ho) (fun l => V l k) = attLate (score X W K o' ho') (fun l => V l k') := by
  subst e e'
  rfl

/-- The four heads side by side are the attention's columns. -/
theorem beside_eq (X : Fin 1024 → EReal) (W : Fin 1024 → Fin 1024 → EReal) (K V : Fin 256 → Fin 1024 → EReal) :
    beside (fun d => attLate (score X W K 0 (by omega)) (fun l => V l ⟨0 + d.val, by omega⟩))
      (fun d => attLate (score X W K 256 (by omega)) (fun l => V l ⟨256 + d.val, by omega⟩))
      (fun d => attLate (score X W K 512 (by omega)) (fun l => V l ⟨512 + d.val, by omega⟩))
      (fun d => attLate (score X W K 768 (by omega)) (fun l => V l ⟨768 + d.val, by omega⟩))
    = column attLate X W K V := by
  funext k
  unfold beside column
  split_ifs
  all_goals exact att_move _ _ _ _ _ _ _ _ _ _ (by omega) (Fin.ext (by dsimp only; omega))

/-- The body's centred row. -/
theorem centre_eq (r j : Fin 1024) : k0_pay11 (k0_pay2 x0) (k0_pay4 x0 x3 (View.ld x1 r0_2) (View.ld x2 r0_2))
      (k0_pay6 (k0_pay5 x0 x3 (View.ld x1 r0_3)) (View.ld x2 r0_3))
      (k0_pay7 (k0_pay3 x0 x3) (View.ld x1 r0_4) (View.ld x2 r0_4)) (k0_pay8 (k0_pay3 x0 x3)) (View.ld x1 r0_5)
      (View.ld x2 r0_5) x4 (ix2 r j)
    = centred (mix (column attLate (fun k => x0 (ix3 0 r k)) (fun k j => x3 (ix2 k j)) (fun l j => x1 (ix3 0 l j))
        (fun l j => x2 (ix3 0 l j))) (fun k => x0 (ix3 0 r k)) (fun k j => x4 (ix2 k j))) j := by
  have h2 : ∀ k, k0_pay2 x0 (ix2 r k) = x0 (ix3 0 r k) := fun k => by
    unfold k0_pay2
    pointwise
  rw [centre]
  simp only [head0, head1, head2, head3, h2]
  rw [← beside_eq (fun k => x0 (ix3 0 r k)) (fun k j => x3 (ix2 k j)) (fun l j => x1 (ix3 0 l j))
    (fun l j => x2 (ix3 0 l j))]

/-- The last operations of the body, over any centred block. -/
theorem tail_apply (v113 : Vec Ideal S1024x1024 .f32) (v115 : Vec Ideal S1024 .f32) (r j : Fin 1024) :
    k0_pay1 (k0_pay9 x5) (k0_pay10 x6) v113 v115 (ix3 (0 : Fin 1) r j)
    = v113 (ix2 r j) * Ideal.rsqrt (Ideal.div (v115 (ix1 r)) (Ideal.ofBits .f32 1149239296#32)
      + Ideal.ofBits .f32 925353388#32) * x5 (ix2 0 j) + x6 (ix2 0 j) := by
  unfold k0_pay1 k0_pay9 k0_pay10
  pointwise

/-- The sum of the centred row's squares. -/
theorem squares (v1 : Vec Ideal S1024x1024 .f32) (v29 v51 v73 v74 : Vec Ideal S1024x256 .f32)
    (v75 v85 : Vec Ideal S1x256x256 .f32) (r : Fin 1024) : k0_pay12 v1 v29 v51 v73 v74 v75 v85 x4 (ix1 r)
    = ∑ k, k0_pay11 v1 v29 v51 v73 v74 v75 v85 x4 (ix2 r k) * k0_pay11 v1 v29 v51 v73 v74 v75 v85 x4 (ix2 r k) := by
  unfold k0_pay12
  generalize k0_pay11 v1 v29 v51 v73 v74 v75 v85 x4 = w
  pointwise

/-- The body's result block at row `r`, feature `j`. -/
theorem out_apply (r j : Fin 1024) : out0_7 x0 x1 x2 x3 x4 x5 x6 (ix3 (0 : Fin 1) r j)
    = normed (mix (column attLate (fun k => x0 (ix3 0 r k)) (fun k j => x3 (ix2 k j)) (fun l j => x1 (ix3 0 l j))
        (fun l j => x2 (ix3 0 l j))) (fun k => x0 (ix3 0 r k)) (fun k j => x4 (ix2 k j)))
      (fun j => x5 (ix2 0 j)) (fun j => x6 (ix2 0 j)) j := by
  have e0 : View.ld x0 r0_0 = x0 := View.ld_unit_lit _ _ (by decide)
  have e3 : View.ld x3 r0_1 = x3 := View.ld_unit_lit _ _ (by decide)
  frame_out
  unfold k0_pay13 k0_pay15 k0_pay16 k0_pay17 k0_pay18 k0_pay14
  rw [e0, e3, tail_apply, squares]
  simp only [centre_eq]
  rfl

end Payloads

variable (m : (ℓ : Loc nD τ sig) → Buf (Elt Ideal) ℓ)

/-- Which block each window is on, by the grid's coordinates. -/
theorem idx : ∀ t : Fin grid0.N, win0_0.index t = ![(grid0.coords t 0).val, (grid0.coords t 1).val, 0]
    ∧ win0_1.index t = ![32 + (grid0.coords t 0).val, 0, 0]
    ∧ win0_2.index t = ![32 + (grid0.coords t 0).val, 0, 0]
    ∧ win0_3.index t = ![0, 0] ∧ win0_4.index t = ![0, 0] ∧ win0_5.index t = ![0, 0] ∧ win0_6.index t = ![0, 0]
    ∧ win0_7.index t = ![(grid0.coords t 0).val, (grid0.coords t 1).val, 0] := by decide +kernel

/-- Equal operands give equal rows. -/
theorem row_congr {att : (Fin 256 → EReal) → (Fin 256 → EReal) → EReal} {X X' : Fin 1024 → EReal}
    {W W' Wo Wo' : Fin 1024 → Fin 1024 → EReal} {K K' V V' : Fin 256 → Fin 1024 → EReal} {g g' b b' : Fin 1024 → EReal}
    {j j' : Fin 1024} (hX : X = X') (hW : W = W') (hK : K = K') (hV : V = V') (hWo : Wo = Wo') (hg : g = g')
    (hb : b = b') (hj : j = j') :
    normed (mix (column att X W K V) X Wo) g b j = normed (mix (column att X' W' K' V') X' Wo') g' b' j' := by
  subst hX hW hK hV hWo hg hb hj
  rfl

/-- The result array after the run. -/
theorem final7 (c : Dev nD) : (dats m 0 c).arrAt 7 (cfgs 0).N
    = fun i => block attLate (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4)) (m ((c.tc : Thread nD τ).loc main_arg5))
      (m ((c.tc : Thread nD τ).loc main_arg6)) (i 0) (i 1) (i 2) := by
  refine (dats m 0 c).arrAt_eq_of_covers 7 _ (by decide +kernel) fun t hf y => ?_
  obtain ⟨e0, e1, e2, e3, e4, e5, e6, e7⟩ := idx t
  blk_simp
  rw [after0_7]
  obtain ⟨r, j, rfl⟩ : ∃ r j : Fin 1024, y = ix3 (0 : Fin 1) r j := ⟨y 1, y 2, by
    funext a
    refine Fin.ext ?_
    match a with
    | ⟨0, _⟩ => have h : (y 0).val < 1 := (y 0).isLt
                show (y 0).val = 0
                omega
    | ⟨1, _⟩ => rfl
    | ⟨2, _⟩ => rfl⟩
  rw [out_apply]
  refine row_congr ?_ ?_ ?_ ?_ ?_ ?_ ?_ ?_
  · funext k
    blk_ext [iblk, V, e0, e7]
  · funext k j
    blk_simp [iblk, e3]
    entry_read
    pointwise
    blk_ext [e3]
  · funext l j
    blk_ext [iblk, V, e1, e7]
  · funext l j
    blk_ext [iblk, V, e2, e7]
  · funext k j
    blk_simp [iblk, e4]
    entry_read
    pointwise
    blk_ext [e4]
  · funext j
    blk_simp [iblk, e5]
    entry_read
    pointwise
    blk_ext [e5]
  · funext j
    blk_simp [iblk, e6]
    entry_read
    pointwise
    blk_ext [e6]
  · refine Fin.ext ?_
    blk_simp [e7]
    try omega

end Cert.AttIdeal.RefValue
-- ==== Proof.AttRefValue.lean ====
/-
  The memory cross-attention: what the reference computes, index by index over the extended reals.
-/
module

public import proofs.«01_k».proof.Proof.AttValue
public import proofs.«01_k».proof.Proof.Gen.AttRefIdeal.Read

@[expose] public section

set_option maxRecDepth 16384

noncomputable section

open Idealize.ShloMosaic Idealize.ShloMosaic.TcCoe Idealize.SL.Sem

namespace Cert.AttIdeal.RefValue

open Cert.AttRefIdeal Cert.AttRefIdeal.Gen Cert.AttRefIdeal.Read

/-- The attention over values `v`, each weight normalised first: as the reference has it. -/
def attEarly (s v : Fin 256 → EReal) : EReal := ∑ l, v l * Ideal.div (wgt s l) (∑ l, wgt s l)

variable (X : Vec Ideal S32x2048x1024 .f32) (MK MV : Vec Ideal S128x256x1024 .f32) (Wq Wo : Vec Ideal S1024x1024 .f32)
  (g b : Vec Ideal S1024 .f32)

/-- Column `d` of head `h`. -/
def col (h : Fin 4) (d : Fin 256) : Fin 1024 := ⟨h.val * 256 + d.val, by omega⟩

/-- The reference's memory keys. -/
theorem keys (n : Fin 32) (l : Fin 256) (h : Fin 4) (d : Fin 256) :
    val_main_v2 (F := Ideal) MK (ix4 n l h d) = MK (ix3 (⟨32 + n.val, by omega⟩ : Fin 128) l (col h d)) := by
  rw [val_main_v2_apply]
  have e : idx_main_v2 (ix4 n l h d) = ix5 (0 : Fin 1) n l h d := by
    funext a
    refine Fin.ext ?_
    match a with
    | ⟨0, _⟩ => rfl
    | ⟨1, _⟩ => show (((n.val * 256 + l.val) * 4 + h.val) * 256 + d.val) / 262144 % 32 = n.val; omega
    | ⟨2, _⟩ => show (((n.val * 256 + l.val) * 4 + h.val) * 256 + d.val) / 1024 % 256 = l.val; omega
    | ⟨3, _⟩ => show (((n.val * 256 + l.val) * 4 + h.val) * 256 + d.val) / 256 % 4 = h.val; omega
    | ⟨4, _⟩ => show (((n.val * 256 + l.val) * 4 + h.val) * 256 + d.val) % 256 = d.val; omega
  rw [e]
  unfold val_main_v1 val_main_v0
  pointwise
  rfl

/-- The reference's memory values. -/
theorem values (n : Fin 32) (l : Fin 256) (h : Fin 4) (d : Fin 256) :
    val_main_v5 (F := Ideal) MV (ix4 n l h d) = MV (ix3 (⟨32 + n.val, by omega⟩ : Fin 128) l (col h d)) := keys MV n l h d

/-- The row's scaled query. -/
theorem queries (n : Fin 32) (t : Fin 2048) (h : Fin 4) (d : Fin 256) :
    val_main_v9 (F := Ideal) X Wq (ix4 n t h d)
    = query (fun k => X (ix3 n t k)) (fun k j => Wq (ix2 k j)) (col h d) := by
  unfold val_main_v9 val_main_v8 val_main_v7 val_main_v6 val_main_cst query
  pointwise
  rfl

/-- The row's scores. -/
theorem scores (n : Fin 32) (h : Fin 4) (t : Fin 2048) (l : Fin 256) :
    val_main_v10 (F := Ideal) X MK Wq (ix4 n h t l)
    = score (fun k => X (ix3 n t k)) (fun k j => Wq (ix2 k j))
      (fun l j => MK (ix3 (⟨32 + n.val, by omega⟩ : Fin 128) l j)) (h.val * 256) (by omega) l := by
  rw [val_main_v10_apply]
  unfold score
  refine Finset.sum_congr (M := EReal) rfl fun d _ => ?_
  exact congrArg₂ (fun u v : EReal => u * v)
    ((congrArg (val_main_v9 (F := Ideal) X Wq) (funext fun a => match a with
      | ⟨0, _⟩ => rfl | ⟨1, _⟩ => rfl | ⟨2, _⟩ => rfl | ⟨3, _⟩ => rfl)).trans (queries X Wq n t h d))
    ((congrArg (val_main_v2 (F := Ideal) MK) (funext fun a => match a with
      | ⟨0, _⟩ => rfl | ⟨1, _⟩ => rfl | ⟨2, _⟩ => rfl | ⟨3, _⟩ => rfl)).trans (keys MK n l h d))

/-- A maximum along the last axis, from minus infinity. -/
theorem reduce_top (w : Vec Ideal S32x4x2048x256 .f32) (n : Fin 32) (h : Fin 4) (t : Fin 2048) :
    Host.reduce FloatOps.maximumf w (constant S_ .f32 0xFF800000#32 : FVec Ideal S_ .f32)
      reducesTo_S32x4x2048x256_S32x4x2048_d3 h_S_ (ix3 n h t) = top (fun l => w (ix4 n h t l)) := by
  unfold top
  pointwise

/-- Minus infinity does not change the largest score. -/
theorem max_top (s : Fin 256 → EReal) : max (Ideal.ofBits .f32 4286578688#32) (top s) = top s :=
  max_eq_right (Finset.le_fold_max _ |>.mpr (Or.inl le_rfl))

/-- The row's largest score. -/
theorem tops (n : Fin 32) (h : Fin 4) (t : Fin 2048) :
    val_main_v13 (F := Ideal) X MK Wq (ix3 n h t)
    = top (score (fun k => X (ix3 n t k)) (fun k j => Wq (ix2 k j))
      (fun l j => MK (ix3 (⟨32 + n.val, by omega⟩ : Fin 128) l j)) (h.val * 256) (by omega)) := by
  have e : val_main_v11 (F := Ideal) X MK Wq (ix3 n h t) = _ :=
    reduce_top (val_main_v10 (F := Ideal) X MK Wq) n h t
  rw [val_main_v13_apply, e]
  simp only [scores]
  exact max_top _

/-- The row's weights before normalisation. -/
theorem weights (n : Fin 32) (h : Fin 4) (t : Fin 2048) (l : Fin 256) :
    val_main_v17 (F := Ideal) X MK Wq (ix4 n h t l)
    = wgt (score (fun k => X (ix3 n t k)) (fun k j => Wq (ix2 k j))
      (fun l j => MK (ix3 (⟨32 + n.val, by omega⟩ : Fin 128) l j)) (h.val * 256) (by omega)) l := by
  have hs := scores X MK Wq n h t l
  have ht := tops X MK Wq n h t
  unfold val_main_v17 val_main_v16 val_main_v15 val_main_v14
  generalize val_main_v10 (F := Ideal) X MK Wq = w at hs
  generalize val_main_v13 (F := Ideal) X MK Wq = v at ht
  pointwise
  rw [hs, ht]
  rfl

/-- The row's normalised weights. -/
theorem shares (n : Fin 32) (h : Fin 4) (t : Fin 2048) (l : Fin 256) :
    val_main_v21 (F := Ideal) X MK Wq (ix4 n h t l)
    = (fun s => Ideal.div (wgt s l) (∑ l, wgt s l)) (score (fun k => X (ix3 n t k)) (fun k j => Wq (ix2 k j))
      (fun l j => MK (ix3 (⟨32 + n.val, by omega⟩ : Fin 128) l j)) (h.val * 256) (by omega)) := by
  have hw := weights X MK Wq n h t
  unfold val_main_v21 val_main_v20 val_main_v19 val_main_v18 val_main_cst_2
  generalize val_main_v17 (F := Ideal) X MK Wq = w at hw
  pointwise
  simp only [hw]

/-- The attention's columns. -/
theorem columns (n : Fin 32) (t : Fin 2048) (k : Fin 1024) :
    val_main_v24 (F := Ideal) X MK MV Wq (ix3 n t k)
    = column attEarly (fun k => X (ix3 n t k)) (fun k j => Wq (ix2 k j))
      (fun l j => MK (ix3 (⟨32 + n.val, by omega⟩ : Fin 128) l j))
      (fun l j => MV (ix3 (⟨32 + n.val, by omega⟩ : Fin 128) l j)) k := by
  have e : idx_main_v24 (ix3 n t k) = ix4 n t (⟨k.val / 256, by omega⟩ : Fin 4) (⟨k.val % 256, by omega⟩ : Fin 256) := by
    funext a
    refine Fin.ext ?_
    match a with
    | ⟨0, _⟩ => show ((n.val * 2048 + t.val) * 1024 + k.val) / 2097152 = n.val; omega
    | ⟨1, _⟩ => show ((n.val * 2048 + t.val) * 1024 + k.val) / 1024 % 2048 = t.val; omega
    | ⟨2, _⟩ => show ((n.val * 2048 + t.val) * 1024 + k.val) / 256 % 4 = k.val / 256; omega
    | ⟨3, _⟩ => show ((n.val * 2048 + t.val) * 1024 + k.val) % 256 = k.val % 256; omega
  rw [val_main_v24_apply, e, val_main_v23_apply, val_main_v22_apply]
  unfold column attEarly
  refine Finset.sum_congr (M := EReal) rfl fun l _ => ?_
  have el : lidx_main_v22 (idx_main_v23 (ix4 n t (⟨k.val / 256, by omega⟩ : Fin 4) (⟨k.val % 256, by omega⟩ : Fin 256))) l
      = ix4 n l (⟨k.val / 256, by omega⟩ : Fin 4) (⟨k.val % 256, by omega⟩ : Fin 256) := funext fun a => match a with
    | ⟨0, _⟩ => rfl | ⟨1, _⟩ => rfl | ⟨2, _⟩ => rfl | ⟨3, _⟩ => rfl
  have er : ridx_main_v22 (idx_main_v23 (ix4 n t (⟨k.val / 256, by omega⟩ : Fin 4) (⟨k.val % 256, by omega⟩ : Fin 256))) l
      = ix4 n (⟨k.val / 256, by omega⟩ : Fin 4) t l := funext fun a => match a with
    | ⟨0, _⟩ => rfl | ⟨1, _⟩ => rfl | ⟨2, _⟩ => rfl | ⟨3, _⟩ => rfl
  have ec : col (⟨k.val / 256, by omega⟩ : Fin 4) (⟨k.val % 256, by omega⟩ : Fin 256) = k :=
    Fin.ext (by show k.val / 256 * 256 + k.val % 256 = k.val; omega)
  rw [el, er, values, shares, ec]

/-- The residual plus the attention. -/
theorem mixed (n : Fin 32) (t : Fin 2048) (j : Fin 1024) :
    val_main_v28 (F := Ideal) X MK MV Wq Wo (ix3 n t j)
    = mix (column attEarly (fun k => X (ix3 n t k)) (fun k j => Wq (ix2 k j))
      (fun l j => MK (ix3 (⟨32 + n.val, by omega⟩ : Fin 128) l j))
      (fun l j => MV (ix3 (⟨32 + n.val, by omega⟩ : Fin 128) l j))) (fun k => X (ix3 n t k)) (fun k j => Wo (ix2 k j))
      j := by
  have hc := columns X MK MV Wq n t
  unfold val_main_v28 val_main_v27 val_main_v26 val_main_v25 val_main_cst_3
  generalize val_main_v24 (F := Ideal) X MK MV Wq = w at hc
  pointwise
  simp only [hc]
  rfl

/-- The reference's result. -/
theorem result (i : S32x2048x1024.Idx) :
    val_main_v52 (F := Ideal) X MK MV Wq Wo g b i = block attEarly X MK MV Wq Wo g b (i 0) (i 1) (i 2) := by
  obtain ⟨n, t, j, rfl⟩ : ∃ (n : Fin 32) (t : Fin 2048) (j : Fin 1024), i = ix3 n t j :=
    ⟨i 0, i 1, i 2, funext fun a => match a with | ⟨0, _⟩ => rfl | ⟨1, _⟩ => rfl | ⟨2, _⟩ => rfl⟩
  have hm := mixed X MK MV Wq Wo n t
  unfold val_main_v52 val_main_v51 val_main_v50 val_main_v49 val_main_v48 val_main_v47 val_main_v46 val_main_v45
    val_main_v44 val_main_v43 val_main_v42 val_main_v41 val_main_v40 val_main_v39 val_main_v38 val_main_v37 val_main_v36
    val_main_v35 val_main_v34 val_main_v33 val_main_v32 val_main_v31 val_main_v30 val_main_v29 val_main_cst_4
    val_main_cst_5 val_main_cst_6 val_main_cst_7 val_main_cst_8
  generalize val_main_v28 (F := Ideal) X MK MV Wq Wo = w at hm
  pointwise
  simp only [hm]
  rfl

end Cert.AttIdeal.RefValue
-- ==== Proof.AttClaim.lean ====
/-
  The memory cross-attention's claims: with finite keys and query weights the two orders of normalising agree,
  so the kernel's result is the reference's.
-/
module

public import proofs.«01_k».proof.Defs
public import proofs.«01_k».proof.Proof.Gen.Pre_finite
public import proofs.«01_k».proof.Proof.AttRefValue
public import Idealize.ShloMosaic.Lib.Affine
public import Idealize.ShloMosaic.Lib.ReduceAll

@[expose] public section

set_option maxRecDepth 16384

noncomputable section

open Idealize.ShloMosaic Idealize.ShloMosaic.TcCoe Idealize.SL.Sem

namespace Cert.AttIdeal.RefValue

/-! ## The two orders of normalising -/

/-- A number that is neither infinity. -/
def Fin' (x : EReal) : Prop := ∃ a : ℝ, x = (a : EReal)

theorem Fin'.mul {x y : EReal} : Fin' x → Fin' y → Fin' (x * y) := by
  rintro ⟨a, rfl⟩ ⟨b, rfl⟩
  exact ⟨a * b, (EReal.coe_mul a b).symm⟩

theorem Fin'.sum {ι : Type} (s : Finset ι) (f : ι → EReal) (h : ∀ i, Fin' (f i)) : Fin' (∑ i ∈ s, f i) :=
  Finset.sum_induction f Fin' (fun _ _ ⟨a, ha⟩ ⟨b, hb⟩ => ⟨a + b, by rw [ha, hb, EReal.coe_add]⟩) ⟨0, rfl⟩
    fun i _ => h i

theorem score_fin {X : Fin 1024 → EReal} {W : Fin 1024 → Fin 1024 → EReal} {K : Fin 256 → Fin 1024 → EReal}
    (hX : ∀ k, Fin' (X k)) (hW : ∀ k j, Fin' (W k j)) (hK : ∀ l j, Fin' (K l j)) (o : ℕ) (ho : o ≤ 768) (l : Fin 256) :
    Fin' (score X W K o ho l) :=
  Fin'.sum _ _ fun d => .mul (.mul (Fin'.sum _ _ fun k => (hX k).mul (hW k _))
    ⟨1 / 16, by simp [Ideal.ofBits, Ideal.ieee]; rw [← EReal.coe_mul]; norm_num⟩) (hK l _)

theorem bot_bits : Ideal.ofBits .f32 4286578688#32 = ⊥ := by simp [Ideal.ofBits, Ideal.ieee]

theorem top_fin {s : Fin 256 → EReal} (hs : ∀ l, Fin' (s l)) : Fin' (top s) := by
  have h1 : top s < ⊤ := (Finset.fold_max_lt _).mpr ⟨by rw [bot_bits]; exact bot_lt_top, fun l _ => by
    obtain ⟨a, ha⟩ := hs l
    rw [ha]
    exact EReal.coe_lt_top a⟩
  have h2 : ⊥ < top s := by
    obtain ⟨a, ha⟩ := hs 0
    refine lt_of_lt_of_le (EReal.bot_lt_coe a) ((Finset.le_fold_max _).mpr (Or.inr ⟨0, Finset.mem_univ _, ha.ge⟩))
  exact ⟨(top s).toReal, (EReal.coe_toReal h1.ne h2.ne').symm⟩

/-- Each weight is a positive real. -/
theorem wgt_pos {s : Fin 256 → EReal} (hs : ∀ l, Fin' (s l)) (l : Fin 256) : ∃ a : ℝ, 0 < a ∧ wgt s l = (a : EReal) := by
  obtain ⟨a, ha⟩ := hs l
  obtain ⟨b, hb⟩ := top_fin hs
  exact ⟨Real.exp (a - b), Real.exp_pos _, by unfold wgt; rw [ha, hb]; rfl⟩

/-- So is their sum. -/
theorem total_pos {s : Fin 256 → EReal} (hs : ∀ l, Fin' (s l)) : ∃ a : ℝ, 0 < a ∧ ∑ l, wgt s l = (a : EReal) :=
  Finset.sum_induction_nonempty (wgt s) (fun x => ∃ a : ℝ, 0 < a ∧ x = (a : EReal))
    (fun _ _ ⟨a, pa, ha⟩ ⟨b, pb, hb⟩ => ⟨a + b, add_pos pa pb, by rw [ha, hb, EReal.coe_add]⟩) Finset.univ_nonempty
    fun l _ => wgt_pos hs l

/-- A nonnegative real factor goes into a sum, whatever the terms. -/
theorem sum_mul_real {ι : Type} [DecidableEq ι] (s : Finset ι) (f : ι → EReal) {c : ℝ} (hc : 0 ≤ c) :
    (∑ i ∈ s, f i) * (c : EReal) = ∑ i ∈ s, f i * (c : EReal) := by
  induction s using Finset.induction_on with
  | empty => simp
  | insert a s ha ih =>
    rw [Finset.sum_insert ha, Finset.sum_insert ha,
      EReal.right_distrib_of_nonneg_of_ne_top (EReal.coe_nonneg.mpr hc) (EReal.coe_ne_top c), ih]

/-- The two orders agree on finite scores, for any values. -/
theorem late_eq_early {s : Fin 256 → EReal} (hs : ∀ l, Fin' (s l)) (v : Fin 256 → EReal) :
    attLate s v = attEarly s v := by
  obtain ⟨a, pa, ha⟩ := total_pos hs
  unfold attLate attEarly
  rw [ha, Ideal.div_coe pa.ne', one_mul, sum_mul_real _ _ (one_div_pos.mpr pa).le]
  refine Finset.sum_congr (M := EReal) rfl fun l _ => ?_
  rw [Ideal.div_coe pa.ne', mul_assoc, mul_left_comm]

/-! ## A row with an infinite entry -/

theorem inf_cases {x : EReal} (h : ¬ Fin' x) : x = ⊥ ∨ x = ⊤ := by
  induction x with
  | bot => exact .inl rfl
  | top => exact .inr rfl
  | coe a => exact (h ⟨a, rfl⟩).elim

theorem not_fin_bot : ¬ Fin' ⊥ := fun ⟨_, h⟩ => EReal.coe_ne_bot _ h.symm

theorem not_fin_top : ¬ Fin' ⊤ := fun ⟨_, h⟩ => EReal.coe_ne_top _ h.symm

theorem inf_add {x : EReal} (h : ¬ Fin' x) (y : EReal) : ¬ Fin' (x + y) := by
  obtain rfl | rfl := inf_cases h
  · rw [EReal.bot_add]
    exact not_fin_bot
  · by_cases hy : y = ⊥
    · rw [hy, EReal.add_bot]
      exact not_fin_bot
    · rw [EReal.top_add_of_ne_bot hy]
      exact not_fin_top

theorem inf_sum {ι : Type} [Fintype ι] [DecidableEq ι] (f : ι → EReal) {i : ι} (h : ¬ Fin' (f i)) : ¬ Fin' (∑ k, f k) := by
  rw [← Finset.add_sum_erase _ f (Finset.mem_univ i)]
  exact inf_add h _

theorem inf_mul {x : EReal} (h : ¬ Fin' x) {a : ℝ} (ha : 0 < a) : ¬ Fin' (x * (a : EReal)) := by
  obtain rfl | rfl := inf_cases h
  · rw [EReal.bot_mul_coe_of_pos ha]
    exact not_fin_bot
  · rw [EReal.top_mul_coe_of_pos ha]
    exact not_fin_top

theorem len_bits : Ideal.ofBits .f32 1149239296#32 = ((1024 : ℝ) : EReal) := by
  simp [Ideal.ofBits, Ideal.ieee]; rw [← EReal.coe_mul]; norm_num

theorem scale_bits : ∃ a : ℝ, 0 < a ∧ Ideal.ofBits .f32 1071072509#32 = (a : EReal) :=
  ⟨14107901 * (1 / 8388608), by norm_num, by simp [Ideal.ofBits, Ideal.ieee]; norm_num⟩

theorem eps_bits : Fin' (Ideal.ofBits .f32 925353388#32) := by
  simp [Ideal.ofBits, Ideal.ieee]; rw [← EReal.coe_mul]; exact ⟨_, rfl⟩

/-- Normalising a row with an infinite entry leaves its shift: every entry is infinitely far from the mean, so the
    variance is infinite and its inverse root 0. -/
theorem normed_inf {z : Fin 1024 → EReal} {k : Fin 1024} (h : ¬ Fin' (z k)) (g b : Fin 1024 → EReal) (j : Fin 1024) :
    normed z g b j = b j := by
  have hc : ∀ i, ¬ Fin' (centred z i) := fun i => by
    have h1 : ¬ Fin' (∑ k, z k) := inf_sum z h
    unfold centred
    rw [len_bits, Ideal.div_coe (by norm_num), sub_eq_add_neg, add_comm]
    refine inf_add (fun ⟨a, ha⟩ => inf_mul h1 (a := 1 / 1024) (by norm_num) ⟨-a, ?_⟩) _
    rw [EReal.coe_neg, ← ha, neg_neg]
  have hs : ∀ i, centred z i * centred z i = ⊤ := fun i => by
    obtain e | e := inf_cases (hc i)
    · rw [e, EReal.bot_mul_bot]
    · rw [e, EReal.top_mul_top]
  have hv : ∑ k, centred z k * centred z k = ⊤ := by
    have h2 := inf_sum (fun k => centred z k * centred z k) (i := j) (by rw [hs]; exact not_fin_top)
    refine (inf_cases h2).resolve_left fun h3 => ?_
    have h4 : (0 : EReal) ≤ ∑ k, centred z k * centred z k := Finset.sum_nonneg fun i _ => by rw [hs]; exact le_top
    rw [h3] at h4
    exact absurd h4 (not_le.mpr EReal.bot_lt_zero)
  obtain ⟨e, he⟩ := eps_bits
  unfold normed
  rw [hv, len_bits, Ideal.div_coe (by norm_num), EReal.top_mul_coe_of_pos (by norm_num), he, EReal.top_add_coe,
    Ideal.rsqrt_top, mul_zero, zero_mul, zero_add]

/-- So the block's row is its shift where the row has an infinite entry, whatever the attention. -/
theorem mix_inf {X : Fin 1024 → EReal} {k : Fin 1024} (h : ¬ Fin' (X k)) (A : Fin 1024 → EReal)
    (Wo : Fin 1024 → Fin 1024 → EReal) : ¬ Fin' (mix A X Wo k) := by
  obtain ⟨a, pa, ha⟩ := scale_bits
  unfold mix
  rw [ha, mul_comm]
  exact inf_add (inf_mul h pa) _

/-- The two orders give one result on finite keys and query weights. -/
theorem block_eq {X : (⟨3, ![32, 2048, 1024]⟩ : Shape).Idx → EReal} {MK : (⟨3, ![128, 256, 1024]⟩ : Shape).Idx → EReal}
    {Wq : (⟨2, ![1024, 1024]⟩ : Shape).Idx → EReal} (hK : ∀ i, Fin' (MK i)) (hW : ∀ i, Fin' (Wq i))
    (MV : (⟨3, ![128, 256, 1024]⟩ : Shape).Idx → EReal) (Wo : (⟨2, ![1024, 1024]⟩ : Shape).Idx → EReal)
    (g b : (⟨1, ![1024]⟩ : Shape).Idx → EReal) (n : Fin 32) (t : Fin 2048) (j : Fin 1024) :
    block attLate X MK MV Wq Wo g b n t j = block attEarly X MK MV Wq Wo g b n t j := by
  by_cases hX : ∀ k, Fin' (X (ix3 n t k))
  case neg =>
    obtain ⟨k, hk⟩ := not_forall.mp hX
    unfold block
    rw [normed_inf (mix_inf hk _ _), normed_inf (mix_inf hk _ _)]
  unfold block
  have e : column attLate (fun k => X (ix3 n t k)) (fun k j => Wq (ix2 k j))
      (fun l j => MK (ix3 (⟨32 + n.val, by omega⟩ : Fin 128) l j))
      (fun l j => MV (ix3 (⟨32 + n.val, by omega⟩ : Fin 128) l j))
      = column attEarly (fun k => X (ix3 n t k)) (fun k j => Wq (ix2 k j))
      (fun l j => MK (ix3 (⟨32 + n.val, by omega⟩ : Fin 128) l j))
      (fun l j => MV (ix3 (⟨32 + n.val, by omega⟩ : Fin 128) l j)) :=
    funext fun k => late_eq_early (score_fin hX (fun _ _ => hW _) (fun _ _ => hK _) _ _) _
  rw [e]

/-! ## The precondition -/

theorem fin_of_abs {x : EReal} (h : Ideal.cmp .olt (max x (-x)) (Ideal.ofBits .f32 2139095040#32) = 1#1) : Fin' x := by
  have e : Ideal.ofBits .f32 2139095040#32 = ⊤ := by simp [Ideal.ofBits, Ideal.ieee]
  rw [e] at h
  have h' : max x (-x) < ⊤ := of_decide_eq_true ((WordCmp.ofBool_eq_one_iff _).mp h)
  induction x with
  | bot => simp at h'
  | top => simp at h'
  | coe a => exact ⟨a, rfl⟩

theorem finite_of (a0 a1 a2 a3 a4 a5 a6) (h : Cert.Pre_finite.fn (F := Ideal) a0 a1 a2 a3 a4 a5 a6 = fun _ => 1#1) :
    (∀ i, Fin' (a1 i)) ∧ ∀ i, Fin' (a3 i) := by
  have h' := congrFun h (Shape.Idx.first Cert.Pre_finite.Facts.h_S_)
  dsimp only [Cert.Pre_finite.fn] at h'
  obtain ⟨h1, h3⟩ := IntOp.andi_eq_one.1 h'
  exact ⟨fun i => fin_of_abs (Host.reduce_andi_all _ _ _ _ _ h1 i),
    fun i => fin_of_abs (Host.reduce_andi_all _ _ _ _ _ h3 i)⟩

/-! ## The claims -/

theorem frameRef : Cert.quiescent_AttRefIdeal := by
  intro m g _
  refine (θ_run _ _ _).mono (fun r h => ⟨fun c => (h c).2, sem_eq_zero_of_no_sems (by decide) r.2⟩)
    (Cert.AttRefIdeal.Value.run m g)

theorem frameRefFinite : Cert.quiescent_AttRefIdeal_pre_finite := by
  intro m g _
  refine (θ_run _ _ _).mono (fun r h => ⟨fun c => (h c).2, sem_eq_zero_of_no_sems (by decide) r.2⟩)
    (Cert.AttRefIdeal.Value.run m g)

theorem algebraic : Cert.algebraic_AttIdeal_AttRefIdeal_pre_finite := by
  intro m g m' g' hp he
  refine ⟨fun c => (Cert.AttIdeal.Gen.dats m 0 c).arrAt 7 (Cert.AttIdeal.cfgs 0).N, ?_, ?_⟩
  · refine (θ_run _ _ _).mono (fun r h c => ?_) (Cert.AttIdeal.Value.run_blocks m g)
    exact h c
  · refine (θ_run _ _ _).mono (fun r h c => ?_) (Cert.AttRefIdeal.Value.run m' g')
    obtain ⟨e0, e1, e2, e3, e4, e5, e6⟩ := he c
    refine ⟨(h c).1.trans ?_, (h c).2⟩
    obtain ⟨f1, f3⟩ := finite_of _ _ _ _ _ _ _ (hp c)
    beta_reduce
    rw [final7, Cert.AttRefIdeal.Read.val_main_v52_eq, e0, e1, e2, e3, e4, e5, e6]
    funext i
    exact (result _ _ _ _ _ _ _ i).trans (block_eq f1 f3 _ _ _ _ _ _ _).symm

end Cert.AttIdeal.RefValue
-- ==== Proof.GlaValue.lean ====
/-
  The gated linear attention's projections: what the pipelined kernel leaves in its five result arrays, index by index
  over the extended reals.
-/
module

public import proofs.«01_k».proof.Proof.Gen.GlaIdeal.Value
public import Idealize.ShloMosaic.Lib.Pipeline.ValueKit
public import Idealize.ShloMosaic.Lib.Pipeline.Covers
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.GlaIdeal.RefValue

open Cert.GlaIdeal Cert.GlaIdeal.Gen

/-- Row `r` of the flattened tokens: sample `r / 2048`, token `r % 2048`. -/
def row (X : (⟨3, ![32, 2048, 1024]⟩ : Shape).Idx → EReal) (r : Fin 65536) (k : Fin 1024) : EReal :=
  X (ix3 (⟨r.val / 2048, by omega⟩ : Fin 32) (⟨r.val % 2048, by omega⟩ : Fin 2048) k)

/-- Row `x` against column `c` of the weights. -/
def proj (W : (⟨2, ![1024, 3088]⟩ : Shape).Idx → EReal) (x : Fin 1024 → EReal) (c : Fin 3088) : EReal :=
  ∑ k : Fin 1024, x k * W (ix2 k c)

variable (m : (ℓ : Loc nD τ sig) → Buf (Elt Ideal) ℓ)

/-- Which block each window is on, by the grid's coordinate. -/
theorem idx : ∀ t : Fin grid0.N, win0_0.index t = ![(grid0.coords t 0).val, 0]
    ∧ win0_1.index t = ![0, 0] ∧ win0_2.index t = ![0, 0] ∧ win0_3.index t = ![0, 0] ∧ win0_4.index t = ![0, 0]
    ∧ win0_5.index t = ![(grid0.coords t 0).val, 0] ∧ win0_6.index t = ![(grid0.coords t 0).val, 0]
    ∧ win0_7.index t = ![(grid0.coords t 0).val, 0] ∧ win0_8.index t = ![(grid0.coords t 0).val, 0]
    ∧ win0_9.index t = ![(grid0.coords t 0).val, 0] := by decide +kernel

theorem sitofp_zero : (FloatOps.sitofp FTy.f32 0#32 : Ideal .f32) = (0 : EReal) := by
  show ((((0#32 : BitVec 32).toInt : ℤ) : ℝ) : EReal) = 0
  simp

theorem entry_v7 (c : Dev nD) (r : Fin 65536) (k : Fin 1024) :
    V m c main_v7 (ix2 r k) = row (m ((c.tc : Thread nD τ).loc main_arg0)) r k := by
  simp only [V, hostOps0, hostOps0_1, hostOps0_2, hostOps0_3, hostOps0_4, List.flatten_cons, List.flatten_nil, List.append_nil, List.cons_append,
    List.nil_append]
  entry_read
  pointwise
  unfold row
  blk_ext []

theorem entry_v1 (c : Dev nD) (k : Fin 1024) (j : Fin 3072) :
    V m c main_v1 (ix2 k j) = (m ((c.tc : Thread nD τ).loc main_arg1)) (ix2 k (⟨j.val, by omega⟩ : Fin 3088)) := by
  simp only [V, hostOps0, hostOps0_1, hostOps0_2, hostOps0_3, hostOps0_4, List.flatten_cons, List.flatten_nil, List.append_nil, List.cons_append,
    List.nil_append]
  entry_read
  pointwise
  blk_ext []

theorem entry_v4 (c : Dev nD) (k : Fin 1024) (j : Fin 128) :
    V m c main_v4 (ix2 k j) = if h : j.val < 16 then (m ((c.tc : Thread nD τ).loc main_arg1)) (ix2 k (⟨3072 + j.val, by omega⟩ : Fin 3088)) else (0 : EReal) := by
  simp only [V, hostOps0, hostOps0_1, hostOps0_2, hostOps0_3, hostOps0_4, List.flatten_cons, List.flatten_nil, List.append_nil, List.cons_append,
    List.nil_append]
  entry_read
  show pad S1024x128 ![0, 0] ![0, 112] ![0, 0] (extractStridedSlice S1024x16 ![0, 3072] (m ((c.tc : Thread nD τ).loc main_arg1) : FVec Ideal S1024x3088 .f32)
    slices_S1024x3088_S1024x16_0_3072) (sitofp .f32 (constantI S_ 32 0#32) : FVec Ideal S_ .f32) pads_S1024x16_S1024x128_000_01120 h_S_ (ix2 k j) = _
  pointwise
  rw [sitofp_zero]
  blk_ext []

/-- A matrix with rows of zeros below. -/
theorem below (w : FVec Ideal S16x512 .f32) (k : Fin 128) (j : Fin 512) :
    pad S128x512 ![0, 0] ![112, 0] ![0, 0] w (sitofp .f32 (constantI S_ 32 0#32) : FVec Ideal S_ .f32)
      pads_S16x512_S128x512_01120_000 h_S_ (ix2 k j) = if h : k.val < 16 then w (ix2 (⟨k.val, h⟩ : Fin 16) j) else (0 : EReal) := by
  pointwise
  rw [sitofp_zero]
  try blk_ext []

theorem entry_v6 (c : Dev nD) (k : Fin 128) (j : Fin 512) :
    V m c main_v6 (ix2 k j) = if h : k.val < 16 then (m ((c.tc : Thread nD τ).loc main_arg2)) (ix2 (⟨k.val, h⟩ : Fin 16) j) else (0 : EReal) := by
  simp only [V, hostOps0, hostOps0_1, hostOps0_2, hostOps0_3, hostOps0_4, List.flatten_cons, List.flatten_nil, List.append_nil, List.cons_append,
    List.nil_append]
  entry_read
  exact below _ k j

theorem entry_v8 (c : Dev nD) (j : Fin 512) :
    V m c main_v8 (ix2 (0 : Fin 1) j) = (m ((c.tc : Thread nD τ).loc main_arg3)) (ix1 j) := by
  simp only [V, hostOps0, hostOps0_1, hostOps0_2, hostOps0_3, hostOps0_4, List.flatten_cons, List.flatten_nil, List.append_nil, List.cons_append,
    List.nil_append]
  entry_read
  pointwise
  try blk_ext []

/-- Columns `o`, `o + 1`, … of the rows against the weights. -/
def piece (o n : ℕ) (h : o + n ≤ 3088) (X : (⟨3, ![32, 2048, 1024]⟩ : Shape).Idx → EReal)
    (W : (⟨2, ![1024, 3088]⟩ : Shape).Idx → EReal) (i : (⟨2, ![65536, n]⟩ : Shape).Idx) : EReal :=
  proj W (row X (i 0)) ⟨o + (i 1).val, by have : (i 1).val < n := (i 1).isLt; omega⟩

theorem piece_eq {o n : ℕ} (h : o + n ≤ 3088) (X : (⟨3, ![32, 2048, 1024]⟩ : Shape).Idx → EReal)
    (W : (⟨2, ![1024, 3088]⟩ : Shape).Idx → EReal) (i : (⟨2, ![65536, n]⟩ : Shape).Idx) (a : Fin 65536) (b : Fin 3088)
    (h0 : (i 0).val = a.val) (h1 : o + (i 1).val = b.val) : proj W (row X a) b = piece o n h X W i := by
  unfold piece
  rw [show i 0 = a from Fin.ext h0]
  exact congrArg (proj W (row X a)) (Fin.ext h1.symm)

theorem two {a b : ℕ} (y : (⟨2, ![a, b]⟩ : Shape).Idx) : ∃ (r : Fin a) (j : Fin b), y = ix2 r j := ⟨y 0, y 1, by
  funext a
  match a with
  | ⟨0, _⟩ => rfl
  | ⟨1, _⟩ => rfl⟩

theorem steps (t : Fin grid0.N) : (grid0.coords t 0).val < 128 := (grid0.coords t 0).isLt

/-- Point `t` multiplies its 512 rows by the weights. -/
theorem point (c : Dev nD) (t : Fin grid0.N) (r : Fin 512) (j : Fin 3072) :
    ∑ k : Fin 1024, @HMul.hMul EReal EReal EReal _ (iblk m c 0 t (ix2 r k)) (iblk m c 1 t (ix2 k j))
    = proj (m ((c.tc : Thread nD τ).loc main_arg1))
      (row (m ((c.tc : Thread nD τ).loc main_arg0)) ⟨(grid0.coords t 0).val * 512 + r.val, by have := steps t; omega⟩)
      ⟨j.val, by omega⟩ := by
  obtain ⟨e0, e1, e2, e3, e4, e5, e6, e7, e8, e9⟩ := idx t
  unfold proj
  refine Finset.sum_congr (M := EReal) rfl fun k _ => ?_
  congr 1
  · refine Eq.trans ?_ (entry_v7 m c _ k)
    blk_ext [iblk, e0]
  · refine Eq.trans ?_ (entry_v1 m c k j)
    blk_ext [iblk, e1]

/-- The first result array after the run: the scaled queries. -/
theorem final5 (c : Dev nD) : (dats m 0 c).arrAt 5 (cfgs 0).N
    = fun i : S65536x512.Idx => piece 0 512 (by omega) (m ((c.tc : Thread nD τ).loc main_arg0)) (m ((c.tc : Thread nD τ).loc main_arg1)) i * Ideal.ofBits .f32 1035273459#32 := by
  refine (dats m 0 c).arrAt_eq_of_covers 5 _ (by decide +kernel) fun t hf y => ?_
  obtain ⟨e0, e1, e2, e3, e4, e5, e6, e7, e8, e9⟩ := idx t
  obtain ⟨r, j, rfl⟩ : ∃ (r : Fin 512) (j : Fin 512), y = ix2 r j := two y
  blk_simp
  rw [after0_5]
  frame_out
  unfold_payloads
  pointwise
  refine congrArg (fun x : EReal => x * Ideal.ofBits .f32 1035273459#32) ((point m c t r ⟨j.val, by omega⟩).trans ?_)
  refine piece_eq _ _ _ _ _ _ ?_ ?_ <;> (blk_simp [e5]; try omega)

/-- The second result array after the run: the keys. -/
theorem final6 (c : Dev nD) : (dats m 0 c).arrAt 6 (cfgs 0).N
    = piece 512 512 (by omega) (m ((c.tc : Thread nD τ).loc main_arg0)) (m ((c.tc : Thread nD τ).loc main_arg1)) := by
  refine (dats m 0 c).arrAt_eq_of_covers 6 _ (by decide +kernel) fun t hf y => ?_
  obtain ⟨e0, e1, e2, e3, e4, e5, e6, e7, e8, e9⟩ := idx t
  obtain ⟨r, j, rfl⟩ : ∃ (r : Fin 512) (j : Fin 512), y = ix2 r j := two y
  blk_simp
  rw [after0_6]
  frame_out
  unfold_payloads
  pointwise
  refine (point m c t r ⟨512 + j.val, by omega⟩).trans ?_
  refine piece_eq _ _ _ _ _ _ ?_ ?_ <;> (blk_simp [e6]; try omega)

/-- The third result array after the run: the values. -/
theorem final7 (c : Dev nD) : (dats m 0 c).arrAt 7 (cfgs 0).N
    = piece 1024 1024 (by omega) (m ((c.tc : Thread nD τ).loc main_arg0)) (m ((c.tc : Thread nD τ).loc main_arg1)) := by
  refine (dats m 0 c).arrAt_eq_of_covers 7 _ (by decide +kernel) fun t hf y => ?_
  obtain ⟨e0, e1, e2, e3, e4, e5, e6, e7, e8, e9⟩ := idx t
  obtain ⟨r, j, rfl⟩ : ∃ (r : Fin 512) (j : Fin 1024), y = ix2 r j := two y
  blk_simp
  rw [after0_7]
  frame_out
  unfold_payloads
  pointwise
  refine (point m c t r ⟨1024 + j.val, by omega⟩).trans ?_
  refine piece_eq _ _ _ _ _ _ ?_ ?_ <;> (blk_simp [e7]; try omega)

/-- The fourth result array after the run: the output gates. -/
theorem final8 (c : Dev nD) : (dats m 0 c).arrAt 8 (cfgs 0).N
    = piece 2048 1024 (by omega) (m ((c.tc : Thread nD τ).loc main_arg0)) (m ((c.tc : Thread nD τ).loc main_arg1)) := by
  refine (dats m 0 c).arrAt_eq_of_covers 8 _ (by decide +kernel) fun t hf y => ?_
  obtain ⟨e0, e1, e2, e3, e4, e5, e6, e7, e8, e9⟩ := idx t
  obtain ⟨r, j, rfl⟩ : ∃ (r : Fin 512) (j : Fin 1024), y = ix2 r j := two y
  blk_simp
  rw [after0_8]
  frame_out
  unfold_payloads
  pointwise
  refine (point m c t r ⟨2048 + j.val, by omega⟩).trans ?_
  refine piece_eq _ _ _ _ _ _ ?_ ?_ <;> (blk_simp [e8]; try omega)

end Cert.GlaIdeal.RefValue
-- ==== Proof.GlaMath.lean ====
/-
  Three facts behind the decays of the gated linear attention: the gate's logarithm written two ways, a product split in
  three parts, and a running sum in chunks of 64 written two ways.
-/
module

public import Idealize.ShloMosaic.PureOps.Ideal
public import Idealize.ShloMosaic.PureOps.Ideal.Laws
public import Idealize.ShloMosaic.Lib.ValueIdx

@[expose] public section

noncomputable section

namespace Cert.Gla

open Idealize.ShloMosaic

/-- The log decay of one gate: the logarithm of the sigmoid over the gate temperature. -/
def decay (z : EReal) : EReal :=
  Ideal.div (min z 0 - Ideal.log (1 + Ideal.exp (-(max z (-z))))) 16

theorem log_one : Ideal.log (1 + 0) = ((Real.log 1 : ℝ) : EReal) := by
  rw [add_zero]
  show (if (1 : ℝ) ≤ 0 then (⊥ : EReal) else ((Real.log 1 : ℝ) : EReal)) = _
  rw [if_neg (by norm_num)]

theorem soft (z : EReal) : ∃ l : ℝ, Ideal.log (1 + Ideal.exp (-(max z (-z)))) = (l : EReal) := by
  induction z with
  | bot => exact ⟨Real.log 1, by rw [EReal.neg_bot, max_eq_right bot_le, EReal.neg_top]; exact log_one⟩
  | top => exact ⟨Real.log 1, by rw [EReal.neg_top, max_eq_left bot_le, EReal.neg_top]; exact log_one⟩
  | coe x =>
    refine ⟨Real.log (1 + Real.exp (-(max x (-x)))), ?_⟩
    have h : -(max (x : EReal) (-(x : EReal))) = ((-(max x (-x)) : ℝ) : EReal) := by
      rw [EReal.coe_neg, EReal.coe_strictMono.monotone.map_max, EReal.coe_neg]
    rw [h]
    show Ideal.log ((1 : ℝ) + ((Real.exp (-(max x (-x))) : ℝ) : EReal)) = _
    rw [← EReal.coe_add]
    show (if 1 + Real.exp (-(max x (-x))) ≤ 0 then (⊥ : EReal) else _) = _
    rw [if_neg (by have := Real.exp_pos (-(max x (-x))); linarith)]

theorem div_sixteen (x : EReal) : Ideal.div x 16 = x * ((1 / 16 : ℝ) : EReal) :=
  Ideal.div_coe (y := 16) (by norm_num) x

theorem decay_ne_top (z : EReal) : decay z ≠ ⊤ := by
  obtain ⟨l, hl⟩ := soft z
  unfold decay
  rw [hl, div_sixteen]
  have hm : min z 0 ≤ 0 := min_le_right _ _
  generalize min z 0 = m at hm
  induction m with
  | bot => rw [EReal.bot_sub, EReal.bot_mul_coe_of_pos (by norm_num)]; exact bot_ne_top
  | top => exact absurd hm (by simp)
  | coe x => rw [← EReal.coe_sub, ← EReal.coe_mul]; exact EReal.coe_ne_top _

/-- The same decay with the softplus of the negated gate written out. -/
theorem decay_soft (z : EReal) :
    Ideal.div (-(max (-z) 0 + Ideal.log (1 + Ideal.exp (-(max (-z - 0) (-(-z - 0))))))) 16 = decay z := by
  unfold decay
  rw [sub_zero, neg_neg, max_comm (-z) z]
  obtain ⟨l, hl⟩ := soft z
  rw [hl]
  congr 1
  rw [EReal.neg_add (Or.inr (EReal.coe_ne_top l)) (Or.inr (EReal.coe_ne_bot l))]
  congr 1
  rcases le_total z 0 with h | h
  · rw [min_eq_left h, max_eq_left (by have := EReal.neg_le_neg_iff.mpr h; rwa [neg_zero] at this), neg_neg]
  · rw [min_eq_right h, max_eq_right (by have := EReal.neg_le_neg_iff.mpr h; rwa [neg_zero] at this), neg_zero]

/-- Adding the products of the remainders of a mask against entries that are no `⊤` changes nothing. -/
theorem three {n : ℕ} (b : Fin n → Prop) [DecidablePred b] (g : Fin n → EReal) (hg : ∀ s, g s ≠ ⊤) :
    (∑ s, (if b s then (1 : EReal) else 0) * g s) + (∑ s, (if b s then (1 : EReal) else 0) * (g s - g s))
      + (∑ s, (if b s then (1 : EReal) else 0) * ((g s - g s) - (g s - g s)))
    = ∑ s, if b s then g s else 0 := by
  have h0 : ∑ s, (if b s then (1 : EReal) else 0) * g s = ∑ s, if b s then g s else 0 :=
    Finset.sum_congr rfl fun s _ => by split <;> simp
  rw [h0]
  by_cases h : ∃ s, b s ∧ g s = ⊥
  · obtain ⟨s, hb, hs⟩ := h
    have : (∑ s, if b s then g s else 0) = ⊥ := by
      rw [← Finset.add_sum_erase _ _ (Finset.mem_univ s), if_pos hb, hs, EReal.bot_add]
    rw [this, EReal.bot_add, EReal.bot_add]
  · have hz : ∀ s, b s → g s - g s = 0 := fun s hb =>
      EReal.sub_self (hg s) fun hs => h ⟨s, hb, hs⟩
    have h1 : ∑ s, (if b s then (1 : EReal) else 0) * (g s - g s) = 0 :=
      Finset.sum_eq_zero fun s _ => by
        split
        · rename_i hb; rw [hz s hb, mul_zero]
        · exact zero_mul _
    have h2 : ∑ s, (if b s then (1 : EReal) else 0) * ((g s - g s) - (g s - g s)) = 0 :=
      Finset.sum_eq_zero fun s _ => by
        split
        · rename_i hb; rw [hz s hb, sub_zero, mul_zero]
        · exact zero_mul _
    rw [h1, h2, add_zero, add_zero]

/-- The sum of the first `p + 1` of 64 entries. -/
def upto (f : Fin 64 → EReal) (p : ℕ) : EReal := ∑ q : Fin 64, if q.val ≤ p then f q else 0

/-- Of 512 rows those of row `r`'s chunk of 64 up to `r`. -/
theorem chunk (g : Fin 512 → EReal) (r : Fin 512) :
    (∑ s : Fin 512, if s.val / 64 = r.val / 64 ∧ s.val ≤ r.val then g s else 0)
    = upto (fun q => g ⟨64 * (r.val / 64) + q.val, by omega⟩) (r.val % 64) := by
  unfold upto
  rw [← Finset.sum_filter, ← Finset.sum_filter]
  refine Finset.sum_bij' (fun s _ => (⟨s.val % 64, by omega⟩ : Fin 64))
    (fun q _ => (⟨64 * (r.val / 64) + q.val, by omega⟩ : Fin 512)) ?_ ?_ ?_ ?_ ?_
  · intro s hs
    simp only [Finset.mem_filter, Finset.mem_univ, true_and] at hs ⊢
    omega
  · intro q hq
    simp only [Finset.mem_filter, Finset.mem_univ, true_and] at hq ⊢
    omega
  · intro s hs
    simp only [Finset.mem_filter, Finset.mem_univ, true_and] at hs
    refine Fin.ext ?_
    show 64 * (r.val / 64) + s.val % 64 = s.val
    omega
  · intro q hq
    refine Fin.ext ?_
    show (64 * (r.val / 64) + q.val) % 64 = q.val
    omega
  · intro s hs
    simp only [Finset.mem_filter, Finset.mem_univ, true_and] at hs
    refine congrArg g (Fin.ext ?_)
    show s.val = 64 * (r.val / 64) + s.val % 64
    omega

/-- A window of 64 that ends at position `p`, entries before the first left out. -/
theorem window (f : Fin 64 → EReal) (p : Fin 64) :
    (∑ n : Fin 64, if h : 63 ≤ p.val + n.val then f ⟨p.val + n.val - 63, by omega⟩ else 0) = upto f p.val := by
  unfold upto
  have h0 : ∀ n : Fin 64, (if h : 63 ≤ p.val + n.val then f ⟨p.val + n.val - 63, by omega⟩ else 0)
      = if 63 ≤ p.val + n.val then f ⟨p.val + n.val - 63, by omega⟩ else 0 := fun n => by
    split <;> rfl
  rw [Finset.sum_congr rfl fun n _ => h0 n, ← Finset.sum_filter, ← Finset.sum_filter]
  refine Finset.sum_bij' (fun n _ => (⟨p.val + n.val - 63, by omega⟩ : Fin 64))
    (fun q _ => (⟨(q.val + 63 - p.val) % 64, by omega⟩ : Fin 64)) ?_ ?_ ?_ ?_ ?_
  · intro s hs
    simp only [Finset.mem_filter, Finset.mem_univ, true_and] at hs ⊢
    omega
  · intro q hq
    simp only [Finset.mem_filter, Finset.mem_univ, true_and] at hq ⊢
    omega
  · intro s hs
    simp only [Finset.mem_filter, Finset.mem_univ, true_and] at hs
    refine Fin.ext ?_
    show (p.val + s.val - 63 + 63 - p.val) % 64 = s.val
    omega
  · intro q hq
    simp only [Finset.mem_filter, Finset.mem_univ, true_and] at hq
    refine Fin.ext ?_
    show p.val + (q.val + 63 - p.val) % 64 - 63 = q.val
    omega
  · intro s hs
    rfl

/-- Entries beyond the sixteenth that are zero add nothing. -/
theorem padded (f g : Fin 16 → EReal) :
    ∑ a : Fin 128, (if h : a.val < 16 then f ⟨a.val, h⟩ else 0) * (if h : a.val < 16 then g ⟨a.val, h⟩ else 0)
    = ∑ a : Fin 16, f a * g a := by
  rw [Fin.sum_univ_add (a := 16) (b := 112)]
  have h1 : ∀ a : Fin 112, ¬ (Fin.natAdd 16 a).val < 16 := fun a => by
    show ¬ 16 + a.val < 16
    omega
  have h0 : ∀ a : Fin 16, (Fin.castAdd 112 a).val < 16 := fun a => a.isLt
  rw [Finset.sum_eq_zero (s := (Finset.univ : Finset (Fin 112))) fun a _ => by rw [dif_neg (h1 a), zero_mul], add_zero]
  exact Finset.sum_congr rfl fun a _ => by rw [dif_pos (h0 a), dif_pos (h0 a)]; rfl

/-- Folding addition over a list of positions sums the entries. -/
theorem fold_sum {n : ℕ} (g : Fin n → EReal) :
    (List.finRange n).foldl (fun r i => r + g i) 0 = ∑ i, g i := by
  rw [Fin.sum_univ_def, List.sum_eq_foldl, List.foldl_map]

end Cert.Gla
-- ==== Proof.GlaSum.lean ====
/-
  The fifth result of the gated linear attention's projections: the decays' running sums in chunks of 64.
-/
module

public import proofs.«01_k».proof.Proof.GlaValue
public import proofs.«01_k».proof.Proof.GlaMath

@[expose] public section

set_option maxRecDepth 16384

noncomputable section

open Idealize.ShloMosaic Idealize.ShloMosaic.TcCoe Idealize.SL.Sem

namespace Cert.GlaIdeal.RefValue

open Cert.GlaIdeal Cert.GlaIdeal.Gen

/-- The gate before the sigmoid, from a block of each operand. -/
theorem pay8_apply (x : Vec Ideal S512x1024 .f32) (w : Vec Ideal S1024x128 .bf16) (g : Vec Ideal S128x512 .bf16) (b : Vec Ideal S1x512 .f32)
    (r j : Fin 512) : k0_pay8 x w g b (ix2 r j)
    = @HAdd.hAdd EReal EReal EReal _ (∑ a : Fin 128, @HMul.hMul EReal EReal EReal _ (∑ k : Fin 1024, @HMul.hMul EReal EReal EReal _ (x (ix2 r k)) (w (ix2 k a))) (g (ix2 a j)))
      (b (ix2 (0 : Fin 1) j)) := by
  unfold_payloads
  pointwise

theorem sixteen : Ideal.ofBits FTy.f32 1098907648#32 = (16 : EReal) := by
  simp [Ideal.ofBits, Ideal.ieee]
  rw [← EReal.coe_mul]
  norm_num
  rfl

theorem pay12_apply (x : Vec Ideal S512x1024 .f32) (w : Vec Ideal S1024x128 .bf16) (g : Vec Ideal S128x512 .bf16) (b : Vec Ideal S1x512 .f32)
    (r j : Fin 512) : k0_pay12 (k0_pay9 x w g b) (k0_pay10 x w g b) k0_pay11 (ix2 r j) = Gla.decay (k0_pay8 x w g b (ix2 r j)) := by
  unfold k0_pay12 k0_pay9 k0_pay10 k0_pay11
  generalize k0_pay8 x w g b = z
  pointwise
  rw [sixteen, zero_sub]
  rfl

/-- The words of the division by 64 rounded down. -/
theorem quot : ∀ a : Fin 512,
    Scalar.select
      (IntOp.andi
        (IntOp.cmpi CmpIPredicate.ne
          (IntOp.subi (BitVec.setWidth 32 (IntOp.cmpi CmpIPredicate.sgt (BitVec.ofNat 32 a.val) 0#32))
            (BitVec.setWidth 32 (IntOp.cmpi CmpIPredicate.slt (BitVec.ofNat 32 a.val) 0#32)))
          (Scalar.subi (Scalar.extui (Scalar.cmpi CmpIPredicate.sgt 64#32 0#32))
            (Scalar.extui (Scalar.cmpi CmpIPredicate.slt 64#32 0#32))))
        (IntOp.cmpi CmpIPredicate.ne (IntOp.remsi ArithUnit.vector (BitVec.ofNat 32 a.val) 64#32) 0#32))
      (IntOp.subi (IntOp.divsi ArithUnit.vector (BitVec.ofNat 32 a.val) 64#32) 1#32)
      (IntOp.divsi ArithUnit.vector (BitVec.ofNat 32 a.val) 64#32) = BitVec.ofNat 32 (a.val / 64) := by
  decide +kernel

/-- The mask's number: one where the second row is in the first's chunk and not after it. -/
theorem mask (r s : Fin 512) :
    (FloatOps.sitofp FTy.f32 (BitVec.setWidth 32
      (IntOp.andi (IntOp.cmpi CmpIPredicate.eq (BitVec.ofNat 32 (r.val / 64)) (BitVec.ofNat 32 (s.val / 64)))
        (IntOp.cmpi CmpIPredicate.sge (BitVec.ofNat 32 r.val) (BitVec.ofNat 32 s.val)))) : Ideal .f32)
    = if s.val / 64 = r.val / 64 ∧ s.val ≤ r.val then (1 : EReal) else 0 := by
  have h1 : IntOp.cmpi CmpIPredicate.eq (BitVec.ofNat 32 (r.val / 64)) (BitVec.ofNat 32 (s.val / 64))
      = BitVec.ofBool (decide (r.val / 64 = s.val / 64)) := WordCmp.cmpi_eq_ofNat (by omega) (by omega)
  have h2 : IntOp.cmpi CmpIPredicate.sge (BitVec.ofNat 32 r.val) (BitVec.ofNat 32 s.val)
      = BitVec.ofBool (decide (s.val ≤ r.val)) := WordCmp.cmpi_sge_ofNat (by omega) (by omega)
  rw [h1, h2]
  show ((((BitVec.setWidth 32 (IntOp.andi _ _)).toInt : ℤ) : ℝ) : EReal) = _
  by_cases ha : r.val / 64 = s.val / 64 <;> by_cases hb : s.val ≤ r.val
  · rw [if_pos ⟨ha.symm, hb⟩, decide_eq_true ha, decide_eq_true hb]
    norm_num [IntOp.andi]
    decide
  · rw [if_neg (fun h => hb h.2), decide_eq_true ha, decide_eq_false hb]
    norm_num [IntOp.andi]
  · rw [if_neg (fun h => ha h.1.symm), decide_eq_false ha, decide_eq_true hb]
    norm_num [IntOp.andi]
  · rw [if_neg (fun h => hb h.2), decide_eq_false ha, decide_eq_false hb]
    norm_num [IntOp.andi]

theorem pay1_apply (g : FVec Ideal S512x512 .f32) (r j : Fin 512) (hg : ∀ s : Fin 512, g (ix2 s j) ≠ (⊤ : EReal)) :
    k0_pay1 g (iota .tc S512x512 32 [0] iota_S512x512_d0_w32) (iota .tc S512x512 32 [1] iota_S512x512_d1_w32) k0_pay13 64#32 k0_pay14 k0_pay15
      (Scalar.extui (Scalar.cmpi .sgt 64#32 0#32)) (Scalar.cmpi .slt 64#32 0#32) (ix2 r j)
    = Gla.upto (fun q => g (ix2 (⟨64 * (r.val / 64) + q.val, by omega⟩ : Fin 512) j)) (r.val % 64) := by
  unfold k0_pay1 k0_pay13 k0_pay14 k0_pay15
  pointwise
  simp only [quot, mask]
  exact (Gla.three (fun s : Fin 512 => s.val / 64 = r.val / 64 ∧ s.val ≤ r.val) (fun s => g (ix2 s j)) fun s => hg s).trans
    (Gla.chunk (fun s => g (ix2 s j)) r)

/-- The gate of row `r`, decay column `j`, before the sigmoid. -/
def gate (X : (⟨3, ![32, 2048, 1024]⟩ : Shape).Idx → EReal) (W : (⟨2, ![1024, 3088]⟩ : Shape).Idx → EReal)
    (G : (⟨2, ![16, 512]⟩ : Shape).Idx → EReal) (B : (⟨1, ![512]⟩ : Shape).Idx → EReal) (r : Fin 65536) (j : Fin 512) : EReal :=
  (∑ a : Fin 16, proj W (row X r) ⟨3072 + a.val, by omega⟩ * G (ix2 a j)) + B (ix1 j)

/-- The running sums of the decays in chunks of 64 rows. -/
def decays (X : (⟨3, ![32, 2048, 1024]⟩ : Shape).Idx → EReal) (W : (⟨2, ![1024, 3088]⟩ : Shape).Idx → EReal)
    (G : (⟨2, ![16, 512]⟩ : Shape).Idx → EReal) (B : (⟨1, ![512]⟩ : Shape).Idx → EReal) (i : (⟨2, ![65536, 512]⟩ : Shape).Idx) : EReal :=
  Gla.upto (fun q => Gla.decay (gate X W G B ⟨64 * ((i 0).val / 64) + q.val, by have : (i 0).val < 65536 := (i 0).isLt; omega⟩ (i 1)))
    ((i 0).val % 64)

theorem decays_eq (X : (⟨3, ![32, 2048, 1024]⟩ : Shape).Idx → EReal) (W : (⟨2, ![1024, 3088]⟩ : Shape).Idx → EReal)
    (G : (⟨2, ![16, 512]⟩ : Shape).Idx → EReal) (B : (⟨1, ![512]⟩ : Shape).Idx → EReal) (i : (⟨2, ![65536, 512]⟩ : Shape).Idx)
    (T : ℕ) (hT : T < 128) (r j : Fin 512) (h0 : (i 0).val = T * 512 + r.val) (h1 : (i 1).val = j.val) :
    Gla.upto (fun q => Gla.decay (gate X W G B ⟨T * 512 + (64 * (r.val / 64) + q.val), by omega⟩ j)) (r.val % 64)
      = decays X W G B i := by
  unfold decays
  rw [show i 1 = j from Fin.ext h1]
  have hr : (i 0).val % 64 = r.val % 64 := by omega
  rw [hr]
  refine congrArg (fun f => Gla.upto f (r.val % 64)) (funext fun q => ?_)
  refine congrArg (fun z => Gla.decay (gate X W G B z j)) (Fin.ext ?_)
  show T * 512 + (64 * (r.val / 64) + q.val) = 64 * ((i 0).val / 64) + q.val
  omega

variable (m : (ℓ : Loc nD τ sig) → Buf (Elt Ideal) ℓ)

/-- The low-rank columns of a row in the padded block: zero beyond the sixteenth. -/
theorem low (c : Dev nD) (t : Fin grid0.N) (r : Fin 512) (a : Fin 128) :
    ∑ k : Fin 1024, @HMul.hMul EReal EReal EReal _ (iblk m c 0 t (ix2 r k)) (iblk m c 2 t (ix2 k a))
    = if h : a.val < 16 then proj (m ((c.tc : Thread nD τ).loc main_arg1))
      (row (m ((c.tc : Thread nD τ).loc main_arg0)) ⟨(grid0.coords t 0).val * 512 + r.val, by have := steps t; omega⟩)
      ⟨3072 + a.val, by omega⟩ else 0 := by
  obtain ⟨e0, e1, e2, e3, e4, e5, e6, e7, e8, e9⟩ := idx t
  have hx : ∀ k : Fin 1024, iblk m c 0 t (ix2 r k)
      = row (m ((c.tc : Thread nD τ).loc main_arg0)) ⟨(grid0.coords t 0).val * 512 + r.val, by have := steps t; omega⟩ k := fun k => by
    refine Eq.trans ?_ (entry_v7 m c _ k)
    blk_ext [iblk, e0]
  have hw : ∀ k : Fin 1024, iblk m c 2 t (ix2 k a) = _ := fun k =>
    Eq.trans (by blk_ext [iblk, e2]) (entry_v4 m c k a)
  simp only [hx, hw]
  split
  · rfl
  · simp

/-- Point `t` computes the gates of its 512 rows. -/
theorem gates (c : Dev nD) (t : Fin grid0.N) (r j : Fin 512) :
    k0_pay8 (iblk m c 0 t) (iblk m c 2 t) (iblk m c 3 t) (iblk m c 4 t) (ix2 r j)
    = gate (m ((c.tc : Thread nD τ).loc main_arg0)) (m ((c.tc : Thread nD τ).loc main_arg1)) (m ((c.tc : Thread nD τ).loc main_arg2))
      (m ((c.tc : Thread nD τ).loc main_arg3)) ⟨(grid0.coords t 0).val * 512 + r.val, by have := steps t; omega⟩ j := by
  obtain ⟨e0, e1, e2, e3, e4, e5, e6, e7, e8, e9⟩ := idx t
  refine (pay8_apply _ _ _ _ r j).trans ?_
  have hg : ∀ a : Fin 128, iblk m c 3 t (ix2 a j) = _ := fun a => Eq.trans (by blk_ext [iblk, e3]) (entry_v6 m c a j)
  have hb : iblk m c 4 t (ix2 (0 : Fin 1) j) = _ := Eq.trans (by blk_ext [iblk, e4]) (entry_v8 m c j)
  simp only [low, hg, hb]
  unfold gate
  exact congrArg (fun x : EReal => x + _) (Gla.padded
    (fun a => proj (m ((c.tc : Thread nD τ).loc main_arg1))
      (row (m ((c.tc : Thread nD τ).loc main_arg0)) ⟨(grid0.coords t 0).val * 512 + r.val, by have := steps t; omega⟩) ⟨3072 + a.val, by omega⟩)
    (fun a => (m ((c.tc : Thread nD τ).loc main_arg2)) (ix2 a j)))

/-- The fifth result array after the run: the decays' running sums. -/
theorem final9 (c : Dev nD) : (dats m 0 c).arrAt 9 (cfgs 0).N
    = decays (m ((c.tc : Thread nD τ).loc main_arg0)) (m ((c.tc : Thread nD τ).loc main_arg1)) (m ((c.tc : Thread nD τ).loc main_arg2))
      (m ((c.tc : Thread nD τ).loc main_arg3)) := by
  refine (dats m 0 c).arrAt_eq_of_covers 9 _ (by decide +kernel) fun t hf y => ?_
  obtain ⟨e0, e1, e2, e3, e4, e5, e6, e7, e8, e9⟩ := idx t
  obtain ⟨r, j, rfl⟩ : ∃ (r : Fin 512) (j : Fin 512), y = ix2 r j := two y
  blk_simp
  rw [after0_9]
  frame_out
  have hd : ∀ s : Fin 512, k0_pay12 (k0_pay9 (iblk m c 0 t) (iblk m c 2 t) (iblk m c 3 t) (iblk m c 4 t))
      (k0_pay10 (iblk m c 0 t) (iblk m c 2 t) (iblk m c 3 t) (iblk m c 4 t)) k0_pay11 (ix2 s j)
      = Gla.decay (gate (m ((c.tc : Thread nD τ).loc main_arg0)) (m ((c.tc : Thread nD τ).loc main_arg1)) (m ((c.tc : Thread nD τ).loc main_arg2))
        (m ((c.tc : Thread nD τ).loc main_arg3)) ⟨(grid0.coords t 0).val * 512 + s.val, by have := steps t; omega⟩ j) := fun s =>
    (pay12_apply _ _ _ _ s j).trans (congrArg Gla.decay (gates m c t s j))
  refine (pay1_apply _ r j fun s => by rw [hd]; exact Gla.decay_ne_top _).trans ?_
  simp only [hd]
  refine decays_eq _ _ _ _ _ _ (steps t) r j ?_ ?_ <;> (blk_simp [e9]; try omega)

end Cert.GlaIdeal.RefValue
-- ==== Proof.GlaRefValue.lean ====
/-
  The gated linear attention's projections: what the reference computes, index by index over the extended reals.
-/
module

public import proofs.«01_k».proof.Proof.GlaSum
public import proofs.«01_k».proof.Proof.Gen.GlaRefIdeal.Read

@[expose] public section

set_option maxRecDepth 16384

noncomputable section

open Idealize.ShloMosaic Idealize.ShloMosaic.TcCoe Idealize.SL.Sem

namespace Cert.GlaIdeal.RefValue

open Cert.GlaRefIdeal Cert.GlaRefIdeal.Gen Cert.GlaRefIdeal.Read

variable (X : Vec Ideal S32x2048x1024 .f32) (W : Vec Ideal S1024x3088 .f32) (G : Vec Ideal S16x512 .f32) (B : Vec Ideal S512 .f32)

/-- The reference's product at one sample, token and column. -/
theorem prod (n : Fin 32) (t : Fin 2048) (c : Fin 3088) :
    val_main_v0 (F := Ideal) X W (ix3 n t c) = proj W (fun k => X (ix3 n t k)) c := by
  unfold val_main_v0 proj
  pointwise

/-- An index of three coordinates from its parts. -/
theorem split3 {a b c : ℕ} (i : (⟨3, ![a, b, c]⟩ : Shape).Idx) (n : Fin a) (t : Fin b) (j : Fin c)
    (h0 : (i 0).val = n.val) (h1 : (i 1).val = t.val) (h2 : (i 2).val = j.val) : i = ix3 n t j := by
  funext x
  match x with
  | ⟨0, _⟩ => exact Fin.ext h0
  | ⟨1, _⟩ => exact Fin.ext h1
  | ⟨2, _⟩ => exact Fin.ext h2

/-- The product at an index whose first two coordinates are row `r`'s. -/
theorem prod_piece {n : ℕ} (o : ℕ) (h : o + n ≤ 3088) (i : (⟨2, ![65536, n]⟩ : Shape).Idx) (q : S32x2048x3088.Idx)
    (h0 : (q 0).val = (i 0).val / 2048) (h1 : (q 1).val = (i 0).val % 2048) (h2 : (q 2).val = o + (i 1).val) :
    val_main_v0 (F := Ideal) X W q = piece o n h X W i := by
  have hi : (i 0).val < 65536 := (i 0).isLt
  have hj : (i 1).val < n := (i 1).isLt
  rw [split3 q (⟨(i 0).val / 2048, by omega⟩ : Fin 32) (⟨(i 0).val % 2048, by omega⟩ : Fin 2048)
    (⟨o + (i 1).val, by omega⟩ : Fin 3088) h0 h1 h2, prod]
  rfl

theorem ref17 (i : S65536x512.Idx) : val_main_v17 (F := Ideal) X W i
    = piece 0 512 (by omega) X W i * Ideal.ofBits .f32 1035273459#32 := by
  have hi : (i 0).val < 65536 := (i 0).isLt
  have hj : (i 1).val < 512 := (i 1).isLt
  rw [val_main_v17_apply, val_main_v16_apply, val_main_v1_apply, val_main_v15_apply, val_main_cst_0_apply]
  refine congrArg (fun x : EReal => x * Ideal.ofBits .f32 1035273459#32) (prod_piece X W 0 _ i _ ?_ ?_ ?_)
  · show ((i 0).val * 512 + (i 1).val) / 1048576 = _; omega
  · show ((i 0).val * 512 + (i 1).val) / 512 % 2048 = _; omega
  · show ((i 0).val * 512 + (i 1).val) % 512 = _; omega

theorem ref18 (i : S65536x512.Idx) : val_main_v18 (F := Ideal) X W i = piece 512 512 (by omega) X W i := by
  have hi : (i 0).val < 65536 := (i 0).isLt
  have hj : (i 1).val < 512 := (i 1).isLt
  rw [val_main_v18_apply, val_main_v2_apply]
  refine prod_piece X W 512 _ i _ ?_ ?_ ?_
  · show ((i 0).val * 512 + (i 1).val) / 1048576 = _; omega
  · show ((i 0).val * 512 + (i 1).val) / 512 % 2048 = _; omega
  · show 512 + ((i 0).val * 512 + (i 1).val) % 512 = _; omega

theorem ref19 (i : S65536x1024.Idx) : val_main_v19 (F := Ideal) X W i = piece 1024 1024 (by omega) X W i := by
  have hi : (i 0).val < 65536 := (i 0).isLt
  have hj : (i 1).val < 1024 := (i 1).isLt
  rw [val_main_v19_apply, val_main_v3_apply]
  refine prod_piece X W 1024 _ i _ ?_ ?_ ?_
  · show ((i 0).val * 1024 + (i 1).val) / 2097152 = _; omega
  · show ((i 0).val * 1024 + (i 1).val) / 1024 % 2048 = _; omega
  · show 1024 + ((i 0).val * 1024 + (i 1).val) % 1024 = _; omega

theorem ref20 (i : S65536x1024.Idx) : val_main_v20 (F := Ideal) X W i = piece 2048 1024 (by omega) X W i := by
  have hi : (i 0).val < 65536 := (i 0).isLt
  have hj : (i 1).val < 1024 := (i 1).isLt
  rw [val_main_v20_apply, val_main_v4_apply]
  refine prod_piece X W 2048 _ i _ ?_ ?_ ?_
  · show ((i 0).val * 1024 + (i 1).val) / 2097152 = _; omega
  · show ((i 0).val * 1024 + (i 1).val) / 1024 % 2048 = _; omega
  · show 2048 + ((i 0).val * 1024 + (i 1).val) % 1024 = _; omega

/-- The reference's gate. -/
theorem refGate (n : Fin 32) (t : Fin 2048) (j : Fin 512) (r : Fin 65536) (hn : n.val = r.val / 2048) (ht : t.val = r.val % 2048) :
    val_main_v9 (F := Ideal) X W G B (ix3 n t j) = gate X W G B r j := by
  rw [val_main_v9_apply, val_main_v6_apply, val_main_v8_apply, val_main_v7_apply]
  have hx : row X r = fun k => X (ix3 n t k) := by
    funext k
    unfold row
    rw [show (⟨r.val / 2048, by omega⟩ : Fin 32) = n from Fin.ext hn.symm,
      show (⟨r.val % 2048, by omega⟩ : Fin 2048) = t from Fin.ext ht.symm]
  unfold gate
  rw [hx]
  have hb : idx_main_v7 (idx_main_v8 (ix3 n t j)) = ix1 j := by
    funext a
    match a with
    | ⟨0, _⟩ => rfl
  rw [hb]
  refine congrArg (fun x : EReal => x + B (ix1 j)) (Finset.sum_congr rfl fun a _ => ?_)
  rw [val_main_v5_apply]
  have hg : ridx_main_v6 (ix3 n t j) a = ix2 a j := by
    funext x
    match x with
    | ⟨0, _⟩ => rfl
    | ⟨1, _⟩ => rfl
  rw [hg, split3 (idx_main_v5 (lidx_main_v6 (ix3 n t j) a)) n t ⟨3072 + a.val, by omega⟩ rfl rfl rfl, prod]

theorem zero_bits : Ideal.ofBits .f32 0#32 = (0 : EReal) := by
  simp [Ideal.ofBits, Ideal.ieee]

/-- The reference's decay is that of its gate. -/
theorem refDecay (i : S32x2048x512.Idx) :
    val_main_v12 (F := Ideal) X W G B i = Gla.decay (val_main_v9 (F := Ideal) X W G B i) := by
  rw [← Gla.decay_soft]
  unfold val_main_v12 val_main_v10 val_main_call0_v1 val_main_call0_call0_v11 val_main_call0_call0_v10 val_main_call0_call0_v9
    val_main_call0_call0_v8 val_main_call0_call0_v7 val_main_call0_call0_v6 val_main_call0_call0_v4 val_main_call0_call0_v3
    val_main_call0_call0_v1 val_main_call0_v0
  generalize val_main_v9 (F := Ideal) X W G B = z
  unfold val_main_v11 val_main_call0_call0_v0 val_main_call0_call0_v2 val_main_call0_call0_v5
  pointwise
  rw [show val_main_call0_call0_cst (F := Ideal) ix0 = (0 : EReal) from zero_bits, show val_main_cst (F := Ideal) ix0 = (16 : EReal) from sixteen]
  rw [if_neg (fun h => h rfl), sub_zero]
  rfl

/-- The window's 64 positions. -/
def spots : (⟨4, ![1, 1, 64, 1]⟩ : Shape).Idx ≃ Fin 64 where
  toFun w := w 2
  invFun q := ix4 (0 : Fin 1) (0 : Fin 1) q (0 : Fin 1)
  left_inv w := by
    funext a
    match a with
    | ⟨0, _⟩ => exact Subsingleton.elim (α := Fin 1) _ _
    | ⟨1, _⟩ => exact Subsingleton.elim (α := Fin 1) _ _
    | ⟨2, _⟩ => rfl
    | ⟨3, _⟩ => exact Subsingleton.elim (α := Fin 1) _ _
  right_inv _ := rfl

/-- What the window whose last position is `(n, c, p, j)` reads at position `w`. -/
def seen (x : S32x32x64x512.Idx → EReal) (n c : Fin 32) (p : Fin 64) (j : Fin 512) (w : (⟨4, ![1, 1, 64, 1]⟩ : Shape).Idx) : EReal :=
  if hin : ∀ a : Fin 4, (![0, 0, 63, 0] : Fin 4 → ℕ) a ≤ ((ix4 n c p j : S32x32x64x512.Idx) a).val * (![1, 1, 1, 1] : Fin 4 → ℕ) a + (w a).val
      ∧ ((ix4 n c p j : S32x32x64x512.Idx) a).val * (![1, 1, 1, 1] : Fin 4 → ℕ) a + (w a).val - (![0, 0, 63, 0] : Fin 4 → ℕ) a < S32x32x64x512.size a
    then x (fun a => ⟨_, (hin a).2⟩) else 0

theorem seen_spot (x : S32x32x64x512.Idx → EReal) (n c : Fin 32) (p : Fin 64) (j : Fin 512) (q : Fin 64) :
    seen x n c p j (spots.symm q)
    = if h : 63 ≤ p.val + q.val then x (ix4 n c (⟨p.val + q.val - 63, by omega⟩ : Fin 64) j) else 0 := by
  unfold seen
  by_cases h : 63 ≤ p.val + q.val
  · have hin : ∀ a : Fin 4, (![0, 0, 63, 0] : Fin 4 → ℕ) a ≤ ((ix4 n c p j : S32x32x64x512.Idx) a).val * (![1, 1, 1, 1] : Fin 4 → ℕ) a + (spots.symm q a).val
        ∧ ((ix4 n c p j : S32x32x64x512.Idx) a).val * (![1, 1, 1, 1] : Fin 4 → ℕ) a + (spots.symm q a).val - (![0, 0, 63, 0] : Fin 4 → ℕ) a < S32x32x64x512.size a := by
      intro a
      match a with
      | ⟨0, _⟩ => show 0 ≤ n.val * 1 + 0 ∧ n.val * 1 + 0 - 0 < 32; omega
      | ⟨1, _⟩ => show 0 ≤ c.val * 1 + 0 ∧ c.val * 1 + 0 - 0 < 32; omega
      | ⟨2, _⟩ => show 63 ≤ p.val * 1 + q.val ∧ p.val * 1 + q.val - 63 < 64; omega
      | ⟨3, _⟩ => show 0 ≤ j.val * 1 + 0 ∧ j.val * 1 + 0 - 0 < 512; omega
    rw [dif_pos hin, dif_pos h]
    refine congrArg x (funext fun a => Fin.ext ?_)
    match a with
    | ⟨0, _⟩ => show n.val * 1 + 0 - 0 = n.val; omega
    | ⟨1, _⟩ => show c.val * 1 + 0 - 0 = c.val; omega
    | ⟨2, _⟩ => show p.val * 1 + q.val - 63 = p.val + q.val - 63; omega
    | ⟨3, _⟩ => show j.val * 1 + 0 - 0 = j.val; omega
  · rw [dif_neg h, dif_neg]
    intro hin
    have h2 : 63 ≤ p.val * 1 + q.val := (hin 2).1
    omega

/-- The reference's window sum over a chunk is the chunk's running sum. -/
theorem refWindow (x : S32x32x64x512.Idx → EReal) (n c : Fin 32) (p : Fin 64) (j : Fin 512) :
    Ideal.hostReduceWindowAdd ![1, 1, 64, 1] ![1, 1, 1, 1] ![0, 0, 63, 0] ![0, 0, 0, 0]
      reduceWindows_S32x32x64x512_S32x32x64x512_w1s1p0_0_w1s1p0_0_w64s1p63_0_w1s1p0_0 x 0 (ix4 n c p j)
    = Gla.upto (fun q => x (ix4 n c q j)) p.val := by
  unfold Ideal.hostReduceWindowAdd Host.reduceWindow
  dsimp only
  refine (Gla.fold_sum _).trans ?_
  refine (Finset.sum_congr rfl fun i _ => (?_ : _ = seen x n c p j ((⟨4, ![1, 1, 64, 1]⟩ : Shape).rowMajor.symm i))).trans ?_
  · unfold seen
    exact dite_congr rfl (fun _ => rfl) fun _ => rfl
  rw [Equiv.sum_comp (⟨4, ![1, 1, 64, 1]⟩ : Shape).rowMajor.symm (seen x n c p j), ← Equiv.sum_comp spots.symm,
    Finset.sum_congr rfl fun q _ => seen_spot x n c p j q]
  exact Gla.window (fun q => x (ix4 n c q j)) p

theorem ref21 (i : S65536x512.Idx) : val_main_v21 (F := Ideal) X W G B i = decays X W G B i := by
  have hi : (i 0).val < 65536 := (i 0).isLt
  have hj : (i 1).val < 512 := (i 1).isLt
  rw [val_main_v21_apply]
  have e : idx_main_v21 i = ix4 (⟨(i 0).val / 2048, by omega⟩ : Fin 32) (⟨(i 0).val / 64 % 32, by omega⟩ : Fin 32)
      (⟨(i 0).val % 64, by omega⟩ : Fin 64) (⟨(i 1).val, hj⟩ : Fin 512) := by
    funext a
    refine Fin.ext ?_
    match a with
    | ⟨0, _⟩ => show ((i 0).val * 512 + (i 1).val) / 1048576 = (i 0).val / 2048; omega
    | ⟨1, _⟩ => show ((i 0).val * 512 + (i 1).val) / 32768 % 32 = (i 0).val / 64 % 32; omega
    | ⟨2, _⟩ => show ((i 0).val * 512 + (i 1).val) / 512 % 64 = (i 0).val % 64; omega
    | ⟨3, _⟩ => show ((i 0).val * 512 + (i 1).val) % 512 = (i 1).val; omega
  rw [e]
  unfold val_main_v14
  have hz : (val_main_call1_call0_v0 (F := Ideal)) (Shape.Idx.first h_S_) = (0 : EReal) :=
    (val_main_call1_call0_v0_apply _).trans zero_bits
  show Ideal.hostReduceWindowAdd ![1, 1, 64, 1] ![1, 1, 1, 1] ![0, 0, 63, 0] ![0, 0, 0, 0]
      reduceWindows_S32x32x64x512_S32x32x64x512_w1s1p0_0_w1s1p0_0_w64s1p63_0_w1s1p0_0 (val_main_v13 (F := Ideal) X W G B)
      ((val_main_call1_call0_v0 (F := Ideal)) (Shape.Idx.first h_S_)) _ = _
  rw [hz, refWindow]
  unfold decays
  refine congrArg (fun f => Gla.upto f ((i 0).val % 64)) (funext fun q => ?_)
  rw [val_main_v13_apply, refDecay]
  refine congrArg Gla.decay ?_
  rw [split3 (idx_main_v13 _) (⟨(i 0).val / 2048, by omega⟩ : Fin 32) (⟨(i 0).val / 64 % 32 * 64 + q.val, by omega⟩ : Fin 2048) (⟨(i 1).val, hj⟩ : Fin 512)]
  · refine refGate X W G B _ _ _ _ ?_ ?_
    · show (i 0).val / 2048 = (64 * ((i 0).val / 64) + q.val) / 2048; omega
    · show (i 0).val / 64 % 32 * 64 + q.val = (64 * ((i 0).val / 64) + q.val) % 2048; omega
  · show ((((i 0).val / 2048 * 32 + (i 0).val / 64 % 32) * 64 + q.val) * 512 + (i 1).val) / 1048576 = (i 0).val / 2048; omega
  · show ((((i 0).val / 2048 * 32 + (i 0).val / 64 % 32) * 64 + q.val) * 512 + (i 1).val) / 512 % 2048 = (i 0).val / 64 % 32 * 64 + q.val; omega
  · show ((((i 0).val / 2048 * 32 + (i 0).val / 64 % 32) * 64 + q.val) * 512 + (i 1).val) % 512 = (i 1).val; omega

end Cert.GlaIdeal.RefValue
-- ==== Proof.GlaClaim.lean ====
/-
  The claims of the gated linear attention's projections: the reference runs, and the kernel's five results are the
  reference's over the extended reals.
-/
module

public import proofs.«01_k».proof.Proof.GlaRefValue
public import proofs.«01_k».proof.Defs

@[expose] public section

set_option maxRecDepth 16384

noncomputable section

open Idealize.ShloMosaic Idealize.ShloMosaic.TcCoe Idealize.SL.Sem

namespace Cert.GlaIdeal.RefValue

theorem frameRef : Cert.quiescent_GlaRefIdeal := by
  intro m g _
  refine (θ_run _ _ _).mono (fun r h => ⟨fun c => (h c).2.2.2.2.2, sem_eq_zero_of_no_sems (by decide) r.2⟩)
    (Cert.GlaRefIdeal.Value.run m g)

theorem algebraic : Cert.algebraic_GlaIdeal_GlaRefIdeal := by
  intro m g m' g' _ he
  refine ⟨fun c => (Cert.GlaIdeal.Gen.dats m 0 c).arrAt 5 (Cert.GlaIdeal.cfgs 0).N,
    fun c => (Cert.GlaIdeal.Gen.dats m 0 c).arrAt 6 (Cert.GlaIdeal.cfgs 0).N,
    fun c => (Cert.GlaIdeal.Gen.dats m 0 c).arrAt 7 (Cert.GlaIdeal.cfgs 0).N,
    fun c => (Cert.GlaIdeal.Gen.dats m 0 c).arrAt 8 (Cert.GlaIdeal.cfgs 0).N,
    fun c => (Cert.GlaIdeal.Gen.dats m 0 c).arrAt 9 (Cert.GlaIdeal.cfgs 0).N, ?_, ?_⟩
  · refine (θ_run _ _ _).mono (fun r h c => ?_) (Cert.GlaIdeal.Value.run_blocks m g)
    exact h c
  · refine (θ_run _ _ _).mono (fun r h c => ?_) (Cert.GlaRefIdeal.Value.run m' g')
    obtain ⟨e0, e1, e2, e3⟩ := he c
    obtain ⟨h0, h1, h2, h3, h4, hr⟩ := h c
    refine ⟨h0.trans ?_, h1.trans ?_, h2.trans ?_, h3.trans ?_, h4.trans ?_, hr⟩ <;> beta_reduce
    · rw [final5, Cert.GlaRefIdeal.Read.val_main_v17_eq, e0, e1]
      exact funext fun i => ref17 _ _ i
    · rw [final6, Cert.GlaRefIdeal.Read.val_main_v18_eq, e0, e1]
      exact funext fun i => ref18 _ _ i
    · rw [final7, Cert.GlaRefIdeal.Read.val_main_v19_eq, e0, e1]
      exact funext fun i => ref19 _ _ i
    · rw [final8, Cert.GlaRefIdeal.Read.val_main_v20_eq, e0, e1]
      exact funext fun i => ref20 _ _ i
    · rw [final9, Cert.GlaRefIdeal.Read.val_main_v21_eq, e0, e1, e2, e3]
      exact funext fun i => ref21 _ _ _ _ i

end Cert.GlaIdeal.RefValue
-- ==== Proof.SwaValue.lean ====
/-
  The windowed attention: what one grid point of its pipelined kernel leaves in its result block, as one array
  expression in which every head pair and every half of the block is an instance of the same few functions.
-/
module

public import proofs.«01_k».proof.Proof.Gen.SwaIdeal.Value
public import Idealize.ShloMosaic.Lib.Pipeline.ValueKit
public import Idealize.ShloMosaic.Lib.Pipeline.Covers
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.SwaIdeal.RefValue

open Cert.SwaIdeal Cert.SwaIdeal.Gen

/-- The masked scores of 128 queries on a window of 256 keys. -/
def scoreV (q : FVec Ideal S128x128 .bf16) (ok : IVec S128x256 1) (k : FVec Ideal S256x128 .bf16) :
    FVec Ideal S128x256 .f32 :=
  select ok (matmul dot_S128x128_S256x128_S128x256_1_1_0_0_n_n none q k (constant S128x256 .f32 0x00000000#32))
    (broadcast S128x256 (Named.named (F := Ideal) κ "mask" 0xF149F2CA#32))

/-- Each row's largest score, the sink's among them. -/
def peakV (s : FVec Ideal S128x256 .f32) (sink : FVec Ideal S1x1 .f32) : FVec Ideal S128x1 .f32 :=
  maximumf (shapeCast S128x1 (multiReduction .maximumf [1] S128 s 0xFF800000#32 reduces_S128x256_S128 (.inl rfl) rfl)
    shapeCasts_S128_S128x1) (broadcastTo S128x1 sink broadcasts_S1x1_S128x1)

/-- The weights before normalisation. -/
def weightV (s : FVec Ideal S128x256 .f32) (sink : FVec Ideal S1x1 .f32) : FVec Ideal S128x256 .f32 :=
  exp (subf s (broadcastTo S128x256 (peakV s sink) broadcasts_S128x1_S128x256))

/-- One over each row's total weight. -/
def shareV (s : FVec Ideal S128x256 .f32) (sink : FVec Ideal S1x1 .f32) : FVec Ideal S128x1 .f32 :=
  divf (broadcast S128x1 (Scalar.ofBits .f32 0x3F800000#32 : Ideal .f32))
    (addf (shapeCast S128x1 (multiReduction .add [1] S128 (weightV s sink) 0x00000000#32 reduces_S128x256_S128
      (.inl rfl) rfl) shapeCasts_S128_S128x1)
      (exp (subf (broadcastTo S128x1 sink broadcasts_S1x1_S128x1) (peakV s sink))))

/-- One head's part of a pair's columns. -/
def headV (s : FVec Ideal S128x256 .f32) (sink : FVec Ideal S1x1 .f32) (v : FVec Ideal S256x128 .bf16) :
    FVec Ideal S128x128 .f32 :=
  mulf (matmul dot_S128x256_S256x128_S128x128_1_0_0_1_n_n none (truncf .bf16 (weightV s sink) bitsLt_bf16_f32) v
    (constant S128x128 .f32 0x00000000#32)) (broadcastTo S128x128 (shareV s sink) broadcasts_S128x1_S128x128)

/-- A group's columns lie in the window. -/
theorem slices_group : ∀ g : Fin 4, S384x256.Slices ![0, 64 * g.val] S384x64 := by decide
/-- A half's window lies in the block's keys. -/
theorem slices_window : ∀ u : Fin 2, S384x128.Slices ![128 * u.val, 0] S256x128 := by decide
/-- A pair's queries lie in the block. -/
theorem slices_pair : ∀ (u : Fin 2) (p : Fin 8), S256x1024.Slices ![128 * u.val, 128 * p.val] S128x128 := by decide

/-- A group's 64 columns with 64 columns of zeros after them, on the window of half `u`. -/
def before (x : FVec Ideal S384x256 .bf16) (g : Fin 4) (u : Fin 2) : FVec Ideal S256x128 .bf16 :=
  extractStridedSlice S256x128 ![128 * u.val, 0] (concatenate S384x128 1
    [⟨S384x64, extractStridedSlice S384x64 ![0, 64 * g.val] x (slices_group g)⟩, ⟨S384x64, k0_pay13 (F := Ideal)⟩]
    concatenates_S384x64_S384x64_S384x128_d1) (slices_window u)

/-- The same with the zeros in front. -/
def behind (x : FVec Ideal S384x256 .bf16) (g : Fin 4) (u : Fin 2) : FVec Ideal S256x128 .bf16 :=
  extractStridedSlice S256x128 ![128 * u.val, 0] (concatenate S384x128 1
    [⟨S384x64, k0_pay13 (F := Ideal)⟩, ⟨S384x64, extractStridedSlice S384x64 ![0, 64 * g.val] x (slices_group g)⟩]
    concatenates_S384x64_S384x64_S384x128_d1) (slices_window u)

section Block

variable (q : FVec Ideal S256x1024 .bf16) (k v : FVec Ideal S384x256 .bf16) (ok : Fin 2 → IVec S128x256 1)
  (sk : Fin 16 → FVec Ideal S1x1 .f32)

/-- Head pair `p` on half `u` of the block's rows. -/
def pairV (u : Fin 2) (p : Fin 8) : FVec Ideal S128x128 .f32 :=
  addf
    (headV (scoreV (extractStridedSlice S128x128 ![128 * u.val, 128 * p.val] q (slices_pair u p)) (ok u)
      (before k ⟨p.val / 2, by omega⟩ u)) (sk ⟨2 * p.val, by omega⟩) (before v ⟨p.val / 2, by omega⟩ u))
    (headV (scoreV (extractStridedSlice S128x128 ![128 * u.val, 128 * p.val] q (slices_pair u p)) (ok u)
      (behind k ⟨p.val / 2, by omega⟩ u)) (sk ⟨2 * p.val + 1, by omega⟩) (behind v ⟨p.val / 2, by omega⟩ u))

/-- A head pair's columns. -/
def colsV (p : Fin 8) : FVec Ideal S256x128 .f32 :=
  concatenate S256x128 0 [⟨S128x128, pairV q k v ok sk 0 p⟩, ⟨S128x128, pairV q k v ok sk 1 p⟩]
    concatenates_S128x128_S128x128_S256x128_d0

/-- All the heads side by side. -/
def attV : FVec Ideal S256x1024 .f32 :=
  concatenate S256x1024 1 [⟨S256x128, colsV q k v ok sk 0⟩, ⟨S256x128, colsV q k v ok sk 1⟩,
    ⟨S256x128, colsV q k v ok sk 2⟩, ⟨S256x128, colsV q k v ok sk 3⟩, ⟨S256x128, colsV q k v ok sk 4⟩,
    ⟨S256x128, colsV q k v ok sk 5⟩, ⟨S256x128, colsV q k v ok sk 6⟩, ⟨S256x128, colsV q k v ok sk 7⟩]
    concatenates_S256x128_S256x128_S256x128_S256x128_S256x128_S256x128_S256x128_S256x128_S256x1024_d1

end Block

/-- The window's mask on half `u` of the rows, for the block whose first row is `r0`. -/
def okV (r0 : BitVec 32) (u : Fin 2) : IVec S128x256 1 :=
  match u with
  | 0 => k0_pay11 r0 (iota .tc S128x256 32 [1] iota_S128x256_d1_w32) k0_pay6 k0_pay7 k0_pay8 k0_pay9
  | 1 => k0_pay12 r0 (iota .tc S128x256 32 [1] iota_S128x256_d1_w32) k0_pay6 k0_pay7 k0_pay8 k0_pay9

/-- A head's sink lies in the array of sinks. -/
theorem sink_inside : ∀ (h : Fin 16) (a : Fin 2), ![h.val, 0] a + S1x1.size a ≤ S16x1.size a := by decide

/-- Head `h`'s sink. -/
def sinkV (x : Vec Ideal S16x1 .f32) (h : Fin 16) : FVec Ideal S1x1 .f32 :=
  shapeCast S1x1 (View.ld x (Rect.unit (s := S16x1) ![h.val, 0] S1x1.size (sink_inside h))) shapeCasts_S1x1_S1x1

/-- The body's result block, over what it loads. -/
def bodyV (i : grid0.Coords) (x0 : Vec Ideal S1x256x1024 .f32) (x1 x2 : Vec Ideal S1x2176x256 .f32)
    (x3 : Vec Ideal S1024x1024 .bf16) (x4 : Vec Ideal S16x1 .f32) (x5 : Vec Ideal S1024x1024 .bf16)
    (x6 x7 : Vec Ideal S1x1024 .f32) : FVec Ideal S1x256x1024 .f32 :=
  k0_pay1 (k0_pay233 x7) (k0_pay234 (k0_pay2 x0) (attV (k0_pay3 x0 x3)
    (k0_pay4 (View.ld x1 (Rect.unit (s := S1x2176x256) (k0_off1 i) S1x384x256.size (k0_off1_inb i))))
    (k0_pay5 (View.ld x2 (Rect.unit (s := S1x2176x256) (k0_off1 i) S1x384x256.size (k0_off1_inb i))))
    (okV (Scalar.muli (BitVec.ofNat 32 (i 1).val) 256#32)) (sinkV x4)) x5) (k0_pay235 x6)

set_option maxHeartbeats 4000000 in
theorem out_eq (c : Dev nD) (i : grid0.Coords) (a2 : Memref sig .tc .vmem S1x256x1024 .f32) (h2 : a2.IsWhole)
    (a3 : Memref sig .tc .vmem S1x2176x256 .f32) (h3 : a3.IsWhole) (a4 : Memref sig .tc .vmem S1x2176x256 .f32)
    (h4 : a4.IsWhole) (a5 : Memref sig .tc .vmem S1024x1024 .bf16) (h5 : a5.IsWhole)
    (a6 : Memref sig .tc .vmem S16x1 .f32) (h6 : a6.IsWhole) (a7 : Memref sig .tc .vmem S1024x1024 .bf16)
    (h7 : a7.IsWhole) (a8 : Memref sig .tc .vmem S1x1024 .f32) (h8 : a8.IsWhole)
    (a9 : Memref sig .tc .vmem S1x1024 .f32) (h9 : a9.IsWhole) (a10 : Memref sig .tc .vmem S1x256x1024 .f32)
    (h10 : a10.IsWhole) (x0 : Vec Ideal S1x256x1024 .f32) (x1 x2 : Vec Ideal S1x2176x256 .f32)
    (x3 : Vec Ideal S1024x1024 .bf16) (x4 : Vec Ideal S16x1 .f32) (x5 : Vec Ideal S1024x1024 .bf16)
    (x6 x7 : Vec Ideal S1x1024 .f32) :
    out0_A_8 c i a2 h2 a3 h3 a4 h4 a5 h5 a6 h6 a7 h7 a8 h8 a9 h9 a10 h10 x0 x1 x2 x3 x4 x5 x6 x7
    = bodyV i x0 x1 x2 x3 x4 x5 x6 x7 := by
  have e0 : View.ld x0 (Rect.unit (s := S1x256x1024) ![0, 0, 0] S1x256x1024.size inb_S1x256x1024_S1x256x1024_0_0_0) = x0 :=
    View.ld_unit_lit _ _ (by decide)
  have e3 : View.ld x3 (Rect.unit (s := S1024x1024) ![0, 0] S1024x1024.size inb_S1024x1024_S1024x1024_0_0) = x3 :=
    View.ld_unit_lit _ _ (by decide)
  have e5 : View.ld x5 (Rect.unit (s := S1024x1024) ![0, 0] S1024x1024.size inb_S1024x1024_S1024x1024_0_0) = x5 :=
    View.ld_unit_lit _ _ (by decide)
  have e6 : View.ld x6 (Rect.unit (s := S1x1024) ![0, 0] S1x1024.size inb_S1x1024_S1x1024_0_0) = x6 :=
    View.ld_unit_lit _ _ (by decide)
  have e7 : View.ld x7 (Rect.unit (s := S1x1024) ![0, 0] S1x1024.size inb_S1x1024_S1x1024_0_0) = x7 :=
    View.ld_unit_lit _ _ (by decide)
  have r0 := h2.read_unread (Val := Elt Ideal) x0
  have r1 := h3.read_unread (Val := Elt Ideal) x1
  have r2 := h4.read_unread (Val := Elt Ideal) x2
  have r3 := h5.read_unread (Val := Elt Ideal) x3
  have r4 := h6.read_unread (Val := Elt Ideal) x4
  have hR : bodyV i x0 x1 x2 x3 x4 x5 x6 x7 = k0_pay1 (k0_pay233 x7) (k0_pay234 (k0_pay2 x0) (attV (k0_pay3
      (View.ld (View.read (Elt Ideal) a2.view (h2.unread x0)) (Rect.unit (s := S1x256x1024) ![0, 0, 0] S1x256x1024.size inb_S1x256x1024_S1x256x1024_0_0_0))
      (View.ld (View.read (Elt Ideal) a5.view (h5.unread x3)) (Rect.unit (s := S1024x1024) ![0, 0] S1024x1024.size inb_S1024x1024_S1024x1024_0_0)))
      (k0_pay4 (View.ld (View.read (Elt Ideal) a3.view (h3.unread x1)) (Rect.unit (s := S1x2176x256) (k0_off1 i) S1x384x256.size (k0_off1_inb i))))
      (k0_pay5 (View.ld (View.read (Elt Ideal) a4.view (h4.unread x2)) (Rect.unit (s := S1x2176x256) (k0_off1 i) S1x384x256.size (k0_off1_inb i))))
      (okV (Scalar.muli (BitVec.ofNat 32 (i 1).val) 256#32)) (sinkV (View.read (Elt Ideal) a6.view (h6.unread x4)))) x5) (k0_pay235 x6) := by
    rw [r0, r1, r2, r3, r4, e0, e3, bodyV]
  rw [hR]
  generalize hB : attV _ _ _ _ _ = B
  frame_out
  with_reducible congr 1
  with_reducible congr 1
  · rfl
  rw [← hB]
  unfold attV colsV pairV
  with_reducible congr
  all_goals rfl

end Cert.SwaIdeal.RefValue
-- ==== Proof.SwaSpec.lean ====
/-
  The windowed attention over the extended reals: its formula in the kernel's order of normalising and in the
  reference's, and that the two agree on finite keys, query weights and sinks.
-/
module

public import proofs.«01_k».proof.Proof.AttClaim

@[expose] public section

set_option maxRecDepth 16384

noncomputable section

open Idealize.ShloMosaic Idealize.ShloMosaic.TcCoe Idealize.SL.Sem

namespace Cert.SwaIdeal.RefValue

open Cert.AttIdeal.RefValue (Fin' normed mix normed_inf mix_inf sum_mul_real bot_bits)

/-- The largest of the scores and the sink. -/
def peak {n : ℕ} (s : Fin n → EReal) (c : EReal) : EReal :=
  max (Finset.fold max (Ideal.ofBits .f32 4286578688#32) s Finset.univ) c

/-- The weight of key `l` before normalisation. -/
def weight {n : ℕ} (s : Fin n → EReal) (c : EReal) (l : Fin n) : EReal := Ideal.exp (s l - peak s c)

/-- All the weight, the sink's included. -/
def total {n : ℕ} (s : Fin n → EReal) (c : EReal) : EReal := (∑ l, weight s c l) + Ideal.exp (c - peak s c)

/-- The attention over values `v`, normalised after the sum: as the kernel has it. -/
def late {n : ℕ} (s v : Fin n → EReal) (c : EReal) : EReal := (∑ l, weight s c l * v l) * Ideal.div 1 (total s c)

/-- The attention over values `v`, each weight normalised first: as the reference has it. -/
def early {n : ℕ} (s v : Fin n → EReal) (c : EReal) : EReal := ∑ l, v l * Ideal.div (weight s c l) (total s c)

/-- One row of tokens against column `j` of the query weights, scaled by an eighth. -/
def query (X : Fin 1024 → EReal) (W : Fin 1024 → Fin 1024 → EReal) (j : Fin 1024) : EReal :=
  (∑ k, X k * W k j) * Ideal.ofBits .f32 1040187392#32

/-- The row's score on row `l` of the keys, for the head that owns column `j`; nothing before row 128. -/
def score (X : Fin 1024 → EReal) (W : Fin 1024 → Fin 1024 → EReal) (K : Fin 2176 → Fin 256 → EReal) (j : Fin 1024)
    (l : Fin 2176) : EReal :=
  if 128 ≤ l.val then ∑ d : Fin 64, query X W ⟨j.val / 64 * 64 + d.val, by omega⟩ * K l ⟨j.val / 256 * 64 + d.val, by omega⟩
  else ⊥

/-- The attention's column `j` for a row of chunk `c`, over the 192 rows of keys the chunk sees. -/
def column (att : (Fin 192 → EReal) → (Fin 192 → EReal) → EReal → EReal) (X : Fin 1024 → EReal)
    (W : Fin 1024 → Fin 1024 → EReal) (K V : Fin 2176 → Fin 256 → EReal) (sk : Fin 16 → EReal) (c : Fin 32)
    (j : Fin 1024) : EReal :=
  att (fun l => score X W K j ⟨64 * c.val + l.val, by omega⟩)
    (fun l => V ⟨64 * c.val + l.val, by omega⟩ ⟨j.val / 256 * 64 + j.val % 64, by omega⟩) (sk ⟨j.val / 64, by omega⟩)

/-- The whole layer at sample `n`, token `t`, feature `j`. -/
def block (att : (Fin 192 → EReal) → (Fin 192 → EReal) → EReal → EReal)
    (X : (⟨3, ![32, 2048, 1024]⟩ : Shape).Idx → EReal) (K V : (⟨3, ![32, 2176, 256]⟩ : Shape).Idx → EReal)
    (Wq : (⟨2, ![1024, 1024]⟩ : Shape).Idx → EReal) (sk : (⟨1, ![16]⟩ : Shape).Idx → EReal)
    (Wo : (⟨2, ![1024, 1024]⟩ : Shape).Idx → EReal)
    (g b : (⟨1, ![1024]⟩ : Shape).Idx → EReal) (n : Fin 32) (t : Fin 2048) (j : Fin 1024) : EReal :=
  normed (mix (column att (fun k => X (ix3 n t k)) (fun k j => Wq (ix2 k j)) (fun l j => K (ix3 n l j))
      (fun l j => V (ix3 n l j)) (fun h => sk (ix1 h)) ⟨t.val / 64, by omega⟩)
    (fun k => X (ix3 n t k)) (fun k j => Wo (ix2 k j))) (fun j => g (ix1 j)) (fun j => b (ix1 j)) j

/-! ## A window with masked ends -/

/-- A key masked to minus infinity has no weight. -/
theorem weight_bot {n : ℕ} {s : Fin n → EReal} {l : Fin n} (h : s l = ⊥) (c : EReal) : weight s c l = 0 := by
  unfold weight
  rw [h, sub_eq_add_neg, EReal.bot_add]
  rfl

/-- Masked keys do not change the largest score. -/
theorem peak_window {m n : ℕ} {s : Fin n → EReal} (f : Fin m → Fin n) (h : ∀ l, l ∉ Set.range f → s l = ⊥) (c : EReal) :
    peak s c = peak (fun l => s (f l)) c := by
  unfold peak
  refine congrArg (fun x => max x c) (le_antisymm ?_ ?_)
  · refine (Finset.fold_max_le _).mpr ⟨by rw [bot_bits]; exact bot_le, fun l _ => ?_⟩
    by_cases hl : l ∈ Set.range f
    · obtain ⟨i, rfl⟩ := hl
      exact (Finset.le_fold_max _).mpr (Or.inr ⟨i, Finset.mem_univ _, le_rfl⟩)
    · rw [h l hl]
      exact bot_le
  · refine (Finset.fold_max_le _).mpr ⟨by rw [bot_bits]; exact bot_le, fun l _ => ?_⟩
    exact (Finset.le_fold_max _).mpr (Or.inr ⟨f l, Finset.mem_univ _, le_rfl⟩)

/-- Keys masked to minus infinity may be left out. -/
theorem late_window {m n : ℕ} {s : Fin n → EReal} (f : Fin m → Fin n) (hf : Function.Injective f)
    (h : ∀ l, l ∉ Set.range f → s l = ⊥) (v : Fin n → EReal) (c : EReal) :
    late s v c = late (fun l => s (f l)) (fun l => v (f l)) c := by
  have hw : ∀ l, weight (fun l => s (f l)) c l = weight s c (f l) := fun l => by
    unfold weight
    rw [peak_window f h]
  unfold late total
  rw [← peak_window f h]
  have e1 : ∑ l, weight (fun l => s (f l)) c l * v (f l) = ∑ l, weight s c l * v l :=
    Fintype.sum_of_injective f hf _ _ (fun l hl => by rw [weight_bot (h l hl), zero_mul]) fun l => by rw [hw]
  have e2 : ∑ l, weight (fun l => s (f l)) c l = ∑ l, weight s c l :=
    Fintype.sum_of_injective f hf _ _ (fun l hl => weight_bot (h l hl) c) hw
  rw [e1, e2]

/-! ## The two orders of normalising -/

section Orders

variable {n : ℕ} {s : Fin n → EReal} {c : EReal} (hs : ∀ l, s l = ⊥ ∨ Fin' (s l)) (hc : Fin' c)

include hs hc

/-- The largest score is finite: the sink is, and no score is +∞. -/
theorem peak_fin : Fin' (peak s c) := by
  obtain ⟨a, rfl⟩ := hc
  have h1 : peak s (a : EReal) < ⊤ := max_lt ((Finset.fold_max_lt _).mpr ⟨by rw [bot_bits]; exact bot_lt_top, fun l _ => by
    obtain e | ⟨b, e⟩ := hs l
    · rw [e]
      exact bot_lt_top
    · rw [e]
      exact EReal.coe_lt_top b⟩) (EReal.coe_lt_top a)
  have h2 : ⊥ < peak s (a : EReal) := lt_of_lt_of_le (EReal.bot_lt_coe a) (le_max_right _ _)
  exact ⟨(peak s a).toReal, (EReal.coe_toReal h1.ne h2.ne').symm⟩

/-- A weight is a real number, not negative. -/
theorem weight_real (l : Fin n) : ∃ a : ℝ, 0 ≤ a ∧ weight s c l = (a : EReal) := by
  obtain e | ⟨a, ha⟩ := hs l
  · exact ⟨0, le_rfl, weight_bot e c⟩
  · obtain ⟨b, hb⟩ := peak_fin hs hc
    exact ⟨Real.exp (a - b), (Real.exp_pos _).le, by unfold weight; rw [ha, hb]; rfl⟩

/-- All the weight is a positive real number: the sink's part is positive. -/
theorem total_real : ∃ a : ℝ, 0 < a ∧ total s c = (a : EReal) := by
  obtain ⟨a, pa, ha⟩ : ∃ a : ℝ, 0 ≤ a ∧ ∑ l, weight s c l = (a : EReal) :=
    Finset.sum_induction (weight s c) (fun x => ∃ a : ℝ, 0 ≤ a ∧ x = (a : EReal))
      (fun _ _ ⟨a, pa, ha⟩ ⟨b, pb, hb⟩ => ⟨a + b, add_nonneg pa pb, by rw [ha, hb, EReal.coe_add]⟩) ⟨0, le_rfl, rfl⟩
      fun l _ => weight_real hs hc l
  obtain ⟨b, hb⟩ := peak_fin hs hc
  obtain ⟨d, hd⟩ := id hc
  refine ⟨a + Real.exp (d - b), add_pos_of_nonneg_of_pos pa (Real.exp_pos _), ?_⟩
  unfold total
  rw [ha, hb, hd, EReal.coe_add]
  rfl

/-- The two orders agree on scores that are finite or masked, for any values. -/
theorem late_eq_early (v : Fin n → EReal) : late s v c = early s v c := by
  obtain ⟨a, pa, ha⟩ := total_real hs hc
  unfold late early
  rw [ha, Ideal.div_coe pa.ne', one_mul, sum_mul_real _ _ (one_div_pos.mpr pa).le]
  refine Finset.sum_congr (M := EReal) rfl fun l _ => ?_
  rw [Ideal.div_coe pa.ne', mul_assoc, mul_left_comm]

end Orders

/-- A score is finite or masked where its row, the weights and the keys are finite. -/
theorem score_fin {X : Fin 1024 → EReal} {W : Fin 1024 → Fin 1024 → EReal} {K : Fin 2176 → Fin 256 → EReal}
    (hX : ∀ k, Fin' (X k)) (hW : ∀ k j, Fin' (W k j)) (hK : ∀ l j, Fin' (K l j)) (j : Fin 1024) (l : Fin 2176) :
    score X W K j l = ⊥ ∨ Fin' (score X W K j l) := by
  unfold score
  split_ifs
  · exact .inr (Fin'.sum _ _ fun d => .mul (.mul (Fin'.sum _ _ fun k => (hX k).mul (hW k _))
      ⟨1 / 8, by simp [Ideal.ofBits, Ideal.ieee]; rw [← EReal.coe_mul]; norm_num⟩) (hK l _))
  · exact .inl rfl

/-- The two orders give one result on finite keys, query weights and sinks. -/
theorem block_eq {X : (⟨3, ![32, 2048, 1024]⟩ : Shape).Idx → EReal} {K : (⟨3, ![32, 2176, 256]⟩ : Shape).Idx → EReal}
    {Wq : (⟨2, ![1024, 1024]⟩ : Shape).Idx → EReal} {sk : (⟨1, ![16]⟩ : Shape).Idx → EReal}
    (hK : ∀ i, Fin' (K i)) (hW : ∀ i, Fin' (Wq i)) (hsk : ∀ i, Fin' (sk i))
    (V : (⟨3, ![32, 2176, 256]⟩ : Shape).Idx → EReal) (Wo : (⟨2, ![1024, 1024]⟩ : Shape).Idx → EReal)
    (g b : (⟨1, ![1024]⟩ : Shape).Idx → EReal) (n : Fin 32) (t : Fin 2048) (j : Fin 1024) :
    block late X K V Wq sk Wo g b n t j = block early X K V Wq sk Wo g b n t j := by
  by_cases hX : ∀ k, Fin' (X (ix3 n t k))
  case neg =>
    obtain ⟨k, hk⟩ := not_forall.mp hX
    unfold block
    rw [normed_inf (mix_inf hk _ _), normed_inf (mix_inf hk _ _)]
  unfold block
  refine congrArg (fun A => normed (mix A _ _) _ _ _) (funext fun k => ?_)
  exact late_eq_early (fun l => score_fin hX (fun _ _ => hW _) (fun _ _ => hK _) _ _) (hsk _) _

end Cert.SwaIdeal.RefValue
-- ==== Proof.SwaHeads.lean ====
/-
  The windowed attention's heads over the extended reals: each pair of heads is computed with 64 zeros beside the
  64 columns that count, and all of them lie side by side.
-/
module

public import proofs.«01_k».proof.Proof.SwaValue
public import proofs.«01_k».proof.Proof.SwaSpec

@[expose] public section

set_option maxRecDepth 16384

noncomputable section

open Idealize.ShloMosaic Idealize.ShloMosaic.TcCoe Idealize.SL.Sem

namespace Cert.SwaIdeal.RefValue

open Cert.SwaIdeal Cert.SwaIdeal.Gen
open Cert.AttIdeal.RefValue (normed mix centred)

/-- The mask's constant is −∞. -/
theorem mask_bot : Named.named (F := Ideal) (φ := .f32) κ "mask" 0xF149F2CA#32 = (⊥ : EReal) :=
  IdealRules.named_const.ideal_named_scalar _ _ _ _ rfl

/-- A masked score is a sum of products where the mask allows it and −∞ elsewhere. -/
theorem scoreV_apply (q : FVec Ideal S128x128 .bf16) (ok : IVec S128x256 1) (k : FVec Ideal S256x128 .bf16)
    (r : Fin 128) (l : Fin 256) : scoreV q ok k (ix2 r l)
    = Scalar.select (ok (ix2 r l)) (∑ e : Fin 128, q (ix2 r e) * k (ix2 l e)) ⊥ := by
  unfold scoreV
  rw [mask_bot]
  pointwise

/-- A head's column, normalised after the values are summed. -/
theorem headV_apply (s : FVec Ideal S128x256 .f32) (sink : FVec Ideal S1x1 .f32) (v : FVec Ideal S256x128 .bf16)
    (r j : Fin 128) : headV s sink v (ix2 r j)
    = late (fun l => s (ix2 r l)) (fun l => v (ix2 l j)) (sink (ix2 0 0)) := by
  unfold headV shareV weightV peakV
  pointwise
  rfl

/-- A window's entry with the zeros after it. -/
theorem before_apply (x : FVec Ideal S384x256 .bf16) (g : Fin 4) (u : Fin 2) (l : Fin 256) (e : Fin 128) :
    before x g u (ix2 l e)
    = if h : e.val < 64 then x (ix2 ⟨128 * u.val + l.val, by omega⟩ ⟨64 * g.val + e.val, by omega⟩) else 0 := by
  unfold before k0_pay13
  pointwise

/-- A window's entry with the zeros in front. -/
theorem behind_apply (x : FVec Ideal S384x256 .bf16) (g : Fin 4) (u : Fin 2) (l : Fin 256) (e : Fin 128) :
    behind x g u (ix2 l e)
    = if h : e.val < 64 then 0 else x (ix2 ⟨128 * u.val + l.val, by omega⟩ ⟨64 * g.val + (e.val - 64), by omega⟩) := by
  unfold behind k0_pay13
  pointwise

variable (q : FVec Ideal S256x1024 .bf16) (k v : FVec Ideal S384x256 .bf16) (ok : Fin 2 → IVec S128x256 1)
  (sk : Fin 16 → FVec Ideal S1x1 .f32)

/-- Equal halves and rows give equal entries. -/
theorem half_move (f : Fin 2 → Fin 8 → FVec Ideal S128x128 .f32) (p : Fin 8) (u u' : Fin 2) (r r' j : Fin 128) (e : u = u')
    (e' : r = r') : f u p (ix2 r j) = f u' p (ix2 r' j) := by
  subst e e'
  rfl

/-- Equal pairs and columns give equal entries. -/
theorem cols_move (f : Fin 8 → FVec Ideal S256x128 .f32) (p p' : Fin 8) (r : Fin 256) (j j' : Fin 128) (e : p = p')
    (e' : j = j') : f p (ix2 r j) = f p' (ix2 r j') := by
  subst e e'
  rfl

/-- A pair's row lies in the half that holds it. -/
theorem colsV_apply (p : Fin 8) (r : Fin 256) (j : Fin 128) : colsV q k v ok sk p (ix2 r j)
    = pairV q k v ok sk ⟨r.val / 128, by omega⟩ p (ix2 ⟨r.val % 128, by omega⟩ j) := by
  unfold colsV
  generalize pairV q k v ok sk = f
  pointwise
  split_ifs
  all_goals exact half_move f p _ _ _ _ j (Fin.ext (by simp; omega)) (Fin.ext (by dsimp only; omega))

/-- A column lies in the pair that holds it. -/
theorem attV_apply (r : Fin 256) (j : Fin 1024) : attV q k v ok sk (ix2 r j)
    = colsV q k v ok sk ⟨j.val / 128, by omega⟩ (ix2 r ⟨j.val % 128, by omega⟩) := by
  unfold attV
  generalize colsV q k v ok sk = f
  pointwise
  split_ifs
  all_goals exact cols_move f _ _ r _ _ (Fin.ext (by simp; omega)) (Fin.ext (by dsimp only; omega))

/-- A pair's queries on half `u` of the rows. -/
theorem slice_apply (u : Fin 2) (p : Fin 8) (r e : Fin 128) :
    extractStridedSlice S128x128 ![128 * u.val, 128 * p.val] q (slices_pair u p) (ix2 r e)
    = q (ix2 ⟨128 * u.val + r.val, by omega⟩ ⟨128 * p.val + e.val, by omega⟩) := by
  pointwise

/-- A sum against 64 entries with zeros after them is the sum over the 64. -/
theorem sum_before (f : Fin 128 → EReal) (g : Fin 64 → EReal) :
    (∑ e : Fin 128, f e * (if h : e.val < 64 then g ⟨e.val, h⟩ else 0)) = ∑ d : Fin 64, f ⟨d.val, by omega⟩ * g d :=
  (Fintype.sum_of_injective (fun d : Fin 64 => (⟨d.val, by omega⟩ : Fin 128)) (fun a b h => Fin.ext (Fin.mk.inj h)) _ _
    (fun e he => by
      rw [dif_neg fun h => he ⟨⟨e.val, h⟩, rfl⟩, mul_zero])
    fun d => by rw [dif_pos d.isLt]).symm

/-- A sum against 64 entries with zeros in front is the sum over the 64. -/
theorem sum_behind (f : Fin 128 → EReal) (g : Fin 64 → EReal) :
    (∑ e : Fin 128, f e * (if h : e.val < 64 then 0 else g ⟨e.val - 64, by omega⟩))
    = ∑ d : Fin 64, f ⟨64 + d.val, by omega⟩ * g d :=
  (Fintype.sum_of_injective (fun d : Fin 64 => (⟨64 + d.val, by omega⟩ : Fin 128))
    (fun a b h => Fin.ext (by have := Fin.mk.inj h; omega)) _ _
    (fun e he => by
      by_cases h : e.val < 64
      · rw [dif_pos h, mul_zero]
      · exact (he ⟨⟨e.val - 64, by omega⟩, Fin.ext (by dsimp only; omega)⟩).elim)
    fun d => by
      rw [dif_neg (by dsimp only; omega)]
      exact congrArg (fun x => f _ * g x) (Fin.ext (by dsimp only; omega))).symm

/-- Values that are all zero leave a zero. -/
theorem late_zero {n : ℕ} (s : Fin n → EReal) (c : EReal) : late s (fun _ => 0) c = 0 := by
  unfold late
  simp

/-- A head's column on half `u` of the rows, over the window of 256 keys. -/
def headAt (u : Fin 2) (r : Fin 128) (j : Fin 1024) : EReal :=
  late (fun l : Fin 256 => Scalar.select (ok u (ix2 r l))
      (∑ d : Fin 64, q (ix2 ⟨128 * u.val + r.val, by omega⟩ ⟨j.val / 64 * 64 + d.val, by omega⟩)
        * k (ix2 ⟨128 * u.val + l.val, by omega⟩ ⟨j.val / 256 * 64 + d.val, by omega⟩)) ⊥)
    (fun l => v (ix2 ⟨128 * u.val + l.val, by omega⟩ ⟨j.val / 256 * 64 + j.val % 64, by omega⟩))
    (sk ⟨j.val / 64, by omega⟩ (ix2 0 0))

/-- Equal scores, values and sinks give equal columns. -/
theorem late_congr {n : ℕ} {s s' v v' : Fin n → EReal} {c c' : EReal} (hs : ∀ l, s l = s' l) (hv : ∀ l, v l = v' l)
    (hc : c = c') : late s v c = late s' v' c' := by
  obtain rfl := funext hs
  obtain rfl := funext hv
  subst hc
  rfl

/-- Equal coordinates give equal indices. -/
theorem ix2_congr {m n : ℕ} {a a' : Fin m} {b b' : Fin n} (ha : a.val = a'.val) (hb : b.val = b'.val) : ix2 a b = ix2 a' b' := by
  obtain rfl := Fin.ext ha
  obtain rfl := Fin.ext hb
  rfl

/-- A pair's column is its head's: the other head of the pair adds zero. -/
theorem pairV_apply (u : Fin 2) (p : Fin 8) (r j : Fin 128) : pairV q k v ok sk u p (ix2 r j)
    = headAt q k v ok sk u r ⟨128 * p.val + j.val, by omega⟩ := by
  unfold pairV
  generalize hq : extractStridedSlice S128x128 ![128 * u.val, 128 * p.val] q (slices_pair u p) = qp
  have hq' : ∀ r e, qp (ix2 r e) = q (ix2 ⟨128 * u.val + r.val, by omega⟩ ⟨128 * p.val + e.val, by omega⟩) := fun r e => by
    rw [← hq, slice_apply]
  show headV _ _ _ (ix2 r j) + headV _ _ _ (ix2 r j) = _
  rw [headV_apply, headV_apply]
  simp only [scoreV_apply, before_apply, behind_apply, hq']
  by_cases h : j.val < 64
  · simp only [dif_pos h, late_zero, add_zero]
    unfold headAt
    refine late_congr (fun l => congrArg (fun x => Scalar.select _ x _) ?_) (fun l => congrArg v (ix2_congr rfl ?_)) ?_
    · refine (sum_before _ fun d => k (ix2 ⟨128 * u.val + l.val, by omega⟩ ⟨64 * (p.val / 2) + d.val, by omega⟩)).trans
        (Finset.sum_congr rfl fun d _ => congrArg₂ (fun a b => q a * k b) (ix2_congr rfl ?_) (ix2_congr rfl ?_))
      · dsimp only; omega
      · dsimp only; omega
    · dsimp only; omega
    · exact congrArg (fun x => sk x (ix2 0 0)) (Fin.ext (by dsimp only; omega))
  · simp only [dif_neg h, late_zero, zero_add]
    unfold headAt
    refine late_congr (fun l => congrArg (fun x => Scalar.select _ x _) ?_) (fun l => congrArg v (ix2_congr rfl ?_)) ?_
    · refine (sum_behind _ fun d => k (ix2 ⟨128 * u.val + l.val, by omega⟩ ⟨64 * (p.val / 2) + d.val, by omega⟩)).trans
        (Finset.sum_congr rfl fun d _ => congrArg₂ (fun a b => q a * k b) (ix2_congr rfl ?_) (ix2_congr rfl ?_))
      · dsimp only; omega
      · dsimp only; omega
    · dsimp only; omega
    · exact congrArg (fun x => sk x (ix2 0 0)) (Fin.ext (by dsimp only; omega))

/-- A column of all the heads is its head's. -/
theorem heads_apply (r : Fin 256) (j : Fin 1024) : attV q k v ok sk (ix2 r j)
    = headAt q k v ok sk ⟨r.val / 128, by omega⟩ ⟨r.val % 128, by omega⟩ j := by
  rw [attV_apply, colsV_apply, pairV_apply]
  exact congrArg (headAt q k v ok sk _ _) (Fin.ext (by dsimp only; omega))

end Cert.SwaIdeal.RefValue
-- ==== Proof.SwaWindow.lean ====
/-
  What the windowed attention's body reads: its mask, its queries, its window of keys and values, its sinks, and what it
  does after the attention.
-/
module

public import proofs.«01_k».proof.Proof.SwaValue
public import proofs.«01_k».proof.Proof.SwaSpec

@[expose] public section

set_option maxRecDepth 16384

noncomputable section

open Idealize.ShloMosaic Idealize.ShloMosaic.TcCoe Idealize.SL.Sem

namespace Cert.SwaIdeal.RefValue

open Cert.SwaIdeal Cert.SwaIdeal.Gen
open Cert.AttIdeal.RefValue (normed mix centred)

/-- Which of the 256 keys lie in the 192 that a row's chunk sees. -/
theorem band_apply (r : Fin 128) (l : Fin 256) :
    k0_pay10 (iota .tc S128x256 32 [1] iota_S128x256_d1_w32) k0_pay6 k0_pay7 k0_pay8 k0_pay9 (ix2 r l)
    = BitVec.ofBool (decide (r.val / 64 * 64 ≤ l.val ∧ l.val < r.val / 64 * 64 + 192)) := by
  unfold k0_pay10 k0_pay6 k0_pay7 k0_pay8 k0_pay9
  pointwise
  revert r l
  decide +kernel

/-- The comparisons of a key's position with the window and with the sequence's end. -/
theorem pos_apply : ∀ (i : Fin 8) (l : Fin 256),
    IntOp.cmpi .slt (IntOp.subi (IntOp.addi (Scalar.addi (Scalar.muli (BitVec.ofNat 32 i.val) 256#32) 0#32)
      (BitVec.ofNat 32 l.val)) 128#32) 2048#32 = 1#1
    ∧ IntOp.cmpi .sge (IntOp.addi (Scalar.addi (Scalar.muli (BitVec.ofNat 32 i.val) 256#32) 0#32)
      (BitVec.ofNat 32 l.val)) 128#32 = BitVec.ofBool (decide (128 ≤ 256 * i.val + l.val))
    ∧ IntOp.cmpi .slt (IntOp.subi (IntOp.addi (Scalar.addi (Scalar.muli (BitVec.ofNat 32 i.val) 256#32) 128#32)
      (BitVec.ofNat 32 l.val)) 128#32) 2048#32 = 1#1
    ∧ IntOp.cmpi .sge (IntOp.addi (Scalar.addi (Scalar.muli (BitVec.ofNat 32 i.val) 256#32) 128#32)
      (BitVec.ofNat 32 l.val)) 128#32 = BitVec.ofBool (decide (128 ≤ 256 * i.val + 128 + l.val)) := by
  decide +kernel

/-- The conjunction of two tests, with a true one between them. -/
theorem and_bits (P Q : Prop) [Decidable P] [Decidable Q] :
    IntOp.andi (IntOp.andi (BitVec.ofBool (decide P)) 1#1) (BitVec.ofBool (decide Q))
    = BitVec.ofBool (decide (P ∧ Q)) := by
  by_cases hP : P <;> by_cases hQ : Q <;> simp [hP, hQ] <;> rfl

/-- The mask: the key is in the chunk's 192 and not before the sequence. -/
theorem okV_apply (i : Fin 8) (u : Fin 2) (r : Fin 128) (l : Fin 256) :
    okV (Scalar.muli (BitVec.ofNat 32 i.val) 256#32) u (ix2 r l)
    = BitVec.ofBool (decide ((r.val / 64 * 64 ≤ l.val ∧ l.val < r.val / 64 * 64 + 192)
      ∧ 128 ≤ 256 * i.val + 128 * u.val + l.val)) := by
  have hb := band_apply r l
  match u with
  | 0 =>
    unfold okV k0_pay11
    dsimp only
    generalize k0_pay10 (iota .tc S128x256 32 [1] iota_S128x256_d1_w32) k0_pay6 k0_pay7 k0_pay8 k0_pay9 = w at hb
    pointwise
    rw [hb, (pos_apply i l).1, (pos_apply i l).2.1]
    exact and_bits _ _
  | 1 =>
    unfold okV k0_pay12
    dsimp only
    generalize k0_pay10 (iota .tc S128x256 32 [1] iota_S128x256_d1_w32) k0_pay6 k0_pay7 k0_pay8 k0_pay9 = w at hb
    pointwise
    rw [hb, (pos_apply i l).2.2.1, (pos_apply i l).2.2.2]
    exact and_bits _ _

variable (x0 : Vec Ideal S1x256x1024 .f32) (x1 : Vec Ideal S1x2176x256 .f32) (x3 x5 : Vec Ideal S1024x1024 .bf16)
  (x4 : Vec Ideal S16x1 .f32) (x6 x7 : Vec Ideal S1x1024 .f32)

/-- A scaled query. -/
theorem query_apply (r : Fin 256) (j : Fin 1024) : k0_pay3 x0 x3 (ix2 r j)
    = query (fun k => x0 (ix3 0 r k)) (fun k j => x3 (ix2 k j)) j := by
  unfold k0_pay3 k0_pay2
  pointwise
  rfl

/-- Equal coordinates give equal indices. -/
theorem ix3_congr {m n p : ℕ} {a a' : Fin m} {b b' : Fin n} {c c' : Fin p} (ha : a.val = a'.val) (hb : b.val = b'.val)
    (hc : c.val = c'.val) : ix3 a b c = ix3 a' b' c' := by
  obtain rfl := Fin.ext ha
  obtain rfl := Fin.ext hb
  obtain rfl := Fin.ext hc
  rfl

/-- The block's 384 keys begin at 256 times its number. -/
theorem window_apply (i : grid0.Coords) (l : Fin 384) (j : Fin 256) :
    k0_pay4 (View.ld x1 (Rect.unit (s := S1x2176x256) (k0_off1 i) S1x384x256.size (k0_off1_inb i))) (ix2 l j)
    = x1 (ix3 0 ⟨256 * (i 1).val + l.val, by have h : (i 1).val < 8 := (i 1).isLt; omega⟩ j) := by
  have e := k0_off1_eq i
  unfold k0_pay4
  pointwise
  have e0 : k0_off1 i 0 = 0 := congrFun e 0
  have e1 : k0_off1 i 1 = 256 * (i 1).val := congrFun e 1
  have e2 : k0_off1 i 2 = 0 := congrFun e 2
  exact congrArg x1 (ix3_congr e0 (by dsimp only; rw [e1]) (by dsimp only; rw [e2, zero_add]))

/-- A head's sink. -/
theorem sink_apply (h : Fin 16) : sinkV x4 h (ix2 0 0) = x4 (ix2 h 0) := by
  unfold sinkV
  pointwise

/-- The output product, the residual and the norm. -/
theorem tail_apply (v1 v941 : FVec Ideal S256x1024 .f32) (r : Fin 256) (j : Fin 1024) :
    k0_pay1 (k0_pay233 x7) (k0_pay234 v1 v941 x5) (k0_pay235 x6) (ix3 (0 : Fin 1) r j)
    = normed (mix (fun k => v941 (ix2 r k)) (fun k => v1 (ix2 r k)) (fun k j => x5 (ix2 k j)))
      (fun j => x6 (ix2 0 j)) (fun j => x7 (ix2 0 j)) j := by
  unfold k0_pay1 k0_pay233 k0_pay234 k0_pay235
  pointwise
  rfl

/-- The block's own rows. -/
theorem resid_apply (r : Fin 256) (k : Fin 1024) : k0_pay2 x0 (ix2 r k) = x0 (ix3 0 r k) := by
  unfold k0_pay2
  pointwise

end Cert.SwaIdeal.RefValue
-- ==== Proof.SwaResult.lean ====
/-
  The windowed attention's result array after the run, over the extended reals.
-/
module

public import proofs.«01_k».proof.Proof.SwaHeads
public import proofs.«01_k».proof.Proof.SwaWindow

@[expose] public section

set_option maxRecDepth 16384

noncomputable section

open Idealize.ShloMosaic Idealize.ShloMosaic.TcCoe Idealize.SL.Sem

namespace Cert.SwaIdeal.RefValue

open Cert.SwaIdeal Cert.SwaIdeal.Gen
open Cert.AttIdeal.RefValue (normed mix centred)

section Body

variable (i : grid0.Coords) (x0 : Vec Ideal S1x256x1024 .f32) (x1 x2 : Vec Ideal S1x2176x256 .f32)
  (x3 x5 : Vec Ideal S1024x1024 .bf16) (x4 : Vec Ideal S16x1 .f32) (x6 x7 : Vec Ideal S1x1024 .f32)

/-- A choice by a true bit. -/
theorem select_true (x y : EReal) : Scalar.select (BitVec.ofBool true) x y = x := rfl

/-- A row's chunk is one of the 32. -/
theorem chunk_lt (r : Fin 256) : (256 * (i 1).val + r.val) / 64 < 32 := by
  have h : (i 1).val < 8 := (i 1).isLt
  omega

/-- A head's column over the window of 256 keys is the chunk's over its 192. -/
theorem heads_eq (r : Fin 256) (j : Fin 1024) :
    headAt (k0_pay3 x0 x3)
      (k0_pay4 (View.ld x1 (Rect.unit (s := S1x2176x256) (k0_off1 i) S1x384x256.size (k0_off1_inb i))))
      (k0_pay5 (View.ld x2 (Rect.unit (s := S1x2176x256) (k0_off1 i) S1x384x256.size (k0_off1_inb i))))
      (okV (Scalar.muli (BitVec.ofNat 32 (i 1).val) 256#32)) (sinkV x4) ⟨r.val / 128, by omega⟩ ⟨r.val % 128, by omega⟩ j
    = column late (fun k => x0 (ix3 0 r k)) (fun k j => x3 (ix2 k j)) (fun l j => x1 (ix3 0 l j))
      (fun l j => x2 (ix3 0 l j)) (fun h => x4 (ix2 h 0)) ⟨(256 * (i 1).val + r.val) / 64, chunk_lt i r⟩ j := by
  have hi : (i 1).val < 8 := (i 1).isLt
  unfold headAt
  have ho : ∀ l : Fin 256, okV (Scalar.muli (BitVec.ofNat 32 (i 1).val) 256#32) ⟨r.val / 128, by omega⟩
      (ix2 ⟨r.val % 128, by omega⟩ l) = _ := fun l => okV_apply ⟨(i 1).val, hi⟩ ⟨r.val / 128, by omega⟩ ⟨r.val % 128, by omega⟩ l
  simp only [ho, query_apply, sink_apply]
  rw [late_window (fun l : Fin 192 => (⟨r.val % 128 / 64 * 64 + l.val, by omega⟩ : Fin 256))
    (fun a b h => Fin.ext (by have := Fin.mk.inj h; omega)) (fun l hl => by
      rw [decide_eq_false]
      · rfl
      · rintro ⟨⟨h1, h2⟩, h3⟩
        exact hl ⟨⟨l.val - r.val % 128 / 64 * 64, by omega⟩, Fin.ext (by dsimp only; omega)⟩)]
  unfold column
  refine late_congr (fun l => ?_) (fun l => ?_) rfl
  · unfold score
    dsimp only
    split_ifs with h
    · rw [decide_eq_true (by omega)]
      refine (select_true _ _).trans (Finset.sum_congr (M := EReal) rfl fun d _ => congrArg₂ (fun a b : EReal => a * b) ?_ ?_)
      · exact congrArg (fun t : Fin 256 => query (fun k => x0 (ix3 0 t k)) (fun k j => x3 (ix2 k j)) _)
          (Fin.ext (by dsimp only; omega))
      · exact (window_apply x1 i _ _).trans (congrArg x1 (ix3_congr rfl (by dsimp only; omega) rfl))
    · rw [decide_eq_false (by omega)]
      rfl
  · exact (window_apply x2 i _ _).trans (congrArg x2 (ix3_congr rfl (by dsimp only; omega) rfl))

/-- The body's result block at row `r`, feature `j`. -/
theorem body_apply (r : Fin 256) (j : Fin 1024) : bodyV i x0 x1 x2 x3 x4 x5 x6 x7 (ix3 (0 : Fin 1) r j)
    = normed (mix (column late (fun k => x0 (ix3 0 r k)) (fun k j => x3 (ix2 k j)) (fun l j => x1 (ix3 0 l j))
        (fun l j => x2 (ix3 0 l j)) (fun h => x4 (ix2 h 0)) ⟨(256 * (i 1).val + r.val) / 64, chunk_lt i r⟩)
      (fun k => x0 (ix3 0 r k)) (fun k j => x5 (ix2 k j))) (fun j => x6 (ix2 0 j)) (fun j => x7 (ix2 0 j)) j := by
  unfold bodyV
  rw [tail_apply]
  simp only [heads_apply, heads_eq, resid_apply]

end Body

variable (m : (ℓ : Loc nD τ sig) → Buf (Elt Ideal) ℓ)

/-- Which block each window is on, by the grid's coordinates. -/
theorem idx : ∀ t : Fin grid0.N, win0_0.index t = ![(grid0.coords t 0).val, (grid0.coords t 1).val, 0]
    ∧ win0_1.index t = ![(grid0.coords t 0).val, 0, 0]
    ∧ win0_2.index t = ![(grid0.coords t 0).val, 0, 0]
    ∧ win0_3.index t = ![0, 0] ∧ win0_4.index t = ![0, 0] ∧ win0_5.index t = ![0, 0] ∧ win0_6.index t = ![0, 0]
    ∧ win0_7.index t = ![0, 0]
    ∧ win0_8.index t = ![(grid0.coords t 0).val, (grid0.coords t 1).val, 0] := by decide +kernel

/-- Equal operands give equal rows. -/
theorem row_congr {att : (Fin 192 → EReal) → (Fin 192 → EReal) → EReal → EReal} {X X' : Fin 1024 → EReal}
    {W W' Wo Wo' : Fin 1024 → Fin 1024 → EReal} {K K' V V' : Fin 2176 → Fin 256 → EReal} {sk sk' : Fin 16 → EReal}
    {n n' : Fin 32} {g g' b b' : Fin 1024 → EReal}
    {j j' : Fin 1024} (hX : X = X') (hW : W = W') (hK : K = K') (hV : V = V') (hs : sk = sk') (hn : n.val = n'.val)
    (hWo : Wo = Wo') (hg : g = g') (hb : b = b') (hj : j = j') :
    normed (mix (column att X W K V sk n) X Wo) g b j = normed (mix (column att X' W' K' V' sk' n') X' Wo') g' b' j' := by
  obtain rfl := Fin.ext hn
  subst hX hW hK hV hs hWo hg hb hj
  rfl

/-- The result array after the run. -/
theorem final8 (c : Dev nD) : (dats m 0 c).arrAt 8 (cfgs 0).N
    = fun i => block late (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4)) (m ((c.tc : Thread nD τ).loc main_arg5))
      (m ((c.tc : Thread nD τ).loc main_arg6)) (m ((c.tc : Thread nD τ).loc main_arg7)) (i 0) (i 1) (i 2) := by
  refine (dats m 0 c).arrAt_eq_of_covers 8 _ (by decide +kernel) fun t hf y => ?_
  obtain ⟨e0, e1, e2, e3, e4, e5, e6, e7, e8⟩ := idx t
  blk_simp
  rw [after0_8]
  obtain ⟨r, j, rfl⟩ : ∃ (r : Fin 256) (j : Fin 1024), y = ix3 (0 : Fin 1) r j := ⟨y 1, y 2, by
    funext a
    refine Fin.ext ?_
    match a with
    | ⟨0, _⟩ => have h : (y 0).val < 1 := (y 0).isLt
                show (y 0).val = 0
                omega
    | ⟨1, _⟩ => rfl
    | ⟨2, _⟩ => rfl⟩
  refine (congrFun (out_eq c (grid0.coords t) (ms0_0 t) (hs0_0 t) (ms0_1 t) (hs0_1 t) (ms0_2 t) (hs0_2 t) (ms0_3 t)
    (hs0_3 t) (ms0_4 t) (hs0_4 t) (ms0_5 t) (hs0_5 t) (ms0_6 t) (hs0_6 t) (ms0_7 t) (hs0_7 t) (ms0_8 t) (hs0_8 t)
    (iblk m c 0 t) (iblk m c 1 t) (iblk m c 2 t) (iblk m c 3 t) (iblk m c 4 t) (iblk m c 5 t) (iblk m c 6 t)
    (iblk m c 7 t)) _).trans ?_
  rw [body_apply]
  refine row_congr ?_ ?_ ?_ ?_ ?_ ?_ ?_ ?_ ?_ ?_
  · funext k
    blk_ext [iblk, V, e0, e8]
  · funext k j
    blk_simp [iblk, e3]
    entry_read
    pointwise
    blk_ext [e3]
  · funext l j
    blk_ext [iblk, V, e1, e8]
  · funext l j
    blk_ext [iblk, V, e2, e8]
  · funext h
    blk_simp [iblk, e4]
    entry_read
    pointwise
    blk_ext [e4]
  · blk_simp [e8]
    dsimp only
    omega
  · funext k j
    blk_simp [iblk, e5]
    entry_read
    pointwise
    blk_ext [e5]
  · funext j
    blk_simp [iblk, e6]
    entry_read
    pointwise
    blk_ext [e6]
  · funext j
    blk_simp [iblk, e7]
    entry_read
    pointwise
    blk_ext [e7]
  · refine Fin.ext ?_
    blk_simp [e8]
    try omega

end Cert.SwaIdeal.RefValue
-- ==== Proof.SwaRefValue.lean ====
/-
  The windowed attention: what the reference computes, index by index over the extended reals.
-/
module

public import proofs.«01_k».proof.Proof.SwaSpec
public import proofs.«01_k».proof.Proof.Gen.SwaRefIdeal.Read
public import Idealize.ShloMosaic.Lib.Pointwise
public import Idealize.ShloMosaic.Lib.ValueIdxRank6

@[expose] public section

set_option maxRecDepth 16384

noncomputable section

open Idealize.ShloMosaic Idealize.ShloMosaic.TcCoe Idealize.SL.Sem

namespace Cert.SwaIdeal.RefValue

open Cert.SwaRefIdeal Cert.SwaRefIdeal.Gen Cert.SwaRefIdeal.Read
open Cert.AttIdeal.RefValue (normed mix centred)

variable (X : Vec Ideal S32x2048x1024 .f32) (K V : Vec Ideal S32x2176x256 .f32) (Wq Wo : Vec Ideal S1024x1024 .f32)
  (sk : Vec Ideal S16 .f32) (g b : Vec Ideal S1024 .f32)

/-- Equal coordinates give equal entries. -/
theorem at3 {m n p : ℕ} {a a' : Fin m} {b b' : Fin n} {c c' : Fin p} (ha : a.val = a'.val) (hb : b.val = b'.val)
    (hc : c.val = c'.val) : ix3 a b c = ix3 a' b' c' := by
  obtain rfl := Fin.ext ha
  obtain rfl := Fin.ext hb
  obtain rfl := Fin.ext hc
  rfl

/-- The keys, by groups of heads. -/
theorem grouped (n : Fin 32) (l : Fin 2176) (h : Fin 4) (d : Fin 64) :
    val_main_v0 (F := Ideal) K (ix4 n l h d) = K (ix3 n l ⟨h.val * 64 + d.val, by omega⟩) := by
  unfold val_main_v0
  refine shapeCast_apply _ _ _ _ ?_
  rw [Shape.rowMajor_val_three, Shape.rowMajor_val_four]
  show (n.val * 2176 + l.val) * 256 + (h.val * 64 + d.val) = ((n.val * 2176 + l.val) * 4 + h.val) * 64 + d.val
  omega

/-- Chunk `a` of the keys. -/
theorem chunk (n : Fin 32) (a : Fin 34) (l : Fin 64) (h : Fin 4) (d : Fin 64) :
    val_main_v8 (F := Ideal) K (ix5 n a l h d)
    = K (ix3 n ⟨64 * a.val + l.val, by omega⟩ ⟨h.val * 64 + d.val, by omega⟩) := by
  rw [← grouped K n ⟨64 * a.val + l.val, by omega⟩ h d]
  unfold val_main_v8
  refine shapeCast_apply _ _ _ _ ?_
  rw [Shape.rowMajor_val_four, Shape.rowMajor_val_five]
  show ((n.val * 2176 + (64 * a.val + l.val)) * 4 + h.val) * 64 + d.val
    = (((n.val * 34 + a.val) * 64 + l.val) * 4 + h.val) * 64 + d.val
  omega

/-- The 192 rows of keys that chunk `c` sees. -/
theorem keys (n c : Fin 32) (l : Fin 192) (h : Fin 4) (d : Fin 64) :
    val_main_v12 (F := Ideal) K (ix5 n c l h d)
    = K (ix3 n ⟨64 * c.val + l.val, by omega⟩ ⟨h.val * 64 + d.val, by omega⟩) := by
  have hc := chunk K n
  unfold val_main_v12 val_main_v9 val_main_v10 val_main_v11
  generalize val_main_v8 (F := Ideal) K = w at hc
  pointwise
  split_ifs <;> rw [hc] <;> exact congrArg K (at3 rfl (by first | rfl | (dsimp only; omega)) rfl)

/-- The rows of values that chunk `c` sees. -/
theorem values (n c : Fin 32) (l : Fin 192) (h : Fin 4) (d : Fin 64) :
    val_main_v17 (F := Ideal) V (ix5 n c l h d)
    = V (ix3 n ⟨64 * c.val + l.val, by omega⟩ ⟨h.val * 64 + d.val, by omega⟩) := keys V n c l h d

/-- Which keys a chunk may see. -/
theorem valid (c : Fin 32) (l : Fin 192) :
    val_main_v33 (F := Ideal) (ix2 c l) = BitVec.ofBool (decide (128 ≤ 64 * c.val + l.val)) := by
  unfold val_main_v33 val_main_call0_v0 val_main_v32 val_main_v31 val_main_v30 val_main_v29 val_main_v28 val_main_v27
    val_main_v26 val_main_v25 val_main_v24 val_main_v23 val_main_v22 val_main_v21 val_main_v20 val_main_v19 val_main_v18
    val_main_c val_main_c_1 val_main_c_2 val_main_c_3 val_main_c_4
  pointwise
  revert c l
  decide +kernel

/-- The group of heads that owns column `j`. -/
def group (j : Fin 1024) : Fin 4 := ⟨j.val / 256, by omega⟩

/-- The head of its group that owns column `j`. -/
def member (j : Fin 1024) : Fin 4 := ⟨j.val / 64 % 4, by omega⟩

/-- The row's scaled query. -/
theorem queries (n c : Fin 32) (q : Fin 64) (j : Fin 1024) (d : Fin 64) :
    val_main_v7 (F := Ideal) X Wq (ix6 n c q (group j) (member j) d)
    = query (fun k => X (ix3 n ⟨64 * c.val + q.val, by omega⟩ k)) (fun k j => Wq (ix2 k j))
      ⟨j.val / 64 * 64 + d.val, by omega⟩ := by
  have e : val_main_v5 (F := Ideal) X Wq (ix6 n c q (group j) (member j) d) = val_main_v4 (F := Ideal) X Wq
      (ix3 n ⟨64 * c.val + q.val, by omega⟩ ⟨j.val / 64 * 64 + d.val, by omega⟩) := by
    unfold val_main_v5
    refine shapeCast_apply _ _ _ _ ?_
    rw [Shape.rowMajor_val_six, Shape.rowMajor_val_three]
    show (n.val * 2048 + (64 * c.val + q.val)) * 1024 + (j.val / 64 * 64 + d.val)
      = ((((n.val * 32 + c.val) * 64 + q.val) * 4 + j.val / 256) * 4 + j.val / 64 % 4) * 64 + d.val
    omega
  have e4 : val_main_v4 (F := Ideal) X Wq (ix3 n ⟨64 * c.val + q.val, by omega⟩ ⟨j.val / 64 * 64 + d.val, by omega⟩)
      = ∑ k : Fin 1024, X (ix3 n ⟨64 * c.val + q.val, by omega⟩ k) * Wq (ix2 k ⟨j.val / 64 * 64 + d.val, by omega⟩) := by
    unfold val_main_v4
    pointwise
  rw [val_main_v7_apply, e, e4, val_main_v6_apply]
  rfl

/-- The masked scores of a row's window. -/
theorem scores (n c : Fin 32) (q : Fin 64) (j : Fin 1024) (l : Fin 192) :
    val_main_v37 (F := Ideal) X K Wq (ix6 n c (group j) (member j) q l)
    = score (fun k => X (ix3 n ⟨64 * c.val + q.val, by omega⟩ k)) (fun k j => Wq (ix2 k j)) (fun l j => K (ix3 n l j))
      j ⟨64 * c.val + l.val, by omega⟩ := by
  have hl : ∀ d : Fin 64, lidx_main_v34 (idx_main_v35 (ix6 n c (group j) (member j) q l)) d = ix5 n c l (group j) d :=
    fun d => funext fun a => match a with
    | ⟨0, _⟩ => rfl | ⟨1, _⟩ => rfl | ⟨2, _⟩ => rfl | ⟨3, _⟩ => rfl | ⟨4, _⟩ => rfl
  have hr : ∀ d : Fin 64, ridx_main_v34 (idx_main_v35 (ix6 n c (group j) (member j) q l)) d
      = ix6 n c q (group j) (member j) d := fun d => funext fun a => match a with
    | ⟨0, _⟩ => rfl | ⟨1, _⟩ => rfl | ⟨2, _⟩ => rfl | ⟨3, _⟩ => rfl | ⟨4, _⟩ => rfl | ⟨5, _⟩ => rfl
  have hm : idx_main_v36 (idx_main_call1_v1 (ix6 n c (group j) (member j) q l)) = ix2 c l := funext fun a => match a with
    | ⟨0, _⟩ => rfl | ⟨1, _⟩ => rfl
  have e : val_main_v35 (F := Ideal) X K Wq (ix6 n c (group j) (member j) q l) = ∑ d : Fin 64,
      query (fun k => X (ix3 n ⟨64 * c.val + q.val, by omega⟩ k)) (fun k j => Wq (ix2 k j))
        ⟨j.val / 64 * 64 + d.val, by omega⟩
      * K (ix3 n ⟨64 * c.val + l.val, by omega⟩ ⟨j.val / 256 * 64 + d.val, by omega⟩) := by
    rw [val_main_v35_apply, val_main_v34_apply]
    refine Finset.sum_congr (M := EReal) rfl fun d _ => ?_
    rw [hl, hr, queries, keys, mul_comm]
    rfl
  rw [val_main_v37_apply, e, val_main_call1_v1_apply, val_main_v36_apply, hm, valid, val_main_call1_v2_apply,
    val_main_call1_v0_apply, val_main_cst_5_apply]
  unfold score
  by_cases h : 128 ≤ 64 * c.val + l.val
  · rw [if_pos h, decide_eq_true h]
    rfl
  · rw [if_neg h, decide_eq_false h]
    exact Cert.AttIdeal.RefValue.bot_bits

/-- A maximum along the last axis, from minus infinity. -/
theorem reduce_max (w : Vec Ideal S32x32x4x4x64x192 .f32) (n c : Fin 32) (h g : Fin 4) (q : Fin 64) :
    Host.reduce FloatOps.maximumf w (constant S_ .f32 0xFF800000#32 : FVec Ideal S_ .f32)
      reducesTo_S32x32x4x4x64x192_S32x32x4x4x64_d5 h_S_ (ix5 n c h g q)
    = Finset.fold max (Ideal.ofBits .f32 4286578688#32) (fun l : Fin 192 => w (ix6 n c h g q l)) Finset.univ := by
  have hd : S32x32x4x4x64x192.Reduces [5] S32x32x4x4x64 := by decide
  have e : w ∘ hd.lift (ix5 n c h g q) = fun l : Fin 192 => w (ix6 n c h g q l) := funext fun l =>
    congrArg w (funext fun a => Fin.ext (match a with
      | ⟨0, _⟩ => rfl | ⟨1, _⟩ => rfl | ⟨2, _⟩ => rfl | ⟨3, _⟩ => rfl | ⟨4, _⟩ => rfl | ⟨5, _⟩ => rfl))
  rw [Host.reduce_eq_fold_single _ _ _ _ hd, e]
  rfl

/-- The sink of the head that owns column `j`. -/
theorem sinks (j : Fin 1024) (u v : Fin 1) (w x : Fin 1) :
    val_main_v39 (F := Ideal) sk (ix6 u v (group j) (member j) w x) = sk (ix1 ⟨j.val / 64, by omega⟩) := by
  rw [val_main_v39_apply, val_main_v38_apply]
  refine congrArg sk (funext fun a => match a with | ⟨0, _⟩ => Fin.ext ?_)
  show j.val / 256 * 4 + j.val / 64 % 4 = j.val / 64
  omega

/-- The largest of a row's scores and its sink. -/
theorem peaks (n c : Fin 32) (q : Fin 64) (j : Fin 1024) :
    val_main_v43 (F := Ideal) X K Wq sk (ix6 n c (group j) (member j) q (0 : Fin 1))
    = peak (fun l : Fin 192 => val_main_v37 (F := Ideal) X K Wq (ix6 n c (group j) (member j) q l))
      (sk (ix1 ⟨j.val / 64, by omega⟩)) := by
  have e0 : idx_main_v41 (ix6 n c (group j) (member j) q (0 : Fin 1)) = ix5 n c (group j) (member j) q :=
    funext fun a => match a with
    | ⟨0, _⟩ => rfl | ⟨1, _⟩ => rfl | ⟨2, _⟩ => rfl | ⟨3, _⟩ => rfl | ⟨4, _⟩ => rfl
  have e1 : idx_main_v42 (ix6 n c (group j) (member j) q (0 : Fin 1))
      = ix6 (0 : Fin 1) (0 : Fin 1) (group j) (member j) (0 : Fin 1) (0 : Fin 1) := funext fun a => match a with
    | ⟨0, _⟩ => rfl | ⟨1, _⟩ => rfl | ⟨2, _⟩ => rfl | ⟨3, _⟩ => rfl | ⟨4, _⟩ => rfl | ⟨5, _⟩ => rfl
  have e : val_main_v40 (F := Ideal) X K Wq (ix5 n c (group j) (member j) q) = _ :=
    reduce_max (val_main_v37 (F := Ideal) X K Wq) n c (group j) (member j) q
  rw [val_main_v43_apply, val_main_v41_apply, val_main_v42_apply, e0, e1, sinks, e]
  rfl

/-- The row's weights before normalisation. -/
theorem weights (n c : Fin 32) (q : Fin 64) (j : Fin 1024) (l : Fin 192) :
    val_main_v46 (F := Ideal) X K Wq sk (ix6 n c (group j) (member j) q l)
    = weight (fun l : Fin 192 => val_main_v37 (F := Ideal) X K Wq (ix6 n c (group j) (member j) q l))
      (sk (ix1 ⟨j.val / 64, by omega⟩)) l := by
  have e0 : idx_main_v44 (ix6 n c (group j) (member j) q l) = ix6 n c (group j) (member j) q (0 : Fin 1) :=
    funext fun a => match a with
    | ⟨0, _⟩ => rfl | ⟨1, _⟩ => rfl | ⟨2, _⟩ => rfl | ⟨3, _⟩ => rfl | ⟨4, _⟩ => rfl | ⟨5, _⟩ => rfl
  rw [val_main_v46_apply, val_main_v45_apply, val_main_v44_apply, e0, peaks]
  rfl

/-- All the weight of a row, the sink's included. -/
theorem totals (n c : Fin 32) (q : Fin 64) (j : Fin 1024) :
    val_main_v52 (F := Ideal) X K Wq sk (ix6 n c (group j) (member j) q (0 : Fin 1))
    = total (fun l : Fin 192 => val_main_v37 (F := Ideal) X K Wq (ix6 n c (group j) (member j) q l))
      (sk (ix1 ⟨j.val / 64, by omega⟩)) := by
  have e0 : ∀ l : Fin 192, idx_main_v47 (idx_main_v48 (ix6 n c (group j) (member j) q (0 : Fin 1))) l
      = ix6 n c (group j) (member j) q l := fun l => funext fun a => match a with
    | ⟨0, _⟩ => rfl | ⟨1, _⟩ => rfl | ⟨2, _⟩ => rfl | ⟨3, _⟩ => rfl | ⟨4, _⟩ => rfl | ⟨5, _⟩ => rfl
  have e1 : idx_main_v49 (ix6 n c (group j) (member j) q (0 : Fin 1))
      = ix6 (0 : Fin 1) (0 : Fin 1) (group j) (member j) (0 : Fin 1) (0 : Fin 1) := funext fun a => match a with
    | ⟨0, _⟩ => rfl | ⟨1, _⟩ => rfl | ⟨2, _⟩ => rfl | ⟨3, _⟩ => rfl | ⟨4, _⟩ => rfl | ⟨5, _⟩ => rfl
  have e2 : val_main_v47 (F := Ideal) X K Wq sk (idx_main_v48 (ix6 n c (group j) (member j) q (0 : Fin 1)))
      = ∑ l : Fin 192, weight (fun l : Fin 192 => val_main_v37 (F := Ideal) X K Wq (ix6 n c (group j) (member j) q l))
        (sk (ix1 ⟨j.val / 64, by omega⟩)) l := by
    rw [val_main_v47_apply, val_main_cst_7_apply]
    simp only [e0, weights]
    exact (congrArg (fun z : EReal => z + _) Ideal.ofBits_zero_f32).trans (zero_add _)
  rw [val_main_v52_apply, val_main_v48_apply, val_main_v51_apply, val_main_v50_apply, val_main_v49_apply, e1, sinks, peaks,
    e2]
  rfl

/-- The row's normalised weights. -/
theorem shares (n c : Fin 32) (q : Fin 64) (j : Fin 1024) (l : Fin 192) :
    val_main_v54 (F := Ideal) X K Wq sk (ix6 n c (group j) (member j) q l)
    = (fun s : Fin 192 → EReal => Ideal.div (weight s (sk (ix1 ⟨j.val / 64, by omega⟩)) l)
        (total s (sk (ix1 ⟨j.val / 64, by omega⟩))))
      (fun l => score (fun k => X (ix3 n ⟨64 * c.val + q.val, by omega⟩ k)) (fun k j => Wq (ix2 k j))
        (fun l j => K (ix3 n l j)) j ⟨64 * c.val + l.val, by omega⟩) := by
  have e0 : idx_main_v53 (ix6 n c (group j) (member j) q l) = ix6 n c (group j) (member j) q (0 : Fin 1) :=
    funext fun a => match a with
    | ⟨0, _⟩ => rfl | ⟨1, _⟩ => rfl | ⟨2, _⟩ => rfl | ⟨3, _⟩ => rfl | ⟨4, _⟩ => rfl | ⟨5, _⟩ => rfl
  rw [val_main_v54_apply, val_main_v53_apply, e0, weights, totals]
  simp only [scores]
  rfl

/-- The attention's columns. -/
theorem columns (n : Fin 32) (t : Fin 2048) (k : Fin 1024) :
    val_main_v57 (F := Ideal) X K V Wq sk (ix3 n t k)
    = column early (fun k => X (ix3 n t k)) (fun k j => Wq (ix2 k j)) (fun l j => K (ix3 n l j)) (fun l j => V (ix3 n l j))
      (fun h => sk (ix1 h)) ⟨t.val / 64, by omega⟩ k := by
  obtain ⟨c, q, rfl⟩ : ∃ (c : Fin 32) (q : Fin 64), t = ⟨64 * c.val + q.val, by omega⟩ :=
    ⟨⟨t.val / 64, by omega⟩, ⟨t.val % 64, by omega⟩, Fin.ext (by dsimp only; omega)⟩
  have hc : (⟨(⟨64 * c.val + q.val, by omega⟩ : Fin 2048).val / 64, by omega⟩ : Fin 32) = c := Fin.ext (by dsimp only; omega)
  have e : val_main_v57 (F := Ideal) X K V Wq sk (ix3 n ⟨64 * c.val + q.val, by omega⟩ k) = val_main_v56 (F := Ideal) X K V Wq sk
      (ix6 n c q (group k) (member k) (⟨k.val % 64, by omega⟩ : Fin 64)) := by
    unfold val_main_v57
    refine shapeCast_apply _ _ _ _ ?_
    rw [Shape.rowMajor_val_six, Shape.rowMajor_val_three]
    show ((((n.val * 32 + c.val) * 64 + q.val) * 4 + k.val / 256) * 4 + k.val / 64 % 4) * 64 + k.val % 64
      = (n.val * 2048 + (64 * c.val + q.val)) * 1024 + k.val
    omega
  have hl : ∀ l : Fin 192, lidx_main_v55 (idx_main_v56 (ix6 n c q (group k) (member k) (⟨k.val % 64, by omega⟩ : Fin 64))) l
      = ix5 n c l (group k) (⟨k.val % 64, by omega⟩ : Fin 64) := fun l => funext fun a => match a with
    | ⟨0, _⟩ => rfl | ⟨1, _⟩ => rfl | ⟨2, _⟩ => rfl | ⟨3, _⟩ => rfl | ⟨4, _⟩ => rfl
  have hr : ∀ l : Fin 192, ridx_main_v55 (idx_main_v56 (ix6 n c q (group k) (member k) (⟨k.val % 64, by omega⟩ : Fin 64))) l
      = ix6 n c (group k) (member k) q l := fun l => funext fun a => match a with
    | ⟨0, _⟩ => rfl | ⟨1, _⟩ => rfl | ⟨2, _⟩ => rfl | ⟨3, _⟩ => rfl | ⟨4, _⟩ => rfl | ⟨5, _⟩ => rfl
  rw [e, val_main_v56_apply, val_main_v55_apply, hc]
  unfold column early
  refine Finset.sum_congr (M := EReal) rfl fun l _ => ?_
  rw [hl, hr, values, shares]
  rfl

/-- The residual plus the attention. -/
theorem mixed (n : Fin 32) (t : Fin 2048) (j : Fin 1024) :
    val_main_v59 (F := Ideal) X K V Wq sk Wo (ix3 n t j)
    = mix (column early (fun k => X (ix3 n t k)) (fun k j => Wq (ix2 k j)) (fun l j => K (ix3 n l j))
      (fun l j => V (ix3 n l j)) (fun h => sk (ix1 h)) ⟨t.val / 64, by omega⟩) (fun k => X (ix3 n t k))
      (fun k j => Wo (ix2 k j)) j := by
  have hc := columns X K V Wq sk n t
  unfold val_main_v59 val_main_v58 val_main_v3 val_main_v2 val_main_cst
  generalize val_main_v57 (F := Ideal) X K V Wq sk = w at hc
  pointwise
  simp only [hc]
  rfl

/-- The reference's result. -/
theorem result (i : S32x2048x1024.Idx) :
    val_main_v83 (F := Ideal) X K V Wq sk Wo g b i = block early X K V Wq sk Wo g b (i 0) (i 1) (i 2) := by
  obtain ⟨n, t, j, rfl⟩ : ∃ (n : Fin 32) (t : Fin 2048) (j : Fin 1024), i = ix3 n t j :=
    ⟨i 0, i 1, i 2, funext fun a => match a with | ⟨0, _⟩ => rfl | ⟨1, _⟩ => rfl | ⟨2, _⟩ => rfl⟩
  have hm := mixed X K V Wq Wo sk n t
  unfold val_main_v83 val_main_v82 val_main_v81 val_main_v80 val_main_v79 val_main_v78 val_main_v77 val_main_v76
    val_main_v75 val_main_v74 val_main_v73 val_main_v72 val_main_v71 val_main_v70 val_main_v69 val_main_v68 val_main_v67
    val_main_v66 val_main_v65 val_main_v64 val_main_v63 val_main_v62 val_main_v61 val_main_v60 val_main_cst_8
    val_main_cst_9 val_main_cst_10 val_main_cst_11 val_main_cst_12
  generalize val_main_v59 (F := Ideal) X K V Wq sk Wo = w at hm
  pointwise
  simp only [hm]
  rfl

end Cert.SwaIdeal.RefValue
-- ==== Proof.SwaClaim.lean ====
/-
  The windowed attention's claims: with finite keys, query weights and sinks the two orders of normalising agree,
  so the kernel's result is the reference's.
-/
module

public import proofs.«01_k».proof.Defs
public import proofs.«01_k».proof.Proof.Gen.Pre_finite_window
public import proofs.«01_k».proof.Proof.SwaResult
public import proofs.«01_k».proof.Proof.SwaRefValue
public import Idealize.ShloMosaic.Lib.ReduceAll

@[expose] public section

set_option maxRecDepth 16384

noncomputable section

open Idealize.ShloMosaic Idealize.ShloMosaic.TcCoe Idealize.SL.Sem

namespace Cert.SwaIdeal.RefValue

open Cert.AttIdeal.RefValue (Fin' fin_of_abs)

/-- What the precondition says of the keys, the query weights and the sinks. -/
theorem finite_of (a0 a1 a2 a3 a4 a5 a6 a7)
    (h : Cert.Pre_finite_window.fn (F := Ideal) a0 a1 a2 a3 a4 a5 a6 a7 = fun _ => 1#1) :
    (∀ i, Fin' (a1 i)) ∧ (∀ i, Fin' (a3 i)) ∧ ∀ i, Fin' (a4 i) := by
  have h' := congrFun h (Shape.Idx.first Cert.Pre_finite_window.Facts.h_S_)
  dsimp only [Cert.Pre_finite_window.fn] at h'
  obtain ⟨h13, h4⟩ := IntOp.andi_eq_one.1 h'
  obtain ⟨h1, h3⟩ := IntOp.andi_eq_one.1 h13
  exact ⟨fun i => fin_of_abs (Host.reduce_andi_all _ _ _ _ _ h1 i),
    fun i => fin_of_abs (Host.reduce_andi_all _ _ _ _ _ h3 i), fun i => fin_of_abs (Host.reduce_andi_all _ _ _ _ _ h4 i)⟩

/-- Equal arguments give equal results. -/
theorem block_args {X X' : (⟨3, ![32, 2048, 1024]⟩ : Shape).Idx → EReal}
    {K K' V V' : (⟨3, ![32, 2176, 256]⟩ : Shape).Idx → EReal} {Wq Wq' Wo Wo' : (⟨2, ![1024, 1024]⟩ : Shape).Idx → EReal}
    {sk sk' : (⟨1, ![16]⟩ : Shape).Idx → EReal} {g g' b b' : (⟨1, ![1024]⟩ : Shape).Idx → EReal} (e0 : X = X')
    (e1 : K = K') (e2 : V = V') (e3 : Wq = Wq') (e4 : sk = sk') (e5 : Wo = Wo') (e6 : g = g') (e7 : b = b')
    (n : Fin 32) (t : Fin 2048) (j : Fin 1024) :
    block early X K V Wq sk Wo g b n t j = block early X' K' V' Wq' sk' Wo' g' b' n t j := by
  rw [e0, e1, e2, e3, e4, e5, e6, e7]

/-! ## The claims -/

/-- The reference's frame. -/
theorem frameRef : Cert.quiescent_SwaRefIdeal := by
  intro m g _
  refine (θ_run _ _ _).mono (fun r h => ⟨fun c => (h c).2, sem_eq_zero_of_no_sems (by decide) r.2⟩)
    (Cert.SwaRefIdeal.Value.run m g)

/-- The reference's frame under the precondition. -/
theorem frameRefFinite : Cert.quiescent_SwaRefIdeal_pre_finite_window := by
  intro m g _
  refine (θ_run _ _ _).mono (fun r h => ⟨fun c => (h c).2, sem_eq_zero_of_no_sems (by decide) r.2⟩)
    (Cert.SwaRefIdeal.Value.run m g)

/-- The kernel's result is the reference's. -/
theorem algebraic : Cert.algebraic_SwaIdeal_SwaRefIdeal_pre_finite_window := by
  intro m g m' g' hp he
  refine ⟨fun c => (Cert.SwaIdeal.Gen.dats m 0 c).arrAt 8 (Cert.SwaIdeal.cfgs 0).N, ?_, ?_⟩
  · refine (θ_run _ _ _).mono (fun r h c => ?_) (Cert.SwaIdeal.Value.run_blocks m g)
    exact h c
  · refine (θ_run _ _ _).mono (fun r h c => ?_) (Cert.SwaRefIdeal.Value.run m' g')
    obtain ⟨e0, e1, e2, e3, e4, e5, e6, e7⟩ := he c
    refine ⟨(h c).1.trans ?_, (h c).2⟩
    obtain ⟨f1, f3, f4⟩ := finite_of _ _ _ _ _ _ _ _ (hp c)
    beta_reduce
    rw [final8, Cert.SwaRefIdeal.Read.val_main_v83_eq]
    funext i
    refine (result _ _ _ _ _ _ _ _ i).trans (Eq.trans ?_ (block_eq f1 f3 f4 _ _ _ _ _ _ _).symm)
    exact block_args e0 e1 e2 e3 e4 e5 e6 e7 _ _ _

end Cert.SwaIdeal.RefValue
-- ==== Proof.lean ====
module

public import proofs.«01_k».proof.Defs
public import proofs.«01_k».proof.Proof.Gen.Kv
public import proofs.«01_k».proof.Proof.Gen.Kv.Frame
public import proofs.«01_k».proof.Proof.Gen.KvIdeal
public import proofs.«01_k».proof.Proof.Gen.KvIdeal.Frame
public import proofs.«01_k».proof.Proof.Gen.KvRefIdeal
public import proofs.«01_k».proof.Proof.Gen.KvIdeal.Value
public import proofs.«01_k».proof.Proof.Gen.KvRefIdeal.Read
public import proofs.«01_k».proof.Proof.KvClaim
public import proofs.«01_k».proof.Proof.Gen.Att
public import proofs.«01_k».proof.Proof.Gen.Att.Skeleton
public import proofs.«01_k».proof.Proof.Gen.Att.Launch
public import proofs.«01_k».proof.Proof.Gen.Att.Points
public import proofs.«01_k».proof.Proof.Gen.Att.Frame
public import proofs.«01_k».proof.Proof.Gen.AttIdeal
public import proofs.«01_k».proof.Proof.Gen.AttIdeal.Skeleton
public import proofs.«01_k».proof.Proof.Gen.AttIdeal.Launch
public import proofs.«01_k».proof.Proof.Gen.AttIdeal.Points
public import proofs.«01_k».proof.Proof.Gen.AttIdeal.Frame
public import proofs.«01_k».proof.Proof.Gen.AttRefIdeal
public import proofs.«01_k».proof.Proof.Gen.AttIdeal.Value
public import proofs.«01_k».proof.Proof.Gen.AttRefIdeal.Read
public import proofs.«01_k».proof.Proof.Gen.Gla
public import proofs.«01_k».proof.Proof.Gen.Gla.Skeleton
public import proofs.«01_k».proof.Proof.Gen.Gla.Launch
public import proofs.«01_k».proof.Proof.Gen.Gla.Points
public import proofs.«01_k».proof.Proof.Gen.Gla.Frame
public import proofs.«01_k».proof.Proof.Gen.GlaIdeal
public import proofs.«01_k».proof.Proof.Gen.GlaIdeal.Skeleton
public import proofs.«01_k».proof.Proof.Gen.GlaIdeal.Launch
public import proofs.«01_k».proof.Proof.Gen.GlaIdeal.Points
public import proofs.«01_k».proof.Proof.Gen.GlaIdeal.Frame
public import proofs.«01_k».proof.Proof.Gen.GlaRefIdeal
public import proofs.«01_k».proof.Proof.Gen.GlaIdeal.Value
public import proofs.«01_k».proof.Proof.Gen.GlaRefIdeal.Read
public import proofs.«01_k».proof.Proof.Gen.Swa
public import proofs.«01_k».proof.Proof.Gen.Swa.Skeleton
public import proofs.«01_k».proof.Proof.Gen.Swa.Launch
public import proofs.«01_k».proof.Proof.Gen.Swa.Points
public import proofs.«01_k».proof.Proof.Gen.Swa.Frame
public import proofs.«01_k».proof.Proof.Gen.SwaIdeal
public import proofs.«01_k».proof.Proof.Gen.SwaIdeal.Skeleton
public import proofs.«01_k».proof.Proof.Gen.SwaIdeal.Launch
public import proofs.«01_k».proof.Proof.Gen.SwaIdeal.Points
public import proofs.«01_k».proof.Proof.Gen.SwaIdeal.Frame
public import proofs.«01_k».proof.Proof.Gen.SwaRefIdeal
public import proofs.«01_k».proof.Proof.Gen.SwaIdeal.Value
public import proofs.«01_k».proof.Proof.Gen.SwaRefIdeal.Read
public import proofs.«01_k».proof.Proof.Gen.Pre_finite_window
public import proofs.«01_k».proof.Proof.Gen.Ex
public import proofs.«01_k».proof.Proof.Gen.Ex.Skeleton
public import proofs.«01_k».proof.Proof.Gen.Ex.Launch
public import proofs.«01_k».proof.Proof.Gen.ExIdeal
public import proofs.«01_k».proof.Proof.Gen.ExIdeal.Skeleton
public import proofs.«01_k».proof.Proof.Gen.ExIdeal.Launch
public import proofs.«01_k».proof.Proof.Gen.ExRefIdeal
public import proofs.«01_k».proof.Proof.Gen.ExRefIdeal.Read
public import proofs.«01_k».proof.Proof.Gen.Pre_tables
public import proofs.«01_k».proof.Proof.Gen.Pre_finite
public import proofs.«01_k».proof.Proof.Gen.On_used_blocks
public import proofs.«01_k».proof.Proof.ExFrame
public import proofs.«01_k».proof.Proof.ExIdealFrame
public import proofs.«01_k».proof.Proof.ExClaim
public import proofs.«01_k».proof.Proof.AttClaim
public import proofs.«01_k».proof.Proof.GlaClaim
public import proofs.«01_k».proof.Proof.SwaClaim
public import Idealize.ShloMosaic.Adequacy
public import Idealize.ShloMosaic.Init

@[expose] public section

noncomputable section

namespace Cert.Proof

open Idealize.ShloMosaic Idealize.SL.Sem

theorem claim : Cert.Claim := ⟨Cert.Kv.Gen.facts, Cert.KvIdeal.Gen.facts, Cert.KvRefIdeal.Gen.facts, Cert.Ex.Gen.facts, Cert.ExIdeal.Gen.facts, Cert.ExRefIdeal.Gen.facts,
  Cert.Att.Gen.facts, Cert.AttIdeal.Gen.facts, Cert.AttRefIdeal.Gen.facts, Cert.Gla.Gen.facts, Cert.GlaIdeal.Gen.facts, Cert.GlaRefIdeal.Gen.facts,
  Cert.Swa.Gen.facts, Cert.SwaIdeal.Gen.facts, Cert.SwaRefIdeal.Gen.facts,
  Cert.Pre_tables.Gen.facts, Cert.Pre_finite.Gen.facts, Cert.Pre_finite_window.Gen.facts, Cert.On_used_blocks.Gen.facts,
  fun m ρ _ => Cert.Kv.Gen.frame m ρ,
  fun m ρ _ => Cert.KvIdeal.Gen.frame m ρ,
  Cert.KvIdeal.RefValue.frameRef,
  Cert.ExIdeal.RefValue.frameKernel,
  Cert.ExIdeal.RefValue.frameIdeal,
  Cert.ExIdeal.RefValue.frameRef,
  Cert.ExIdeal.RefValue.frameRefTables,
  fun m ρ _ => Cert.Att.Gen.frame m ρ,
  fun m ρ _ => Cert.AttIdeal.Gen.frame m ρ,
  fun m ρ _ => Cert.AttIdeal.Gen.frame m ρ,
  Cert.AttIdeal.RefValue.frameRef,
  Cert.AttIdeal.RefValue.frameRefFinite,
  fun m ρ _ => Cert.Gla.Gen.frame m ρ,
  fun m ρ _ => Cert.GlaIdeal.Gen.frame m ρ,
  Cert.GlaIdeal.RefValue.frameRef,
  fun m ρ _ => Cert.Swa.Gen.frame m ρ,
  fun m ρ _ => Cert.SwaIdeal.Gen.frame m ρ,
  fun m ρ _ => Cert.SwaIdeal.Gen.frame m ρ,
  Cert.SwaIdeal.RefValue.frameRef,
  Cert.SwaIdeal.RefValue.frameRefFinite,
  trivial,
  Cert.KvIdeal.RefValue.algebraic,
  trivial,
  Cert.ExIdeal.RefValue.algebraic,
  trivial,
  Cert.AttIdeal.RefValue.algebraic,
  trivial,
  Cert.GlaIdeal.RefValue.algebraic,
  IdealRules.named_const.statement Cert.SwaIdeal.κ "mask" .f32 0xF149F2CA#32 ⊥ rfl,
  Cert.SwaIdeal.RefValue.algebraic⟩

end Cert.Proof

end
